-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite7 [hPre_finite7 : Cert.Pre_finite7.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite7.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite19 [hPre_finite19 : Cert.Pre_finite19.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite19.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite7 [hReference8Ideal : Cert.Reference8Ideal.Facts] [hPre_finite7 : Cert.Pre_finite7.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite7 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Reference20Ideal_pre_finite19 [hReference20Ideal : Cert.Reference20Ideal.Facts] [hPre_finite19 : Cert.Pre_finite19.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite19 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def algebraic_Kernel4Ideal_Reference6Ideal [hKernel4Ideal : Cert.Kernel4Ideal.Facts] [hReference6Ideal : Cert.Reference6Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel4Ideal m →
    (∀ c : Dev Cert.Kernel4Ideal.nD,
      m' ((c.tc : Thread Cert.Reference6Ideal.nD Cert.Reference6Ideal.τ).loc Cert.Reference6Ideal.main_arg0) = m ((c.tc : Thread Cert.Kernel4Ideal.nD Cert.Kernel4Ideal.τ).loc Cert.Kernel4Ideal.main_arg0)
      ∧ m' ((c.tc : Thread Cert.Reference6Ideal.nD Cert.Reference6Ideal.τ).loc Cert.Reference6Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel6_Kernel6Ideal : Prop :=
  True

def algebraic_Kernel6Ideal_Reference7Ideal [hKernel6Ideal : Cert.Kernel6Ideal.Facts] [hReference7Ideal : Cert.Reference7Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel6Ideal m →
    (∀ c : Dev Cert.Kernel6Ideal.nD,
      m' ((c.tc : Thread Cert.Reference7Ideal.nD Cert.Reference7Ideal.τ).loc Cert.Reference7Ideal.main_arg0) = m ((c.tc : Thread Cert.Kernel6Ideal.nD Cert.Kernel6Ideal.τ).loc Cert.Kernel6Ideal.main_arg0)
      ∧ m' ((c.tc : Thread Cert.Reference7Ideal.nD Cert.Reference7Ideal.τ).loc Cert.Reference7Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel7_Kernel7Ideal : Prop :=
  True

def algebraic_Kernel7Ideal_Reference8Ideal_pre_finite7 [hKernel7Ideal : Cert.Kernel7Ideal.Facts] [hReference8Ideal : Cert.Reference8Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel7Ideal_finite7 m →
    (∀ c : Dev Cert.Kernel7Ideal.nD,
      m' ((c.tc : Thread Cert.Reference8Ideal.nD Cert.Reference8Ideal.τ).loc Cert.Reference8Ideal.main_arg0) = m ((c.tc : Thread Cert.Kernel7Ideal.nD Cert.Kernel7Ideal.τ).loc Cert.Kernel7Ideal.main_arg0)
      ∧ m' ((c.tc : Thread Cert.Reference8Ideal.nD Cert.Reference8Ideal.τ).loc Cert.Reference8Ideal.main_arg1) = m ((c.tc : Thread Cert.Kernel7Ideal.nD Cert.Kernel7Ideal.τ).loc Cert.Kernel7Ideal.main_arg1)
      ∧ m' ((c.tc : Thread Cert.Reference8Ideal.nD Cert.Reference8Ideal.τ).loc Cert.Reference8Ideal.main_arg2) = m ((c.tc : Thread Cert.Kernel7Ideal.nD Cert.Kernel7Ideal.τ).loc Cert.Kernel7Ideal.main_arg2)
      ∧ m' ((c.tc : Thread Cert.Reference8Ideal.nD Cert.Reference8Ideal.τ).loc Cert.Reference8Ideal.main_arg3) = m ((c.tc : Thread Cert.Kernel7Ideal.nD Cert.Kernel7Ideal.τ).loc Cert.Kernel7Ideal.main_arg3)
      ∧ m' ((c.tc : Thread Cert.Reference8Ideal.nD Cert.Reference8Ideal.τ).loc Cert.Reference8Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel8_Kernel8Ideal : Prop :=
  True

def algebraic_Kernel8Ideal_Reference9Ideal [hKernel8Ideal : Cert.Kernel8Ideal.Facts] [hReference9Ideal : Cert.Reference9Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel8Ideal m →
    (∀ c : Dev Cert.Kernel8Ideal.nD,
      m' ((c.tc : Thread Cert.Reference9Ideal.nD Cert.Reference9Ideal.τ).loc Cert.Reference9Ideal.main_arg0) = m ((c.tc : Thread Cert.Kernel8Ideal.nD Cert.Kernel8Ideal.τ).loc Cert.Kernel8Ideal.main_arg0)
      ∧ m' ((c.tc : Thread Cert.Reference9Ideal.nD Cert.Reference9Ideal.τ).loc Cert.Reference9Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel9_Kernel9Ideal : Prop :=
  True

def algebraic_Kernel9Ideal_Reference10Ideal [hKernel9Ideal : Cert.Kernel9Ideal.Facts] [hReference10Ideal : Cert.Reference10Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel9Ideal m →
    (∀ c : Dev Cert.Kernel9Ideal.nD,
      m' ((c.tc : Thread Cert.Reference10Ideal.nD Cert.Reference10Ideal.τ).loc Cert.Reference10Ideal.main_arg0) = m ((c.tc : Thread Cert.Kernel9Ideal.nD Cert.Kernel9Ideal.τ).loc Cert.Kernel9Ideal.main_arg0)
      ∧ m' ((c.tc : Thread Cert.Reference10Ideal.nD Cert.Reference10Ideal.τ).loc Cert.Reference10Ideal.main_arg1) = m ((c.tc : Thread Cert.Kernel9Ideal.nD Cert.Kernel9Ideal.τ).loc Cert.Kernel9Ideal.main_arg1)
      ∧ m' ((c.tc : Thread Cert.Reference10Ideal.nD Cert.Reference10Ideal.τ).loc Cert.Reference10Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel10_Kernel10Ideal : Prop :=
  True

def algebraic_Kernel10Ideal_Reference11Ideal [hKernel10Ideal : Cert.Kernel10Ideal.Facts] [hReference11Ideal : Cert.Reference11Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel10Ideal m →
    (∀ c : Dev Cert.Kernel10Ideal.nD,
      m' ((c.tc : Thread Cert.Reference11Ideal.nD Cert.Reference11Ideal.τ).loc Cert.Reference11Ideal.main_arg0) = m ((c.tc : Thread Cert.Kernel10Ideal.nD Cert.Kernel10Ideal.τ).loc Cert.Kernel10Ideal.main_arg0)
      ∧ m' ((c.tc : Thread Cert.Reference11Ideal.nD Cert.Reference11Ideal.τ).loc Cert.Reference11Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel11_Kernel11Ideal : Prop :=
  True

def algebraic_Kernel11Ideal_Reference12Ideal [hKernel11Ideal : Cert.Kernel11Ideal.Facts] [hReference12Ideal : Cert.Reference12Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel11Ideal m →
    (∀ c : Dev Cert.Kernel11Ideal.nD,
      m' ((c.tc : Thread Cert.Reference12Ideal.nD Cert.Reference12Ideal.τ).loc Cert.Reference12Ideal.main_arg0) = m ((c.tc : Thread Cert.Kernel11Ideal.nD Cert.Kernel11Ideal.τ).loc Cert.Kernel11Ideal.main_arg0)
      ∧ m' ((c.tc : Thread Cert.Reference12Ideal.nD Cert.Reference12Ideal.τ).loc Cert.Reference12Ideal.main_arg1) = m ((c.tc : Thread Cert.Kernel11Ideal.nD Cert.Kernel11Ideal.τ).loc Cert.Kernel11Ideal.main_arg1)
      ∧ m' ((c.tc : Thread Cert.Reference12Ideal.nD Cert.Reference12Ideal.τ).loc Cert.Reference12Ideal.main_arg2) = m ((c.tc : Thread Cert.Kernel11Ideal.nD Cert.Kernel11Ideal.τ).loc Cert.Kernel11Ideal.main_arg2)
      ∧ m' ((c.tc : Thread Cert.Reference12Ideal.nD Cert.Reference12Ideal.τ).loc Cert.Reference12Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel12_Kernel12Ideal : Prop :=
  True

def algebraic_Kernel12Ideal_Reference13Ideal [hKernel12Ideal : Cert.Kernel12Ideal.Facts] [hReference13Ideal : Cert.Reference13Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel12Ideal m →
    (∀ c : Dev Cert.Kernel12Ideal.nD,
      m' ((c.tc : Thread Cert.Reference13Ideal.nD Cert.Reference13Ideal.τ).loc Cert.Reference13Ideal.main_arg0) = m ((c.tc : Thread Cert.Kernel12Ideal.nD Cert.Kernel12Ideal.τ).loc Cert.Kernel12Ideal.main_arg0)
      ∧ m' ((c.tc : Thread Cert.Reference13Ideal.nD Cert.Reference13Ideal.τ).loc Cert.Reference13Ideal.main_arg1) = m ((c.tc : Thread Cert.Kernel12Ideal.nD Cert.Kernel12Ideal.τ).loc Cert.Kernel12Ideal.main_arg1)
      ∧ m' ((c.tc : Thread Cert.Reference13Ideal.nD Cert.Reference13Ideal.τ).loc Cert.Reference13Ideal.main_arg2) = m ((c.tc : Thread Cert.Kernel12Ideal.nD Cert.Kernel12Ideal.τ).loc Cert.Kernel12Ideal.main_arg2)
      ∧ m' ((c.tc : Thread Cert.Reference13Ideal.nD Cert.Reference13Ideal.τ).loc Cert.Reference13Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel13_Kernel13Ideal : Prop :=
  True

def algebraic_Kernel13Ideal_Reference14Ideal [hKernel13Ideal : Cert.Kernel13Ideal.Facts] [hReference14Ideal : Cert.Reference14Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel13Ideal m →
    (∀ c : Dev Cert.Kernel13Ideal.nD,
      m' ((c.tc : Thread Cert.Reference14Ideal.nD Cert.Reference14Ideal.τ).loc Cert.Reference14Ideal.main_arg0) = m ((c.tc : Thread Cert.Kernel13Ideal.nD Cert.Kernel13Ideal.τ).loc Cert.Kernel13Ideal.main_arg0)
      ∧ m' ((c.tc : Thread Cert.Reference14Ideal.nD Cert.Reference14Ideal.τ).loc Cert.Reference14Ideal.main_arg1) = m ((c.tc : Thread Cert.Kernel13Ideal.nD Cert.Kernel13Ideal.τ).loc Cert.Kernel13Ideal.main_arg1)
      ∧ m' ((c.tc : Thread Cert.Reference14Ideal.nD Cert.Reference14Ideal.τ).loc Cert.Reference14Ideal.main_arg2) = m ((c.tc : Thread Cert.Kernel13Ideal.nD Cert.Kernel13Ideal.τ).loc Cert.Kernel13Ideal.main_arg2)
      ∧ m' ((c.tc : Thread Cert.Reference14Ideal.nD Cert.Reference14Ideal.τ).loc Cert.Reference14Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel14_Kernel14Ideal : Prop :=
  True

def algebraic_Kernel14Ideal_Reference15Ideal [hKernel14Ideal : Cert.Kernel14Ideal.Facts] [hReference15Ideal : Cert.Reference15Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel14Ideal m →
    (∀ c : Dev Cert.Kernel14Ideal.nD,
      m' ((c.tc : Thread Cert.Reference15Ideal.nD Cert.Reference15Ideal.τ).loc Cert.Reference15Ideal.main_arg0) = m ((c.tc : Thread Cert.Kernel14Ideal.nD Cert.Kernel14Ideal.τ).loc Cert.Kernel14Ideal.main_arg0)
      ∧ m' ((c.tc : Thread Cert.Reference15Ideal.nD Cert.Reference15Ideal.τ).loc Cert.Reference15Ideal.main_arg1) = m ((c.tc : Thread Cert.Kernel14Ideal.nD Cert.Kernel14Ideal.τ).loc Cert.Kernel14Ideal.main_arg1)
      ∧ m' ((c.tc : Thread Cert.Reference15Ideal.nD Cert.Reference15Ideal.τ).loc Cert.Reference15Ideal.main_arg2) = m ((c.tc : Thread Cert.Kernel14Ideal.nD Cert.Kernel14Ideal.τ).loc Cert.Kernel14Ideal.main_arg2)
      ∧ m' ((c.tc : Thread Cert.Reference15Ideal.nD Cert.Reference15Ideal.τ).loc Cert.Reference15Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel15_Kernel15Ideal : Prop :=
  True

def algebraic_Kernel15Ideal_Reference16Ideal [hKernel15Ideal : Cert.Kernel15Ideal.Facts] [hReference16Ideal : Cert.Reference16Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel15Ideal m →
    (∀ c : Dev Cert.Kernel15Ideal.nD,
      m' ((c.tc : Thread Cert.Reference16Ideal.nD Cert.Reference16Ideal.τ).loc Cert.Reference16Ideal.main_arg0) = m ((c.tc : Thread Cert.Kernel15Ideal.nD Cert.Kernel15Ideal.τ).loc Cert.Kernel15Ideal.main_arg0)
      ∧ m' ((c.tc : Thread Cert.Reference16Ideal.nD Cert.Reference16Ideal.τ).loc Cert.Reference16Ideal.main_arg1) = m ((c.tc : Thread Cert.Kernel15Ideal.nD Cert.Kernel15Ideal.τ).loc Cert.Kernel15Ideal.main_arg1)
      ∧ m' ((c.tc : Thread Cert.Reference16Ideal.nD Cert.Reference16Ideal.τ).loc Cert.Reference16Ideal.main_arg2) = m ((c.tc : Thread Cert.Kernel15Ideal.nD Cert.Kernel15Ideal.τ).loc Cert.Kernel15Ideal.main_arg2)
      ∧ m' ((c.tc : Thread Cert.Reference16Ideal.nD Cert.Reference16Ideal.τ).loc Cert.Reference16Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel16_Kernel16Ideal : Prop :=
  True

def algebraic_Kernel16Ideal_Reference17Ideal [hKernel16Ideal : Cert.Kernel16Ideal.Facts] [hReference17Ideal : Cert.Reference17Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel16Ideal m →
    (∀ c : Dev Cert.Kernel16Ideal.nD,
      m' ((c.tc : Thread Cert.Reference17Ideal.nD Cert.Reference17Ideal.τ).loc Cert.Reference17Ideal.main_arg0) = m ((c.tc : Thread Cert.Kernel16Ideal.nD Cert.Kernel16Ideal.τ).loc Cert.Kernel16Ideal.main_arg0)
      ∧ m' ((c.tc : Thread Cert.Reference17Ideal.nD Cert.Reference17Ideal.τ).loc Cert.Reference17Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel17_Kernel17Ideal : Prop :=
  True

def algebraic_Kernel17Ideal_Reference18Ideal [hKernel17Ideal : Cert.Kernel17Ideal.Facts] [hReference18Ideal : Cert.Reference18Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel17Ideal m →
    (∀ c : Dev Cert.Kernel17Ideal.nD,
      m' ((c.tc : Thread Cert.Reference18Ideal.nD Cert.Reference18Ideal.τ).loc Cert.Reference18Ideal.main_arg0) = m ((c.tc : Thread Cert.Kernel17Ideal.nD Cert.Kernel17Ideal.τ).loc Cert.Kernel17Ideal.main_arg0)
      ∧ m' ((c.tc : Thread Cert.Reference18Ideal.nD Cert.Reference18Ideal.τ).loc Cert.Reference18Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel18_Kernel18Ideal : Prop :=
  True

def algebraic_Kernel18Ideal_Reference19Ideal [hKernel18Ideal : Cert.Kernel18Ideal.Facts] [hReference19Ideal : Cert.Reference19Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel18Ideal m →
    (∀ c : Dev Cert.Kernel18Ideal.nD,
      m' ((c.tc : Thread Cert.Reference19Ideal.nD Cert.Reference19Ideal.τ).loc Cert.Reference19Ideal.main_arg0) = m ((c.tc : Thread Cert.Kernel18Ideal.nD Cert.Kernel18Ideal.τ).loc Cert.Kernel18Ideal.main_arg0)
      ∧ m' ((c.tc : Thread Cert.Reference19Ideal.nD Cert.Reference19Ideal.τ).loc Cert.Reference19Ideal.main_arg1) = m ((c.tc : Thread Cert.Kernel18Ideal.nD Cert.Kernel18Ideal.τ).loc Cert.Kernel18Ideal.main_arg1)
      ∧ m' ((c.tc : Thread Cert.Reference19Ideal.nD Cert.Reference19Ideal.τ).loc Cert.Reference19Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_v15) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel19_Kernel19Ideal : Prop :=
  True

def algebraic_Kernel19Ideal_Reference20Ideal_pre_finite19 [hKernel19Ideal : Cert.Kernel19Ideal.Facts] [hReference20Ideal : Cert.Reference20Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel19Ideal_finite19 m →
    (∀ c : Dev Cert.Kernel19Ideal.nD,
      m' ((c.tc : Thread Cert.Reference20Ideal.nD Cert.Reference20Ideal.τ).loc Cert.Reference20Ideal.main_arg0) = m ((c.tc : Thread Cert.Kernel19Ideal.nD Cert.Kernel19Ideal.τ).loc Cert.Kernel19Ideal.main_arg0)
      ∧ m' ((c.tc : Thread Cert.Reference20Ideal.nD Cert.Reference20Ideal.τ).loc Cert.Reference20Ideal.main_arg1) = m ((c.tc : Thread Cert.Kernel19Ideal.nD Cert.Kernel19Ideal.τ).loc Cert.Kernel19Ideal.main_arg1)
      ∧ m' ((c.tc : Thread Cert.Reference20Ideal.nD Cert.Reference20Ideal.τ).loc Cert.Reference20Ideal.main_arg2) = m ((c.tc : Thread Cert.Kernel19Ideal.nD Cert.Kernel19Ideal.τ).loc Cert.Kernel19Ideal.main_arg2)
      ∧ m' ((c.tc : Thread Cert.Reference20Ideal.nD Cert.Reference20Ideal.τ).loc Cert.Reference20Ideal.main_arg3) = m ((c.tc : Thread Cert.Kernel19Ideal.nD Cert.Kernel19Ideal.τ).loc Cert.Kernel19Ideal.main_arg3)
      ∧ m' ((c.tc : Thread Cert.Reference20Ideal.nD Cert.Reference20Ideal.τ).loc Cert.Reference20Ideal.main_arg4) = m ((c.tc : Thread Cert.Kernel19Ideal.nD Cert.Kernel19Ideal.τ).loc Cert.Kernel19Ideal.main_arg4)
      ∧ m' ((c.tc : Thread Cert.Reference20Ideal.nD Cert.Reference20Ideal.τ).loc Cert.Reference20Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v82) = v0 c
          ∧ r.2.mem ((c.tc : Thread Cert.Reference20Ideal.nD Cert.Reference20Ideal.τ).loc Cert.Reference20Ideal.main_v83) = v1 c
          ∧ r.2.mem ((c.tc : Thread Cert.Reference20Ideal.nD Cert.Reference20Ideal.τ).loc Cert.Reference20Ideal.main_v84) = v2 c
          ∧ r.2.mem ((c.tc : Thread Cert.Reference20Ideal.nD Cert.Reference20Ideal.τ).loc Cert.Reference20Ideal.main_v85) = v3 c
          ∧ r.2.mem ((c.tc : Thread Cert.Reference20Ideal.nD Cert.Reference20Ideal.τ).loc Cert.Reference20Ideal.main_v86) = v4 c
          ∧ r.2.mem ((c.tc : Thread Cert.Reference20Ideal.nD Cert.Reference20Ideal.τ).loc Cert.Reference20Ideal.main_v87) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hReference6Ideal : Cert.Reference6Ideal.Facts) (hKernel6 : Cert.Kernel6.Facts) (hKernel6Ideal : Cert.Kernel6Ideal.Facts) (hReference7Ideal : Cert.Reference7Ideal.Facts) (hKernel7 : Cert.Kernel7.Facts) (hKernel7Ideal : Cert.Kernel7Ideal.Facts) (hReference8Ideal : Cert.Reference8Ideal.Facts) (hKernel8 : Cert.Kernel8.Facts) (hKernel8Ideal : Cert.Kernel8Ideal.Facts) (hReference9Ideal : Cert.Reference9Ideal.Facts) (hKernel9 : Cert.Kernel9.Facts) (hKernel9Ideal : Cert.Kernel9Ideal.Facts) (hReference10Ideal : Cert.Reference10Ideal.Facts) (hKernel10 : Cert.Kernel10.Facts) (hKernel10Ideal : Cert.Kernel10Ideal.Facts) (hReference11Ideal : Cert.Reference11Ideal.Facts) (hKernel11 : Cert.Kernel11.Facts) (hKernel11Ideal : Cert.Kernel11Ideal.Facts) (hReference12Ideal : Cert.Reference12Ideal.Facts) (hKernel12 : Cert.Kernel12.Facts) (hKernel12Ideal : Cert.Kernel12Ideal.Facts) (hReference13Ideal : Cert.Reference13Ideal.Facts) (hKernel13 : Cert.Kernel13.Facts) (hKernel13Ideal : Cert.Kernel13Ideal.Facts) (hReference14Ideal : Cert.Reference14Ideal.Facts) (hKernel14 : Cert.Kernel14.Facts) (hKernel14Ideal : Cert.Kernel14Ideal.Facts) (hReference15Ideal : Cert.Reference15Ideal.Facts) (hKernel15 : Cert.Kernel15.Facts) (hKernel15Ideal : Cert.Kernel15Ideal.Facts) (hReference16Ideal : Cert.Reference16Ideal.Facts) (hKernel16 : Cert.Kernel16.Facts) (hKernel16Ideal : Cert.Kernel16Ideal.Facts) (hReference17Ideal : Cert.Reference17Ideal.Facts) (hKernel17 : Cert.Kernel17.Facts) (hKernel17Ideal : Cert.Kernel17Ideal.Facts) (hReference18Ideal : Cert.Reference18Ideal.Facts) (hKernel18 : Cert.Kernel18.Facts) (hKernel18Ideal : Cert.Kernel18Ideal.Facts) (hReference19Ideal : Cert.Reference19Ideal.Facts) (hKernel19 : Cert.Kernel19.Facts) (hKernel19Ideal : Cert.Kernel19Ideal.Facts) (hReference20Ideal : Cert.Reference20Ideal.Facts) (hPre_finite2 : Cert.Pre_finite2.Facts) (hPre_finite3 : Cert.Pre_finite3.Facts) (hPre_finite7 : Cert.Pre_finite7.Facts) (hPre_finite19 : Cert.Pre_finite19.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference6Ideal (hReference6Ideal := hReference6Ideal)
    ∧ quiescent_Kernel6 (hKernel6 := hKernel6)
    ∧ quiescent_Kernel6Ideal (hKernel6Ideal := hKernel6Ideal)
    ∧ quiescent_Reference7Ideal (hReference7Ideal := hReference7Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference8Ideal (hReference8Ideal := hReference8Ideal)
    ∧ quiescent_Reference8Ideal_pre_finite7 (hReference8Ideal := hReference8Ideal) (hPre_finite7 := hPre_finite7)
    ∧ quiescent_Kernel8 (hKernel8 := hKernel8)
    ∧ quiescent_Kernel8Ideal (hKernel8Ideal := hKernel8Ideal)
    ∧ quiescent_Reference9Ideal (hReference9Ideal := hReference9Ideal)
    ∧ quiescent_Kernel9 (hKernel9 := hKernel9)
    ∧ quiescent_Kernel9Ideal (hKernel9Ideal := hKernel9Ideal)
    ∧ quiescent_Reference10Ideal (hReference10Ideal := hReference10Ideal)
    ∧ quiescent_Kernel10 (hKernel10 := hKernel10)
    ∧ quiescent_Kernel10Ideal (hKernel10Ideal := hKernel10Ideal)
    ∧ quiescent_Reference11Ideal (hReference11Ideal := hReference11Ideal)
    ∧ quiescent_Kernel11 (hKernel11 := hKernel11)
    ∧ quiescent_Kernel11Ideal (hKernel11Ideal := hKernel11Ideal)
    ∧ quiescent_Reference12Ideal (hReference12Ideal := hReference12Ideal)
    ∧ quiescent_Kernel12 (hKernel12 := hKernel12)
    ∧ quiescent_Kernel12Ideal (hKernel12Ideal := hKernel12Ideal)
    ∧ quiescent_Reference13Ideal (hReference13Ideal := hReference13Ideal)
    ∧ quiescent_Kernel13 (hKernel13 := hKernel13)
    ∧ quiescent_Kernel13Ideal (hKernel13Ideal := hKernel13Ideal)
    ∧ quiescent_Reference14Ideal (hReference14Ideal := hReference14Ideal)
    ∧ quiescent_Kernel14 (hKernel14 := hKernel14)
    ∧ quiescent_Kernel14Ideal (hKernel14Ideal := hKernel14Ideal)
    ∧ quiescent_Reference15Ideal (hReference15Ideal := hReference15Ideal)
    ∧ quiescent_Kernel15 (hKernel15 := hKernel15)
    ∧ quiescent_Kernel15Ideal (hKernel15Ideal := hKernel15Ideal)
    ∧ quiescent_Reference16Ideal (hReference16Ideal := hReference16Ideal)
    ∧ quiescent_Kernel16 (hKernel16 := hKernel16)
    ∧ quiescent_Kernel16Ideal (hKernel16Ideal := hKernel16Ideal)
    ∧ quiescent_Reference17Ideal (hReference17Ideal := hReference17Ideal)
    ∧ quiescent_Kernel17 (hKernel17 := hKernel17)
    ∧ quiescent_Kernel17Ideal (hKernel17Ideal := hKernel17Ideal)
    ∧ quiescent_Reference18Ideal (hReference18Ideal := hReference18Ideal)
    ∧ quiescent_Kernel18 (hKernel18 := hKernel18)
    ∧ quiescent_Kernel18Ideal (hKernel18Ideal := hKernel18Ideal)
    ∧ quiescent_Reference19Ideal (hReference19Ideal := hReference19Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference20Ideal (hReference20Ideal := hReference20Ideal)
    ∧ quiescent_Reference20Ideal_pre_finite19 (hReference20Ideal := hReference20Ideal) (hPre_finite19 := hPre_finite19)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ algebraic_Kernel4Ideal_Reference6Ideal (hKernel4Ideal := hKernel4Ideal) (hReference6Ideal := hReference6Ideal)
    ∧ preserves_Kernel6_Kernel6Ideal
    ∧ algebraic_Kernel6Ideal_Reference7Ideal (hKernel6Ideal := hKernel6Ideal) (hReference7Ideal := hReference7Ideal)
    ∧ preserves_Kernel7_Kernel7Ideal
    ∧ algebraic_Kernel7Ideal_Reference8Ideal_pre_finite7 (hKernel7Ideal := hKernel7Ideal) (hReference8Ideal := hReference8Ideal) (hPre_finite7 := hPre_finite7)
    ∧ preserves_Kernel8_Kernel8Ideal
    ∧ algebraic_Kernel8Ideal_Reference9Ideal (hKernel8Ideal := hKernel8Ideal) (hReference9Ideal := hReference9Ideal)
    ∧ preserves_Kernel9_Kernel9Ideal
    ∧ algebraic_Kernel9Ideal_Reference10Ideal (hKernel9Ideal := hKernel9Ideal) (hReference10Ideal := hReference10Ideal)
    ∧ preserves_Kernel10_Kernel10Ideal
    ∧ algebraic_Kernel10Ideal_Reference11Ideal (hKernel10Ideal := hKernel10Ideal) (hReference11Ideal := hReference11Ideal)
    ∧ preserves_Kernel11_Kernel11Ideal
    ∧ algebraic_Kernel11Ideal_Reference12Ideal (hKernel11Ideal := hKernel11Ideal) (hReference12Ideal := hReference12Ideal)
    ∧ preserves_Kernel12_Kernel12Ideal
    ∧ algebraic_Kernel12Ideal_Reference13Ideal (hKernel12Ideal := hKernel12Ideal) (hReference13Ideal := hReference13Ideal)
    ∧ preserves_Kernel13_Kernel13Ideal
    ∧ algebraic_Kernel13Ideal_Reference14Ideal (hKernel13Ideal := hKernel13Ideal) (hReference14Ideal := hReference14Ideal)
    ∧ preserves_Kernel14_Kernel14Ideal
    ∧ algebraic_Kernel14Ideal_Reference15Ideal (hKernel14Ideal := hKernel14Ideal) (hReference15Ideal := hReference15Ideal)
    ∧ preserves_Kernel15_Kernel15Ideal
    ∧ algebraic_Kernel15Ideal_Reference16Ideal (hKernel15Ideal := hKernel15Ideal) (hReference16Ideal := hReference16Ideal)
    ∧ preserves_Kernel16_Kernel16Ideal
    ∧ algebraic_Kernel16Ideal_Reference17Ideal (hKernel16Ideal := hKernel16Ideal) (hReference17Ideal := hReference17Ideal)
    ∧ preserves_Kernel17_Kernel17Ideal
    ∧ algebraic_Kernel17Ideal_Reference18Ideal (hKernel17Ideal := hKernel17Ideal) (hReference18Ideal := hReference18Ideal)
    ∧ preserves_Kernel18_Kernel18Ideal
    ∧ algebraic_Kernel18Ideal_Reference19Ideal (hKernel18Ideal := hKernel18Ideal) (hReference19Ideal := hReference19Ideal)
    ∧ preserves_Kernel19_Kernel19Ideal
    ∧ algebraic_Kernel19Ideal_Reference20Ideal_pre_finite19 (hKernel19Ideal := hKernel19Ideal) (hReference20Ideal := hReference20Ideal) (hPre_finite19 := hPre_finite19)
-- ==== Pre_finite19.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_v0 : FVec F S1024x1024 .f32) (main_v1 : FVec F S4x256x256 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .ole main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1024x1024 .f32 := Host.absf main_v0
  let main_cst_6 : FVec F S_ .f32 := constant S_ .f32 0x7F7FFFFF#32
  let main_v22 : FVec F S1024x1024 .f32 := broadcastInDim S1024x1024 ![] bcast_S_S1024x1024 main_cst_6
  let main_v23 : IVec S1024x1024 1 := cmpf .ole main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v20 main_v24
  let main_v26 : FVec F S4x256x256 .f32 := Host.absf main_v1
  let main_cst_8 : FVec F S_ .f32 := constant S_ .f32 0x7F7FFFFF#32
  let main_v27 : FVec F S4x256x256 .f32 := broadcastInDim S4x256x256 ![] bcast_S_S4x256x256 main_cst_8
  let main_v28 : IVec S4x256x256 1 := cmpf .ole main_v26 main_v27
  let main_c_9 : IVec S_ 1 := constantI S_ 1 1#1
  let main_v29 : IVec S_ 1 := (fun x v => Host.reduce IntOp.andi x v reducesTo_S4x256x256_S_d0_1_2 h_S_) main_v28 main_c_9
  let main_v30 : IVec S_ 1 := andi main_v25 main_v29
  main_v30

def fn {F : FTy → Type} [FloatOps F] (main_arg0 : FVec F S8192x1024 .f32) (main_arg1 : FVec F S8192x256 .f32) (main_arg2 : FVec F S8192x1024 .f32) (main_arg3 : FVec F S1x1024 .f32) (main_arg4 : FVec F S1024x1024 .bf16) (main_arg5 : FVec F S4x256x256 .bf16) : IVec S_ 1 :=
  let main_v0 : FVec F S1024x1024 .f32 := (extf .f32 · bitsLt_bf16_f32) main_arg4
  let main_v1 : FVec F S4x256x256 .f32 := (extf .f32 · bitsLt_bf16_f32) main_arg5
  let main_v2 : FVec F S8192x1024 .f32 := Host.absf main_arg0
  let main_cst : FVec F S_ .f32 := constant S_ .f32 0x7F7FFFFF#32
  let main_v3 : FVec F S8192x1024 .f32 := broadcastInDim S8192x1024 ![] bcast_S_S8192x1024 main_cst
  let main_v4 : IVec S8192x1024 1 := cmpf .ole main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S8192x256 .f32 := Host.absf main_arg1
  let main_cst_0 : FVec F S_ .f32 := constant S_ .f32 0x7F7FFFFF#32
  let main_v7 : FVec F S8192x256 .f32 := broadcastInDim S8192x256 ![] bcast_S_S8192x256 main_cst_0
  let main_v8 : IVec S8192x256 1 := cmpf .ole main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v5 main_v9
  let main_v11 : FVec F S8192x1024 .f32 := Host.absf main_arg2
  let main_cst_2 : FVec F S_ .f32 := constant S_ .f32 0x7F7FFFFF#32
  let main_v12 : FVec F S8192x1024 .f32 := broadcastInDim S8192x1024 ![] bcast_S_S8192x1024 main_cst_2
  let main_v13 : IVec S8192x1024 1 := cmpf .ole main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F7FFFFF#32
  fn_part1 (F := F) main_v0 main_v1 main_v15 main_v16 main_cst_4
-- ==== Pre_finite2.lean ====
abbrev S8192x1024 : Shape := ⟨2, ![8192, 1024]⟩
abbrev S4x8192x704 : Shape := ⟨3, ![4, 8192, 704]⟩
abbrev S4x704x1024 : Shape := ⟨3, ![4, 704, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x8192x704 : S_.BroadcastsInDim S4x8192x704 (![] : Fin 0 → Fin S4x8192x704.rank)
  reducesTo_S4x8192x704_S_d0_1_2 : S4x8192x704.ReducesTo [0, 1, 2] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn {F : FTy → Type} [FloatOps F] (main_arg0 : FVec F S8192x1024 .f32) (main_arg1 : FVec F S4x8192x704 .bf16) (main_arg2 : FVec F S4x8192x704 .bf16) (main_arg3 : FVec F S4x704x1024 .bf16) : IVec S_ 1 :=
  let main_v0 : FVec F S4x8192x704 .f32 := (extf .f32 · bitsLt_bf16_f32) main_arg2
  let main_v1 : FVec F S4x704x1024 .f32 := (extf .f32 · bitsLt_bf16_f32) main_arg3
  let main_v2 : FVec F S8192x1024 .f32 := Host.absf main_arg0
  let main_cst : FVec F S_ .f32 := constant S_ .f32 0x7F7FFFFF#32
  let main_v3 : FVec F S8192x1024 .f32 := broadcastInDim S8192x1024 ![] bcast_S_S8192x1024 main_cst
  let main_v4 : IVec S8192x1024 1 := cmpf .ole main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S4x8192x704 .f32 := Host.absf main_v0
  let main_cst_0 : FVec F S_ .f32 := constant S_ .f32 0x7F7FFFFF#32
  let main_v7 : FVec F S4x8192x704 .f32 := broadcastInDim S4x8192x704 ![] bcast_S_S4x8192x704 main_cst_0
  let main_v8 : IVec S4x8192x704 1 := cmpf .ole main_v6 main_v7
  let main_c_1 : IVec S_ 1 := constantI S_ 1 1#1
  let main_v9 : IVec S_ 1 := (fun x v => Host.reduce IntOp.andi x v reducesTo_S4x8192x704_S_d0_1_2 h_S_) main_v8 main_c_1
  let main_v10 : IVec S_ 1 := andi main_v5 main_v9
  let main_v11 : FVec F S4x704x1024 .f32 := Host.absf main_v1
  let main_cst_2 : FVec F S_ .f32 := constant S_ .f32 0x7F7FFFFF#32
  let main_v12 : FVec F S4x704x1024 .f32 := broadcastInDim S4x704x1024 ![] bcast_S_S4x704x1024 main_cst_2
  let main_v13 : IVec S4x704x1024 1 := cmpf .ole main_v11 main_v12
  let main_c_3 : IVec S_ 1 := constantI S_ 1 1#1
  let main_v14 : IVec S_ 1 := (fun x v => Host.reduce IntOp.andi x v reducesTo_S4x704x1024_S_d0_1_2 h_S_) main_v13 main_c_3
  let main_v15 : IVec S_ 1 := andi main_v10 main_v14
  main_v15
-- ==== Pre_finite3.lean ====
abbrev S4x8192x704 : Shape := ⟨3, ![4, 8192, 704]⟩
abbrev S4x1024x704 : Shape := ⟨3, ![4, 1024, 704]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S4x8192x704 : S_.BroadcastsInDim S4x8192x704 (![] : Fin 0 → Fin S4x8192x704.rank)
  reducesTo_S4x8192x704_S_d0_1_2 : S4x8192x704.ReducesTo [0, 1, 2] S_
  h_S_ : 0 < S_.numel
  bcast_S_S4x1024x704 : S_.BroadcastsInDim S4x1024x704 (![] : Fin 0 → Fin S4x1024x704.rank)
  reducesTo_S4x1024x704_S_d0_1_2 : S4x1024x704.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S8192x1024 .f32) (main_arg6 : FVec F S1x1024 .f32) (main_v3 : FVec F S4x1024x704 .f32) (main_v17 : IVec S_ 1) : IVec S_ 1 :=
  let main_v18 : FVec F S4x1024x704 .f32 := Host.absf main_v3
  let main_cst_4 : FVec F S_ .f32 := constant S_ .f32 0x7F7FFFFF#32
  let main_v19 : FVec F S4x1024x704 .f32 := broadcastInDim S4x1024x704 ![] bcast_S_S4x1024x704 main_cst_4
  let main_v20 : IVec S4x1024x704 1 := cmpf .ole main_v18 main_v19
  let main_c_5 : IVec S_ 1 := constantI S_ 1 1#1
  let main_v21 : IVec S_ 1 := (fun x v => Host.reduce IntOp.andi x v reducesTo_S4x1024x704_S_d0_1_2 h_S_) main_v20 main_c_5
  let main_v22 : IVec S_ 1 := andi main_v17 main_v21
  let main_v23 : FVec F S8192x1024 .f32 := Host.absf main_arg5
  let main_cst_6 : FVec F S_ .f32 := constant S_ .f32 0x7F7FFFFF#32
  let main_v24 : FVec F S8192x1024 .f32 := broadcastInDim S8192x1024 ![] bcast_S_S8192x1024 main_cst_6
  let main_v25 : IVec S8192x1024 1 := cmpf .ole main_v23 main_v24
  let main_c_7 : IVec S_ 1 := constantI S_ 1 1#1
  let main_v26 : IVec S_ 1 := (fun x v => Host.reduce IntOp.andi x v reducesTo_S8192x1024_S_d0_1 h_S_) main_v25 main_c_7
  let main_v27 : IVec S_ 1 := andi main_v22 main_v26
  let main_v28 : FVec F S1x1024 .f32 := Host.absf main_arg6
  let main_cst_8 : FVec F S_ .f32 := constant S_ .f32 0x7F7FFFFF#32
  let main_v29 : FVec F S1x1024 .f32 := broadcastInDim S1x1024 ![] bcast_S_S1x1024 main_cst_8
  let main_v30 : IVec S1x1024 1 := cmpf .ole main_v28 main_v29
  let main_c_9 : IVec S_ 1 := constantI S_ 1 1#1
  let main_v31 : IVec S_ 1 := (fun x v => Host.reduce IntOp.andi x v reducesTo_S1x1024_S_d0_1 h_S_) main_v30 main_c_9
  let main_v32 : IVec S_ 1 := andi main_v27 main_v31
  main_v32

def fn {F : FTy → Type} [FloatOps F] (main_arg0 : FVec F S4x8192x704 .bf16) (main_arg1 : FVec F S4x8192x704 .bf16) (main_arg2 : FVec F S4x1024x704 .bf16) (main_arg3 : FVec F S4x1024x704 .bf16) (main_arg4 : FVec F S8192x1024 .f32) (main_arg5 : FVec F S8192x1024 .f32) (main_arg6 : FVec F S1x1024 .f32) : IVec S_ 1 :=
  let main_v0 : FVec F S4x8192x704 .f32 := (extf .f32 · bitsLt_bf16_f32) main_arg0
  let main_v1 : FVec F S4x8192x704 .f32 := (extf .f32 · bitsLt_bf16_f32) main_arg1
  let main_v2 : FVec F S4x1024x704 .f32 := (extf .f32 · bitsLt_bf16_f32) main_arg2
  let main_v3 : FVec F S4x1024x704 .f32 := (extf .f32 · bitsLt_bf16_f32) main_arg3
  let main_v4 : FVec F S4x8192x704 .f32 := Host.absf main_v0
  let main_cst : FVec F S_ .f32 := constant S_ .f32 0x7F7FFFFF#32
  let main_v5 : FVec F S4x8192x704 .f32 := broadcastInDim S4x8192x704 ![] bcast_S_S4x8192x704 main_cst
  let main_v6 : IVec S4x8192x704 1 := cmpf .ole main_v4 main_v5
  let main_c : IVec S_ 1 := constantI S_ 1 1#1
  let main_v7 : IVec S_ 1 := (fun x v => Host.reduce IntOp.andi x v reducesTo_S4x8192x704_S_d0_1_2 h_S_) main_v6 main_c
  let main_v8 : FVec F S4x8192x704 .f32 := Host.absf main_v1
  let main_cst_0 : FVec F S_ .f32 := constant S_ .f32 0x7F7FFFFF#32
  let main_v9 : FVec F S4x8192x704 .f32 := broadcastInDim S4x8192x704 ![] bcast_S_S4x8192x704 main_cst_0
  let main_v10 : IVec S4x8192x704 1 := cmpf .ole main_v8 main_v9
  let main_c_1 : IVec S_ 1 := constantI S_ 1 1#1
  let main_v11 : IVec S_ 1 := (fun x v => Host.reduce IntOp.andi x v reducesTo_S4x8192x704_S_d0_1_2 h_S_) main_v10 main_c_1
  let main_v12 : IVec S_ 1 := andi main_v7 main_v11
  let main_v13 : FVec F S4x1024x704 .f32 := Host.absf main_v2
  let main_cst_2 : FVec F S_ .f32 := constant S_ .f32 0x7F7FFFFF#32
  let main_v14 : FVec F S4x1024x704 .f32 := broadcastInDim S4x1024x704 ![] bcast_S_S4x1024x704 main_cst_2
  let main_v15 : IVec S4x1024x704 1 := cmpf .ole main_v13 main_v14
  let main_c_3 : IVec S_ 1 := constantI S_ 1 1#1
  let main_v16 : IVec S_ 1 := (fun x v => Host.reduce IntOp.andi x v reducesTo_S4x1024x704_S_d0_1_2 h_S_) main_v15 main_c_3
  let main_v17 : IVec S_ 1 := andi main_v12 main_v16
  fn_part1 (F := F) main_arg5 main_arg6 main_v3 main_v17
-- ==== Pre_finite7.lean ====
abbrev S8192x3072 : Shape := ⟨2, ![8192, 3072]⟩
abbrev S4x1024x768 : Shape := ⟨3, ![4, 1024, 768]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S4x1024x768 : S_.BroadcastsInDim S4x1024x768 (![] : Fin 0 → Fin S4x1024x768.rank)
  reducesTo_S4x1024x768_S_d0_1_2 : S4x1024x768.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .ole main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8192x3072 .bf16) (main_arg1 : FVec F S4x1024x768 .bf16) (main_arg2 : FVec F S8192x1024 .f32) (main_arg3 : FVec F S8192x1024 .f32) (main_arg4 : FVec F S1x1024 .f32) : IVec S_ 1 :=
  let main_v0 : FVec F S8192x3072 .f32 := (extf .f32 · bitsLt_bf16_f32) main_arg0
  let main_v1 : FVec F S4x1024x768 .f32 := (extf .f32 · bitsLt_bf16_f32) main_arg1
  let main_v2 : FVec F S8192x3072 .f32 := Host.absf main_v0
  let main_cst : FVec F S_ .f32 := constant S_ .f32 0x7F7FFFFF#32
  let main_v3 : FVec F S8192x3072 .f32 := broadcastInDim S8192x3072 ![] bcast_S_S8192x3072 main_cst
  let main_v4 : IVec S8192x3072 1 := cmpf .ole main_v2 main_v3
  let main_c : IVec S_ 1 := constantI S_ 1 1#1
  let main_v5 : IVec S_ 1 := (fun x v => Host.reduce IntOp.andi x v reducesTo_S8192x3072_S_d0_1 h_S_) main_v4 main_c
  let main_v6 : FVec F S4x1024x768 .f32 := Host.absf main_v1
  let main_cst_0 : FVec F S_ .f32 := constant S_ .f32 0x7F7FFFFF#32
  let main_v7 : FVec F S4x1024x768 .f32 := broadcastInDim S4x1024x768 ![] bcast_S_S4x1024x768 main_cst_0
  let main_v8 : IVec S4x1024x768 1 := cmpf .ole main_v6 main_v7
  let main_c_1 : IVec S_ 1 := constantI S_ 1 1#1
  let main_v9 : IVec S_ 1 := (fun x v => Host.reduce IntOp.andi x v reducesTo_S4x1024x768_S_d0_1_2 h_S_) main_v8 main_c_1
  let main_v10 : IVec S_ 1 := andi main_v5 main_v9
  let main_v11 : FVec F S8192x1024 .f32 := Host.absf main_arg3
  let main_cst_2 : FVec F S_ .f32 := constant S_ .f32 0x7F7FFFFF#32
  let main_v12 : FVec F S8192x1024 .f32 := broadcastInDim S8192x1024 ![] bcast_S_S8192x1024 main_cst_2
  let main_v13 : IVec S8192x1024 1 := cmpf .ole main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F7FFFFF#32
  fn_part1 (F := F) main_v15 main_v16 main_cst_4
-- ==== Kernel.lean ====
abbrev S8192x3072 : Shape := ⟨2, ![8192, 3072]⟩
abbrev S8192x1024 : Shape := ⟨2, ![8192, 1024]⟩
abbrev S3x512 : Shape := ⟨2, ![3, 512]⟩
abbrev S1x512 : Shape := ⟨2, ![1, 512]⟩
abbrev S_ : Shape := ⟨0, ![]⟩
abbrev S8x512 : Shape := ⟨2, ![8, 512]⟩
abbrev S8192x512 : Shape := ⟨2, ![8192, 512]⟩
abbrev S1024x256 : Shape := ⟨2, ![1024, 256]⟩
abbrev S8x256 : Shape := ⟨2, ![8, 256]⟩
abbrev S1x256 : Shape := ⟨2, ![1, 256]⟩
abbrev S256 : Shape := ⟨1, ![256]⟩

abbrev nBuf : Space → Nat
  | .hbm => 11
  | .vmem => 28
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3x512, .f32⟩
  | .hbm, ⟨3, _⟩ => ⟨S1x512, .f32⟩
  | .hbm, ⟨4, _⟩ => ⟨S_, .i32⟩
  | .hbm, ⟨5, _⟩ => ⟨S_, .f32⟩
  | .hbm, ⟨6, _⟩ => ⟨S8x512, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S1x256, .f32⟩
  | .local _ .vmem, ⟨19, _⟩ => ⟨S1x256, .f32⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S8x256, .f32⟩
  | .local _ .vmem, ⟨27, _⟩ => ⟨S8x256, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8192x3072 : Shape := ⟨2, ![8192, 3072]⟩
abbrev S8192x1024 : Shape := ⟨2, ![8192, 1024]⟩
abbrev S3x512 : Shape := ⟨2, ![3, 512]⟩
abbrev S1x512 : Shape := ⟨2, ![1, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S512 : Shape := ⟨1, ![512]⟩
abbrev S4x512 : Shape := ⟨2, ![4, 512]⟩
abbrev S8x512 : Shape := ⟨2, ![8, 512]⟩

abbrev nBuf : Space → Nat
  | .hbm => 80
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3x512, .f32⟩
  | .hbm, ⟨3, _⟩ => ⟨S1x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S2x512, .f32⟩
  | .hbm, ⟨9, _⟩ => ⟨S8192x512, .f32⟩
  | .hbm, ⟨10, _⟩ => ⟨S8194x512, .f32⟩
  | .hbm, ⟨11, _⟩ => ⟨S_, .f32⟩
  | .hbm, ⟨12, _⟩ => ⟨S2x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S_, .f32⟩
  | .hbm, ⟨43, _⟩ => ⟨S8194x512, .f32⟩
  | .hbm, ⟨44, _⟩ => ⟨S_, .f32⟩
  | .hbm, ⟨45, _⟩ => ⟨S3x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S8194x512, .f32⟩
  | .hbm, ⟨54, _⟩ => ⟨S8194x512, .f32⟩
  | .hbm, ⟨55, _⟩ => ⟨S_, .f32⟩
  | .hbm, ⟨56, _⟩ => ⟨S3x512, .f32⟩
  | .hbm, ⟨57, _⟩ => ⟨S3x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S_, .f32⟩
  | .hbm, ⟨65, _⟩ => ⟨S8194x512, .f32⟩
  | .hbm, ⟨66, _⟩ => ⟨S8194x512, .f32⟩
  | .hbm, ⟨67, _⟩ => ⟨S_, .f32⟩
  | .hbm, ⟨68, _⟩ => ⟨S3x512, .f32⟩
  | .hbm, ⟨69, _⟩ => ⟨S3x512, .f32⟩
  | .hbm, ⟨70, _⟩ => ⟨S2x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S4x512, .f32⟩
  | .hbm, ⟨76, _⟩ => ⟨S8x512, .f32⟩
  | .hbm, ⟨77, _⟩ => ⟨S8192x512, .bf16⟩
  | .hbm, ⟨78, _⟩ => ⟨S8192x512, .bf16⟩
  | .hbm, ⟨79, _⟩ => ⟨S8192x512, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel2.lean ====
abbrev S8192x1024 : Shape := ⟨2, ![8192, 1024]⟩
abbrev S4x8192x704 : Shape := ⟨3, ![4, 8192, 704]⟩
abbrev S4x704x1024 : Shape := ⟨3, ![4, 704, 1024]⟩
abbrev S512x1024 : Shape := ⟨2, ![512, 1024]⟩
abbrev S1x512x704 : Shape := ⟨3, ![1, 512, 704]⟩
abbrev S1x704x1024 : Shape := ⟨3, ![1, 704, 1024]⟩
abbrev S512x704 : Shape := ⟨2, ![512, 704]⟩
abbrev S704x1024 : Shape := ⟨2, ![704, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S4x8192x704, .bf16⟩
  | .hbm, ⟨3, _⟩ => ⟨S4x704x1024, .bf16⟩
  | .hbm, ⟨4, _⟩ => ⟨S4x8192x704, .bf16⟩
  | .hbm, ⟨5, _⟩ => ⟨S4x8192x704, .bf16⟩
  | .hbm, ⟨6, _⟩ => ⟨S4x8192x704, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x1024 : Shape := ⟨2, ![8192, 1024]⟩
abbrev S4x8192x704 : Shape := ⟨3, ![4, 8192, 704]⟩
abbrev S4x704x1024 : Shape := ⟨3, ![4, 704, 1024]⟩
abbrev S_ : Shape := ⟨0, ![]⟩
abbrev S8192x4x704 : Shape := ⟨3, ![8192, 4, 704]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S4x8192x704, .bf16⟩
  | .hbm, ⟨3, _⟩ => ⟨S4x704x1024, .bf16⟩
  | .hbm, ⟨4, _⟩ => ⟨S4x8192x704, .f32⟩
  | .hbm, ⟨5, _⟩ => ⟨S4x8192x704, .f32⟩
  | .hbm, ⟨6, _⟩ => ⟨S4x704x1024, .f32⟩
  | .hbm, ⟨7, _⟩ => ⟨S4x8192x704, .f32⟩
  | .hbm, ⟨8, _⟩ => ⟨S4x8192x704, .f32⟩
  | .hbm, ⟨9, _⟩ => ⟨S_, .f32⟩
  | .hbm, ⟨10, _⟩ => ⟨S4x8192x704, .f32⟩
  | .hbm, ⟨11, _⟩ => ⟨S4x8192x704, .f32⟩
  | .hbm, ⟨12, _⟩ => ⟨S_, .f32⟩
  | .hbm, ⟨13, _⟩ => ⟨S4x8192x704, .f32⟩
  | .hbm, ⟨14, _⟩ => ⟨S4x8192x704, .f32⟩
  | .hbm, ⟨15, _⟩ => ⟨S_, .f32⟩
  | .hbm, ⟨16, _⟩ => ⟨S4x8192x704, .f32⟩
  | .hbm, ⟨17, _⟩ => ⟨S4x8192x704, .f32⟩
  | .hbm, ⟨18, _⟩ => ⟨S4x8192x704, .f32⟩
  | .hbm, ⟨19, _⟩ => ⟨S4x8192x704, .f32⟩
  | .hbm, ⟨20, _⟩ => ⟨S4x8192x704, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x4x704, .f32⟩
  | .hbm, ⟨29, _⟩ => ⟨S4x8192x704, .f32⟩
  | .hbm, ⟨30, _⟩ => ⟨S4x8192x704, .f32⟩
  | .hbm, ⟨31, _⟩ => ⟨S4x8192x704, .f32⟩
  | .hbm, ⟨32, _⟩ => ⟨S4x8192x704, .f32⟩
  | .hbm, ⟨33, _⟩ => ⟨S4x8192x704, .f32⟩
  | .hbm, ⟨34, _⟩ => ⟨S4x8192x704, .f32⟩
  | .hbm, ⟨35, _⟩ => ⟨S4x8192x704, .f32⟩
  | .hbm, ⟨36, _⟩ => ⟨S4x8192x704, .f32⟩
  | .hbm, ⟨37, _⟩ => ⟨S4x8192x704, .f32⟩
  | .hbm, ⟨38, _⟩ => ⟨S_, .f32⟩
  | .hbm, ⟨39, _⟩ => ⟨S4x8192x704, .f32⟩
  | .hbm, ⟨40, _⟩ => ⟨S4x8192x704, .f32⟩
  | .hbm, ⟨41, _⟩ => ⟨S_, .f32⟩
  | .hbm, ⟨42, _⟩ => ⟨S4x8192x704, .f32⟩
  | .hbm, ⟨43, _⟩ => ⟨S4x8192x704, .f32⟩
  | .hbm, ⟨44, _⟩ => ⟨S4x8192x704, .f32⟩
  | .hbm, ⟨45, _⟩ => ⟨S4x8192x704, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S4x8192x704, .bf16⟩
  | .hbm, ⟨50, _⟩ => ⟨S4x8192x704, .bf16⟩
  | .hbm, ⟨51, _⟩ => ⟨S4x8192x704, .bf16⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]
-- ==== Kernel3.lean ====
abbrev S4x8192x704 : Shape := ⟨3, ![4, 8192, 704]⟩
abbrev S4x1024x704 : Shape := ⟨3, ![4, 1024, 704]⟩
abbrev S8192x1024 : Shape := ⟨2, ![8192, 1024]⟩
abbrev S1x1024 : Shape := ⟨2, ![1, 1024]⟩
abbrev S8x1024 : Shape := ⟨2, ![8, 1024]⟩
abbrev S1x512x704 : Shape := ⟨3, ![1, 512, 704]⟩
abbrev S1x1024x704 : Shape := ⟨3, ![1, 1024, 704]⟩
abbrev S512x1024 : Shape := ⟨2, ![512, 1024]⟩
abbrev S512x704 : Shape := ⟨2, ![512, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x1024x704, .bf16⟩
  | .hbm, ⟨3, _⟩ => ⟨S4x1024x704, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_20 : BitVec 32 := 0#32
  let v26 : BitVec 1 := Scalar.cmpi .ne v25 c0_i32_20
  v26

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4x8192x704 : Shape := ⟨3, ![4, 8192, 704]⟩
abbrev S4x1024x704 : Shape := ⟨3, ![4, 1024, 704]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S1024 : Shape := ⟨1, ![1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x1024x704, .bf16⟩
  | .hbm, ⟨3, _⟩ => ⟨S4x1024x704, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S4x8192x704, .f32⟩
  | .hbm, ⟨8, _⟩ => ⟨S4x8192x704, .f32⟩
  | .hbm, ⟨9, _⟩ => ⟨S4x1024x704, .f32⟩
  | .hbm, ⟨10, _⟩ => ⟨S4x1024x704, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S4x704x8192, .f32⟩
  | .hbm, ⟨31, _⟩ => ⟨S4x8192x704, .f32⟩
  | .hbm, ⟨32, _⟩ => ⟨S4x704x8192, .f32⟩
  | .hbm, ⟨33, _⟩ => ⟨S4x8192x704, .f32⟩
  | .hbm, ⟨34, _⟩ => ⟨S4x704x8192, .f32⟩
  | .hbm, ⟨35, _⟩ => ⟨S8192x1024, .f32⟩
  | .hbm, ⟨36, _⟩ => ⟨S4x704x8192, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel4.lean ====
abbrev S4x8192x704 : Shape := ⟨3, ![4, 8192, 704]⟩
abbrev S8192x1024 : Shape := ⟨2, ![8192, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x8192x704, .f32⟩
  | .hbm, ⟨3, _⟩ => ⟨S8192x1024, .f32⟩
  | .hbm, ⟨4, _⟩ => ⟨S_, .f32⟩
  | .hbm, ⟨5, _⟩ => ⟨S4x704x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S4x8192x704 : Shape := ⟨3, ![4, 8192, 704]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S512 : Shape := ⟨1, ![512]⟩
abbrev S512x1 : Shape := ⟨2, ![512, 1]⟩
abbrev S1024x704 : Shape := ⟨2, ![1024, 704]⟩
abbrev S512x704 : Shape := ⟨2, ![512, 704]⟩
abbrev S704x1024 : Shape := ⟨2, ![704, 1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S8192x1024, .f32⟩
  | .hbm, ⟨6, _⟩ => ⟨S8192x1024, .bf16⟩
  | .hbm, ⟨7, _⟩ => ⟨S4x8192x704, .bf16⟩
  | .hbm, ⟨8, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S512x1024, .bf16⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_23 : BitVec 32 := 0#32
  let v32 : BitVec 1 := Scalar.cmpi .ne v31 c0_i32_23
  v32

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S4x8192x704 : Shape := ⟨3, ![4, 8192, 704]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4x1024x704, .f32⟩
  | .hbm, ⟨6, _⟩ => ⟨S4x1024x704, .f32⟩
  | .hbm, ⟨7, _⟩ => ⟨S4x704x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S4x704x8192, .f32⟩
  | .hbm, ⟨24, _⟩ => ⟨S4x8192x704, .f32⟩
  | .hbm, ⟨25, _⟩ => ⟨S4x704x8192, .f32⟩
  | .hbm, ⟨26, _⟩ => ⟨S4x8192x704, .f32⟩
  | .hbm, ⟨27, _⟩ => ⟨S4x8192x704, .f32⟩
  | .hbm, ⟨28, _⟩ => ⟨S4x8192x704, .f32⟩
  | .hbm, ⟨29, _⟩ => ⟨S_, .f32⟩
  | .hbm, ⟨30, _⟩ => ⟨S4x8192x704, .f32⟩
  | .hbm, ⟨31, _⟩ => ⟨S4x8192x704, .f32⟩
  | .hbm, ⟨32, _⟩ => ⟨S_, .f32⟩
  | .hbm, ⟨33, _⟩ => ⟨S4x8192x704, .f32⟩
  | .hbm, ⟨34, _⟩ => ⟨S4x8192x704, .f32⟩
  | .hbm, ⟨35, _⟩ => ⟨S4x8192x704, .f32⟩
  | .hbm, ⟨36, _⟩ => ⟨S4x8192x704, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S4x8192x704, .bf16⟩
  | .hbm, ⟨44, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Reference6Ideal.lean ====
abbrev S4x8192x704 : Shape := ⟨3, ![4, 8192, 704]⟩
abbrev S8192x1024 : Shape := ⟨2, ![8192, 1024]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x8192x704, .f32⟩
  | .hbm, ⟨3, _⟩ => ⟨S8192x1024, .f32⟩
  | .hbm, ⟨4, _⟩ => ⟨S_, .f32⟩
  | .hbm, ⟨5, _⟩ => ⟨S4x1024x704, .f32⟩
  | .hbm, ⟨6, _⟩ => ⟨S4x704x8192, .f32⟩
  | .hbm, ⟨7, _⟩ => ⟨S4x8192x704, .f32⟩
  | .hbm, ⟨8, _⟩ => ⟨S4x704x8192, .f32⟩
  | .hbm, ⟨9, _⟩ => ⟨S4x704x1024, .f32⟩
  | .hbm, ⟨10, _⟩ => ⟨S4x1024x704, .f32⟩
  | .hbm, ⟨11, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x3072 : Shape := ⟨2, ![8192, 3072]⟩
abbrev S_ : Shape := ⟨0, ![]⟩
abbrev S4x1024x768 : Shape := ⟨3, ![4, 1024, 768]⟩
abbrev S8192x4x768 : Shape := ⟨3, ![8192, 4, 768]⟩
abbrev S4x768x1024 : Shape := ⟨3, ![4, 768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S4x1024x768, .f32⟩
  | .hbm, ⟨6, _⟩ => ⟨S8192x4x768, .f32⟩
  | .hbm, ⟨7, _⟩ => ⟨S8192x3072, .f32⟩
  | .hbm, ⟨8, _⟩ => ⟨S8192x4x768, .f32⟩
  | .hbm, ⟨9, _⟩ => ⟨S4x768x1024, .f32⟩
  | .hbm, ⟨10, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x3072 : Shape := ⟨2, ![8192, 3072]⟩
abbrev S4x1024x768 : Shape := ⟨3, ![4, 1024, 768]⟩
abbrev S8192x1024 : Shape := ⟨2, ![8192, 1024]⟩
abbrev S1x1024 : Shape := ⟨2, ![1, 1024]⟩
abbrev S8x1024 : Shape := ⟨2, ![8, 1024]⟩
abbrev S1024x768 : Shape := ⟨2, ![1024, 768]⟩
abbrev S1x1024x768 : Shape := ⟨3, ![1, 1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S4x1024x768, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S8192x3072 : Shape := ⟨2, ![8192, 3072]⟩
abbrev S4x1024x768 : Shape := ⟨3, ![4, 1024, 768]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4x768 : Shape := ⟨3, ![8192, 4, 768]⟩
abbrev S1024 : Shape := ⟨1, ![1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x1024x768, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x3072, .f32⟩
  | .hbm, ⟨6, _⟩ => ⟨S4x1024x768, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4x768, .f32⟩
  | .hbm, ⟨27, _⟩ => ⟨S8192x3072, .f32⟩
  | .hbm, ⟨28, _⟩ => ⟨S8192x4x768, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference17Ideal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8192x256 : Shape := ⟨2, ![8192, 256]⟩
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S4x256x256, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference18Ideal.lean ====
abbrev S8192x256 : Shape := ⟨2, ![8192, 256]⟩
abbrev S8192x1024 : Shape := ⟨2, ![8192, 1024]⟩
abbrev S_ : Shape := ⟨0, ![]⟩
abbrev S4x256x256 : Shape := ⟨3, ![4, 256, 256]⟩
abbrev S8192x4x256 : Shape := ⟨3, ![8192, 4, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S4x256x256, .f32⟩
  | .hbm, ⟨5, _⟩ => ⟨S8192x4x256, .f32⟩
  | .hbm, ⟨6, _⟩ => ⟨S8192x1024, .f32⟩
  | .hbm, ⟨7, _⟩ => ⟨S8192x4x256, .f32⟩
  | .hbm, ⟨8, _⟩ => ⟨S4x256x256, .f32⟩
  | .hbm, ⟨9, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S4x1024x768 : Shape := ⟨3, ![4, 1024, 768]⟩
abbrev S8192x3072 : Shape := ⟨2, ![8192, 3072]⟩
abbrev S1024x1024 : Shape := ⟨2, ![1024, 1024]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x768, .bf16⟩
  | .hbm, ⟨3, _⟩ => ⟨S8192x3072, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x768, .bf16⟩
  | .local _ .vmem, ⟨4, _⟩ => ⟨S1x1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference19Ideal.lean ====
abbrev S8192x1024 : Shape := ⟨2, ![8192, 1024]⟩
abbrev S1x1024 : Shape := ⟨2, ![1, 1024]⟩
abbrev S4x1024x768 : Shape := ⟨3, ![4, 1024, 768]⟩
abbrev S_ : Shape := ⟨0, ![]⟩
abbrev S8192 : Shape := ⟨1, ![8192]⟩
abbrev S8192x1 : Shape := ⟨2, ![8192, 1]⟩
abbrev S8192x4x768 : Shape := ⟨3, ![8192, 4, 768]⟩
abbrev S8192x3072 : Shape := ⟨2, ![8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x768, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x768, .f32⟩
  | .hbm, ⟨19, _⟩ => ⟨S8192x4x768, .f32⟩
  | .hbm, ⟨20, _⟩ => ⟨S8192x3072, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel19.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S4x256x256 : Shape := ⟨3, ![4, 256, 256]⟩
abbrev S8x128 : Shape := ⟨2, ![8, 128]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S4x256x256, .bf16⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8x128, .f32⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S4x256x256, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference20Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S1024 : Shape := ⟨1, ![1024]⟩
abbrev S8x128 : Shape := ⟨2, ![8, 128]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S4x256x256, .bf16⟩
  | .hbm, ⟨6, _⟩ => ⟨S1024x1024, .f32⟩
  | .hbm, ⟨7, _⟩ => ⟨S4x256x256, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x4x256, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .bf16⟩
  | .hbm, ⟨112, _⟩ => ⟨S8192x1024, .bf16⟩
  | .hbm, ⟨113, _⟩ => ⟨S8192x1024, .bf16⟩
  | .hbm, ⟨114, _⟩ => ⟨S8x128, .f32⟩
  | .hbm, ⟨115, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩
abbrev main_cst_20 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Proof.ConvBlocks.lean ====
/- What one grid point of the gradient of the short gated convolution writes into its four output blocks, as the
   kernel's own payloads at the point's input blocks. Over any float model. -/
module

public import proofs.«01_k».proof.Proof.Gen.KernelIdeal.Value
public import Idealize.ShloMosaic.Lib.Tactic

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := by decide

/-- The block of the gradient of `b` that a point writes. -/
def dbBlk (i : grid0.Coords) (x1 x2 x3 : Vec F S1024x256 .f32) (x4 x5 x8 : Vec F S8x256 .f32) (x9 : Vec F S1x256 .f32) :
    FVec F S1024x256 .bf16 :=
  k0_pay11 x3 (k0_pay3 x1 x2) (k0_pay5 x8) (k0_pay6 i x1 x2 x4 x5) (k0_pay7 x1 x2) k0_pay8 (k0_pay9 i x4 x5) x9

/-- The row numbers of a block. -/
def rows : IVec S1024x256 32 := iota .tc S1024x256 32 [0] iota_S1024x256_d0_w32

/-- The gradient of the gated product `c * u` in a point's block: the weighted sum of the three shifts of `dy * b`. -/
def dzBlk (i : grid0.Coords) (x0 x3 : Vec F S1024x256 .f32) (x6 x7 x8 : Vec F S8x256 .f32) : FVec F S1024x256 .f32 :=
  k0_pay18 rows (k0_pay13 (BitVec.ofNat 32 (i 1).val) x7 x6) (k0_pay14 (BitVec.ofNat 32 (i 1).val) x0 x3 rows (k0_pay5 x8) x7 x6)
    (k0_pay15 (k0_pay5 x8)) (k0_pay16 x0 x3) (k0_pay17 rows)

/-- The eight rows of column sums that a point adds to the running block of the weights' gradient. -/
def dwBlk (i : grid0.Coords) (x0 x1 x2 x3 : Vec F S1024x256 .f32) (x4 x5 : Vec F S8x256 .f32) (acc : Vec F S8x256 .f32) :
    FVec F S8x256 .f32 :=
  k0_pay1 (iota .tc S8x256 32 [0] iota_S8x256_d0_w32) (k0_pay21 (k0_pay12 x0 x3))
    (k0_pay22 (k0_pay6 i x1 x2 x4 x5) (k0_pay10 (k0_pay7 x1 x2) k0_pay8 (k0_pay9 i x4 x5)) (k0_pay12 x0 x3)) k0_pay23
    (k0_pay24 (k0_pay3 x1 x2) (k0_pay12 x0 x3)) acc

theorem outs_db (c : Dev nD) (t : Fin cfg0.N) :
    (outsAt0 m c t.val t.isLt).1 = dbBlk (grid0.coords t) (iblk m c 1 t) (iblk m c 2 t) (iblk m c 3 t) (iblk m c 4 t)
      (iblk m c 5 t) (iblk m c 8 t) (iblk m c 9 t) := by
  by_cases h0 : t.val % 8 = 0
  · rw [outsAt0_A m c t h0]
    dsimp only
    unfold out0_A_10
    rw [View.read_writes_eq_canon _ _ _ (fun y => cover0_A_10 _ _ _ _ _ _ _ _ _ _ _ _ _ _ _ _ _ _ _ _ _ _ _ _ _ _ _ _ _ _ _ _ _ _ _ _ _ _ _ _ _ y)]
    unfold kernelRun0_A
    dsimp only
    sl_unfold_words
    rw [View.canon_cons_unit_zero (S := S1024x256) hz]
    simp only [View.readAt_eq_ld, Memref.IsWhole.read_unread, View.ld_unit_zero (S := S1024x256) hz,
      View.ld_unit_zero (S := S8x256) hz, View.ld_unit_zero (S := S1x256) hz, shapeCast_self]
    rfl
  · rw [outsAt0_B m c t h0]
    dsimp only
    unfold out0_B_10
    rw [View.read_writes_eq_canon _ _ _ (fun y => cover0_B_10 _ _ _ _ _ _ _ _ _ _ _ _ _ _ _ _ _ _ _ _ _ _ _ _ _ _ _ _ _ _ _ _ _ _ _ _ _ _ _ _ _ _ y)]
    unfold kernelRun0_B
    dsimp only
    sl_unfold_words
    rw [View.canon_cons_unit_zero (S := S1024x256) hz]
    simp only [View.readAt_eq_ld, Memref.IsWhole.read_unread, View.ld_unit_zero (S := S1024x256) hz,
      View.ld_unit_zero (S := S8x256) hz, View.ld_unit_zero (S := S1x256) hz, shapeCast_self]
    rfl

theorem outs_dc (c : Dev nD) (t : Fin cfg0.N) :
    (outsAt0 m c t.val t.isLt).2.1 = truncf .bf16 (mulf (dzBlk (grid0.coords t) (iblk m c 0 t) (iblk m c 3 t) (iblk m c 6 t)
      (iblk m c 7 t) (iblk m c 8 t)) (iblk m c 2 t)) bitsLt_bf16_f32 := by
  by_cases h0 : t.val % 8 = 0
  · rw [outsAt0_A m c t h0]
    dsimp only
    unfold out0_A_11
    rw [View.read_writes_eq_canon _ _ _ (fun y => cover0_A_11 _ _ _ _ _ _ _ _ _ _ _ _ _ _ _ _ _ _ _ _ _ _ _ _ _ _ _ _ _ _ _ _ _ _ _ _ _ _ _ _ _ y)]
    unfold kernelRun0_A
    dsimp only
    sl_unfold_words
    rw [View.canon_cons_unit_zero (S := S1024x256) hz]
    simp only [View.readAt_eq_ld, Memref.IsWhole.read_unread, View.ld_unit_zero (S := S1024x256) hz,
      View.ld_unit_zero (S := S8x256) hz, View.ld_unit_zero (S := S1x256) hz, shapeCast_self]
    rfl
  · rw [outsAt0_B m c t h0]
    dsimp only
    unfold out0_B_11
    rw [View.read_writes_eq_canon _ _ _ (fun y => cover0_B_11 _ _ _ _ _ _ _ _ _ _ _ _ _ _ _ _ _ _ _ _ _ _ _ _ _ _ _ _ _ _ _ _ _ _ _ _ _ _ _ _ _ _ y)]
    unfold kernelRun0_B
    dsimp only
    sl_unfold_words
    rw [View.canon_cons_unit_zero (S := S1024x256) hz]
    simp only [View.readAt_eq_ld, Memref.IsWhole.read_unread, View.ld_unit_zero (S := S1024x256) hz,
      View.ld_unit_zero (S := S8x256) hz, View.ld_unit_zero (S := S1x256) hz, shapeCast_self]
    rfl

theorem outs_du (c : Dev nD) (t : Fin cfg0.N) :
    (outsAt0 m c t.val t.isLt).2.2.1 = truncf .bf16 (mulf (dzBlk (grid0.coords t) (iblk m c 0 t) (iblk m c 3 t) (iblk m c 6 t)
      (iblk m c 7 t) (iblk m c 8 t)) (iblk m c 1 t)) bitsLt_bf16_f32 := by
  by_cases h0 : t.val % 8 = 0
  · rw [outsAt0_A m c t h0]
    dsimp only
    unfold out0_A_12
    rw [View.read_writes_eq_canon _ _ _ (fun y => cover0_A_12 _ _ _ _ _ _ _ _ _ _ _ _ _ _ _ _ _ _ _ _ _ _ _ _ _ _ _ _ _ _ _ _ _ _ _ _ _ _ _ _ _ y)]
    unfold kernelRun0_A
    dsimp only
    sl_unfold_words
    rw [View.canon_cons_unit_zero (S := S1024x256) hz]
    simp only [View.readAt_eq_ld, Memref.IsWhole.read_unread, View.ld_unit_zero (S := S1024x256) hz,
      View.ld_unit_zero (S := S8x256) hz, View.ld_unit_zero (S := S1x256) hz, shapeCast_self]
    rfl
  · rw [outsAt0_B m c t h0]
    dsimp only
    unfold out0_B_12
    rw [View.read_writes_eq_canon _ _ _ (fun y => cover0_B_12 _ _ _ _ _ _ _ _ _ _ _ _ _ _ _ _ _ _ _ _ _ _ _ _ _ _ _ _ _ _ _ _ _ _ _ _ _ _ _ _ _ _ y)]
    unfold kernelRun0_B
    dsimp only
    sl_unfold_words
    rw [View.canon_cons_unit_zero (S := S1024x256) hz]
    simp only [View.readAt_eq_ld, Memref.IsWhole.read_unread, View.ld_unit_zero (S := S1024x256) hz,
      View.ld_unit_zero (S := S8x256) hz, View.ld_unit_zero (S := S1x256) hz, shapeCast_self]
    rfl

/-- The first point of a column of blocks starts the running sums at zero. -/
theorem outs_dw_first (c : Dev nD) (t : Fin cfg0.N) (h0 : t.val % 8 = 0) :
    (outsAt0 m c t.val t.isLt).2.2.2 = dwBlk (grid0.coords t) (iblk m c 0 t) (iblk m c 1 t) (iblk m c 2 t) (iblk m c 3 t)
      (iblk m c 4 t) (iblk m c 5 t) (k0_pay2 (F := F)) := by
    rw [outsAt0_A m c t h0]
    dsimp only
    unfold out0_A_13
    rw [View.read_writes_eq_canon _ _ _ (fun y => cover0_A_13 _ _ _ _ _ _ _ _ _ _ _ _ _ _ _ _ _ _ _ _ _ _ _ _ _ _ _ _ _ _ _ _ _ _ _ _ _ _ _ _ _ y)]
    unfold kernelRun0_A
    dsimp only
    sl_unfold_words
    rw [View.canon_cons_unit_zero (S := S8x256) hz, View.readCov_unit_zero (S := S8x256) _ hz]
    simp only [View.readAt_eq_ld, Memref.IsWhole.read_unread, View.ld_unit_zero (S := S1024x256) hz,
      View.ld_unit_zero (S := S8x256) hz, View.ld_unit_zero (S := S1x256) hz, shapeCast_self]
    rfl

/-- Every later point adds to what the point before left. -/
theorem outs_dw_next (c : Dev nD) (t : Fin cfg0.N) (h0 : ¬ t.val % 8 = 0) :
    (outsAt0 m c t.val t.isLt).2.2.2 = dwBlk (grid0.coords t) (iblk m c 0 t) (iblk m c 1 t) (iblk m c 2 t) (iblk m c 3 t)
      (iblk m c 4 t) (iblk m c 5 t) (outsAt0 m c (t.val - 1) (Nat.lt_of_le_of_lt (Nat.sub_le _ _) t.isLt)).2.2.2 := by
    rw [outsAt0_B m c t h0]
    dsimp only
    unfold out0_B_13
    rw [View.read_writes_eq_canon _ _ _ (fun y => cover0_B_13 _ _ _ _ _ _ _ _ _ _ _ _ _ _ _ _ _ _ _ _ _ _ _ _ _ _ _ _ _ _ _ _ _ _ _ _ _ _ _ _ _ _ y)]
    unfold kernelRun0_B
    dsimp only
    sl_unfold_words
    rw [View.canon_cons_unit_zero (S := S8x256) hz]
    simp only [View.readAt_eq_ld, Memref.IsWhole.read_unread, View.ld_unit_zero (S := S1024x256) hz,
      View.ld_unit_zero (S := S8x256) hz, View.ld_unit_zero (S := S1x256) hz, shapeCast_self]
    rfl

end Cert.KernelIdeal.Conv

end
-- ==== Proof.Arrays.lean ====
/- Two-axis and three-axis arrays read at natural numbers (zero outside the array), and small facts about the words with which a
   kernel compares row numbers. -/
module

public import Idealize.ShloMosaic.Lib.Tactic
public import Idealize.ShloMosaic.Lib.Pointwise
public import Idealize.ShloMosaic.Lib.WordCmp
public import Idealize.ShloMosaic.Lib.KernelVsHost

@[expose] public section

noncomputable section

namespace Cert.Arrays

open Idealize.ShloMosaic

/-- The entry of a two-axis array at row `n` and column `k`; zero where there is none. -/
def at2 {a b : Nat} (X : Shape.Idx ⟨2, ![a, b]⟩ → EReal) (n k : Nat) : EReal :=
  if h : n < a ∧ k < b then X (ix2 ⟨n, h.1⟩ ⟨k, h.2⟩) else 0

theorem at2_of_lt {a b : Nat} (X : Shape.Idx ⟨2, ![a, b]⟩ → EReal) {n k : Nat} (hn : n < a) (hk : k < b) :
    at2 X n k = X (ix2 ⟨n, hn⟩ ⟨k, hk⟩) := dif_pos ⟨hn, hk⟩

theorem at2_row_ge {a b : Nat} (X : Shape.Idx ⟨2, ![a, b]⟩ → EReal) {n k : Nat} (hn : a ≤ n) : at2 X n k = 0 :=
  dif_neg fun h => absurd h.1 (by omega)

/-- The entry of a three-axis array at natural numbers; zero where there is none. -/
def at3 {a b c : Nat} (X : Shape.Idx ⟨3, ![a, b, c]⟩ → EReal) (s n k : Nat) : EReal :=
  if h : s < a ∧ n < b ∧ k < c then X (ix3 ⟨s, h.1⟩ ⟨n, h.2.1⟩ ⟨k, h.2.2⟩) else 0

theorem at3_of_lt {a b c : Nat} (X : Shape.Idx ⟨3, ![a, b, c]⟩ → EReal) {s n k : Nat} (hs : s < a) (hn : n < b) (hk : k < c) :
    at3 X s n k = X (ix3 ⟨s, hs⟩ ⟨n, hn⟩ ⟨k, hk⟩) := dif_pos ⟨hs, hn, hk⟩

theorem select_ofBool {α : Type} (p : Prop) [Decidable p] (A B : α) :
    Scalar.select (BitVec.ofBool (decide p)) A B = if p then A else B := by
  by_cases h : p <;> simp [h, Scalar.select]

theorem select_eq_ofNat {α : Type} {r k : Nat} (hr : r < 2 ^ 32) (hk : k < 2 ^ 32) (A B : α) :
    Scalar.select (IntOp.cmpi CmpIPredicate.eq (BitVec.ofNat 32 r) (BitVec.ofNat 32 k)) A B = if r = k then A else B := by
  rw [WordCmp.cmpi_eq_ofNat hr hk, select_ofBool]

theorem select_sgt_ofNat {α : Type} {r k : Nat} (hr : r < 2 ^ 31) (hk : k < 2 ^ 31) (A B : α) :
    Scalar.select (Scalar.cmpi CmpIPredicate.sgt (BitVec.ofNat 32 r) (BitVec.ofNat 32 k)) A B = if k < r then A else B := by
  show Scalar.select (IntOp.cmpi CmpIPredicate.sgt _ _) A B = _
  rw [WordCmp.cmpi_sgt_ofNat hr hk, select_ofBool]

theorem select_slt_ofNat {α : Type} {r k : Nat} (hr : r < 2 ^ 31) (hk : k < 2 ^ 31) (A B : α) :
    Scalar.select (Scalar.cmpi CmpIPredicate.slt (BitVec.ofNat 32 r) (BitVec.ofNat 32 k)) A B = if r < k then A else B := by
  show Scalar.select (IntOp.cmpi CmpIPredicate.slt _ _) A B = _
  rw [WordCmp.cmpi_slt_ofNat hr hk, select_ofBool]

theorem sitofp_f32_zero : (FloatOps.sitofp FTy.f32 (0#32 : BitVec 32) : Ideal .f32) = 0 := by
  show (((0#32 : BitVec 32).toInt : ℝ) : EReal) = 0
  simp

/-- A two-axis array put below `p` rows of zeros (and above some), at an index. -/
theorem pad_rows_apply {a b a' : Nat} (p q : Nat) (X : Shape.Idx ⟨2, ![a, b]⟩ → EReal) {u : Shape} (v : u.Idx → EReal)
    (h : Shape.Pads ⟨2, ![a, b]⟩ ![p, 0] ![q, 0] ![0, 0] ⟨2, ![a', b]⟩) (hu : 0 < u.numel) (hv : v (Shape.Idx.first hu) = 0)
    (n : Fin a') (k : Fin b) :
    pad ⟨2, ![a', b]⟩ ![p, 0] ![q, 0] ![0, 0] X v h hu (ix2 n k) = if p ≤ n.val then at2 X (n.val - p) k.val else 0 := by
  by_cases hn : p ≤ n.val ∧ n.val - p < a
  · rw [if_pos hn.1, at2_of_lt X hn.2 k.isLt]
    refine pad_apply_of_inside _ _ _ X v h hu (ix2 n k) (ix2 ⟨n.val - p, hn.2⟩ k) fun ax => ?_
    fin_cases ax
    · show n.val = p + (n.val - p) * (0 + 1)
      omega
    · show k.val = 0 + k.val * (0 + 1)
      omega
  · have e : pad ⟨2, ![a', b]⟩ ![p, 0] ![q, 0] ![0, 0] X v h hu (ix2 n k) = v (Shape.Idx.first hu) := by
      refine pad_apply_of_not_inside _ _ _ X v h hu (ix2 n k) 0 ?_
      show ¬(p ≤ n.val ∧ (n.val - p) % (0 + 1) = 0 ∧ (n.val - p) / (0 + 1) < a)
      intro hh
      exact hn ⟨hh.1, by have := hh.2.2; omega⟩
    rw [e, hv]
    by_cases h1 : p ≤ n.val
    · rw [if_pos h1, at2_row_ge X (by omega)]
    · rw [if_neg h1]

end Cert.Arrays

end
-- ==== Proof.ConvIndex.lean ====
/- The gradient of the short gated convolution at an index, over the extended reals: what the blocks that a grid point
   loads are in the argument arrays, and what the blocks it writes are there. -/
module

public import proofs.«01_k».proof.Proof.ConvBlocks
public import proofs.«01_k».proof.Proof.Arrays
public import Idealize.ShloMosaic.Lib.Pipeline.ValueKit

@[expose] public section

set_option maxRecDepth 16384

noncomputable section

namespace Cert.KernelIdeal.Conv

open Cert.KernelIdeal Cert.KernelIdeal.Gen Cert.Arrays Idealize.ShloMosaic Idealize.ShloMosaic.TcCoe Idealize.SL.Sem

variable (m : (ℓ : Loc nD τ sig) → Buf (Elt Ideal) ℓ) (c : Dev nD)

/-- The four arguments as arrays of extended reals. -/
def argP : Shape.Idx ⟨2, ![8192, 3072]⟩ → EReal := m ((c : Thread nD τ).loc main_arg0)
def argD : Shape.Idx ⟨2, ![8192, 1024]⟩ → EReal := m ((c : Thread nD τ).loc main_arg1)
def argW : Shape.Idx ⟨2, ![3, 512]⟩ → EReal := m ((c : Thread nD τ).loc main_arg2)
def argB : Shape.Idx ⟨2, ![1, 512]⟩ → EReal := m ((c : Thread nD τ).loc main_arg3)

theorem lt16 (t : Fin cfg0.N) : t.val < 16 := lt_of_lt_of_eq t.isLt N_0

theorem coord1 : ∀ t : Fin cfg0.N, (grid0.coords t 1).val = t.val % 8 :=
  (by decide +kernel : ∀ t : Fin grid0.N, (grid0.coords t 1).val = t.val % 8)

theorem idx0 : ∀ t : Fin cfg0.N, win0_0.index t = ![t.val % 8, t.val / 8] := (by decide +kernel : ∀ t : Fin grid0.N, _)
theorem idx1 : ∀ t : Fin cfg0.N, win0_1.index t = ![t.val % 8, 2 + t.val / 8] := (by decide +kernel : ∀ t : Fin grid0.N, _)
theorem idx2 : ∀ t : Fin cfg0.N, win0_2.index t = ![t.val % 8, 4 + t.val / 8] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val % 8 * 128 - 1, 2 + t.val / 8] := (by decide +kernel : ∀ t : Fin grid0.N, _)
theorem idx5 : ∀ t : Fin cfg0.N, win0_5.index t = ![t.val % 8 * 128 - 1, 4 + t.val / 8] := (by decide +kernel : ∀ t : Fin grid0.N, _)
theorem idx6 : ∀ t : Fin cfg0.N, win0_6.index t = ![min (t.val % 8 * 128 + 128) 1023, t.val / 8] := (by decide +kernel : ∀ t : Fin grid0.N, _)
theorem idx7 : ∀ t : Fin cfg0.N, win0_7.index t = ![min (t.val % 8 * 128 + 128) 1023, t.val / 8] := (by decide +kernel : ∀ t : Fin grid0.N, _)
theorem idx8 : ∀ t : Fin cfg0.N, win0_8.index t = ![0, t.val / 8] := (by decide +kernel : ∀ t : Fin grid0.N, _)
theorem idx9 : ∀ t : Fin cfg0.N, win0_9.index t = ![0, t.val / 8] := (by decide +kernel : ∀ t : Fin grid0.N, _)
theorem idx10 : ∀ t : Fin cfg0.N, win0_10.index t = ![t.val % 8, t.val / 8] := (by decide +kernel : ∀ t : Fin grid0.N, _)
theorem idx11 : ∀ t : Fin cfg0.N, win0_11.index t = ![t.val % 8, t.val / 8] := (by decide +kernel : ∀ t : Fin grid0.N, _)
theorem idx12 : ∀ t : Fin cfg0.N, win0_12.index t = ![t.val % 8, t.val / 8] := (by decide +kernel : ∀ t : Fin grid0.N, _)
theorem idx13 : ∀ t : Fin cfg0.N, win0_13.index t = ![0, t.val / 8] := (by decide +kernel : ∀ t : Fin grid0.N, _)

/-- The weights as the call takes them: padded to eight rows by zeros. -/
theorem entry_weights : V m c main_v0 = pad S8x512 ![0, 0] ![5, 0] ![0, 0] (m ((c : Thread nD τ).loc main_arg2))
    (sitofp .f32 (constantI S_ 32 0#32) : FVec Ideal S_ .f32) pads_S3x512_S8x512_050_000 h_S_ := by
  unfold V
  simp only [hostOps0, hostOps0_1, List.flatten_cons, List.flatten_nil, List.append_nil, List.cons_append, List.nil_append]
  entry_read
  rfl

section Reads

variable (t : Fin cfg0.N) (r : Fin 1024) (h : Fin 8) (l : Fin 256)

theorem read0 : iblk m c 0 t (ix2 r l) = at2 (argP m c) (1024 * (t.val % 8) + r.val) (256 * (t.val / 8) + l.val) := by
  have := lt16 t
  rw [at2_of_lt _ (by omega) (by omega)]
  unfold argP
  blk_ext [iblk, V_main_arg0, idx0 t]

theorem read1 : iblk m c 1 t (ix2 r l) = at2 (argP m c) (1024 * (t.val % 8) + r.val) (512 + (256 * (t.val / 8) + l.val)) := by
  have := lt16 t
  rw [at2_of_lt _ (by omega) (by omega)]
  unfold argP
  blk_ext [iblk, V_main_arg0, idx1 t]

theorem read2 : iblk m c 2 t (ix2 r l) = at2 (argP m c) (1024 * (t.val % 8) + r.val) (1024 + (256 * (t.val / 8) + l.val)) := by
  have := lt16 t
  rw [at2_of_lt _ (by omega) (by omega)]
  unfold argP
  blk_ext [iblk, V_main_arg0, idx2 t]

theorem read3 : iblk m c 3 t (ix2 r l) = at2 (argD m c) (1024 * (t.val % 8) + r.val) (256 * (t.val / 8) + l.val) := by
  have := lt16 t
  rw [at2_of_lt _ (by omega) (by omega)]
  unfold argD
  blk_ext [iblk, V_main_arg1, idx3 t]

theorem read4 : iblk m c 4 t (ix2 h l) = at2 (argP m c) (8 * (t.val % 8 * 128 - 1) + h.val) (512 + (256 * (t.val / 8) + l.val)) := by
  have := lt16 t
  rw [at2_of_lt _ (by omega) (by omega)]
  unfold argP
  blk_ext [iblk, V_main_arg0, idx4 t]

theorem read5 : iblk m c 5 t (ix2 h l) = at2 (argP m c) (8 * (t.val % 8 * 128 - 1) + h.val) (1024 + (256 * (t.val / 8) + l.val)) := by
  have := lt16 t
  rw [at2_of_lt _ (by omega) (by omega)]
  unfold argP
  blk_ext [iblk, V_main_arg0, idx5 t]

theorem read6 : iblk m c 6 t (ix2 h l) = at2 (argP m c) (8 * min (t.val % 8 * 128 + 128) 1023 + h.val) (256 * (t.val / 8) + l.val) := by
  have := lt16 t
  rw [at2_of_lt _ (by omega) (by omega)]
  unfold argP
  blk_ext [iblk, V_main_arg0, idx6 t]

theorem read7 : iblk m c 7 t (ix2 h l) = at2 (argD m c) (8 * min (t.val % 8 * 128 + 128) 1023 + h.val) (256 * (t.val / 8) + l.val) := by
  have := lt16 t
  rw [at2_of_lt _ (by omega) (by omega)]
  unfold argD
  blk_ext [iblk, V_main_arg1, idx7 t]

theorem read8 : iblk m c 8 t (ix2 h l) = at2 (argW m c) h.val (256 * (t.val / 8) + l.val) := by
  have := lt16 t
  have e : iblk m c 8 t (ix2 h l) = V m c main_v0 ((win0_8.blk t).view.emb (ix2 h l)) := by blk_simp [iblk]
  have e2 : (win0_8.blk t).view.emb (ix2 h l) = (ix2 h ⟨256 * (t.val / 8) + l.val, by omega⟩ : S8x512.Idx) := by
    blk_ext [idx8 t]
  rw [e, entry_weights, e2]
  refine (pad_rows_apply 0 5 _ _ _ _ ?_ _ _).trans ?_
  · pointwise []
    exact sitofp_f32_zero
  · rfl

theorem read9 : iblk m c 9 t (ix2 (0 : Fin 1) l) = at2 (argB m c) 0 (256 * (t.val / 8) + l.val) := by
  have := lt16 t
  rw [at2_of_lt _ (by omega) (by omega)]
  unfold argB
  blk_ext [iblk, V_main_arg3, idx9 t]

end Reads

/-- The gated product `c * u` with two rows of zeros above it, at row `n` and column `k`. -/
def zat (P : Shape.Idx ⟨2, ![8192, 3072]⟩ → EReal) (n k : Nat) : EReal :=
  if n < 2 then 0 else at2 P (n - 2) (512 + k) * at2 P (n - 2) (1024 + k)

/-- The gradient arriving at the convolution's output, `dy * b`: zero below the last row. -/
def gat (P : Shape.Idx ⟨2, ![8192, 3072]⟩ → EReal) (D : Shape.Idx ⟨2, ![8192, 1024]⟩ → EReal) (n k : Nat) : EReal :=
  at2 D n k * at2 P n k

section Points

variable (t : Fin cfg0.N) (r : Fin 1024) (h : Fin 8) (l : Fin 256)

theorem point_z0 : k0_pay3 (iblk m c 1 t) (iblk m c 2 t) (ix2 r l)
    = zat (argP m c) (1024 * (t.val % 8) + r.val + 2) (256 * (t.val / 8) + l.val) := by
  unfold zat
  rw [if_neg (by omega), Nat.add_sub_cancel, ← read1, ← read2]
  pointwise [k0_pay3]

theorem halo_z : k0_pay4 (grid0.coords t) (iblk m c 4 t) (iblk m c 5 t) (ix2 h l)
    = if 0 < t.val % 8 then at2 (argP m c) (8 * (t.val % 8 * 128 - 1) + h.val) (512 + (256 * (t.val / 8) + l.val))
        * at2 (argP m c) (8 * (t.val % 8 * 128 - 1) + h.val) (1024 + (256 * (t.val / 8) + l.val)) else 0 := by
  rw [← read4, ← read5]
  pointwise [k0_pay4]
  rw [coord1, select_sgt_ofNat (by omega) (by omega)]

theorem point_z2 : k0_pay6 (grid0.coords t) (iblk m c 1 t) (iblk m c 2 t) (iblk m c 4 t) (iblk m c 5 t) (ix2 r l)
    = zat (argP m c) (1024 * (t.val % 8) + r.val) (256 * (t.val / 8) + l.val) := by
  have h6 := halo_z m c t 6 l
  have h7 := halo_z m c t 7 l
  pointwise [k0_pay6]
  rw [select_eq_ofNat (by omega) (by omega), select_eq_ofNat (by omega) (by omega), h6, h7, point_z0]
  unfold zat
  have := r.isLt
  by_cases h1 : r.val = 1
  · rw [if_pos h1]
    by_cases h0 : 0 < t.val % 8
    · rw [if_pos h0, if_neg (by omega)]
      congr 2 <;> (show _ + 7 = _; omega)
    · rw [if_neg h0, if_pos (by omega)]
  rw [if_neg h1]
  by_cases h2 : r.val = 0
  · rw [if_pos h2]
    by_cases h0 : 0 < t.val % 8
    · rw [if_pos h0, if_neg (by omega)]
      congr 2 <;> (show _ + 6 = _; omega)
    · rw [if_neg h0, if_pos (by omega)]
  rw [if_neg h2, if_neg (by omega), if_neg (by omega)]
  dsimp only
  congr 2 <;> omega

theorem point_z1 : k0_pay10 (k0_pay7 (iblk m c 1 t) (iblk m c 2 t)) k0_pay8
      (k0_pay9 (grid0.coords t) (iblk m c 4 t) (iblk m c 5 t)) (ix2 r l)
    = zat (argP m c) (1024 * (t.val % 8) + r.val + 1) (256 * (t.val / 8) + l.val) := by
  have h7 := halo_z m c t 7 l
  pointwise [k0_pay10, k0_pay7, k0_pay8, k0_pay9]
  rw [select_eq_ofNat (by omega) (by omega), h7, point_z0]
  unfold zat
  have := r.isLt
  by_cases h2 : r.val = 0
  · rw [if_pos h2]
    by_cases h0 : 0 < t.val % 8
    · rw [if_pos h0, if_neg (by omega)]
      congr 2 <;> (show _ + 7 = _; omega)
    · rw [if_neg h0, if_pos (by omega)]
  rw [if_neg h2, if_neg (by omega), if_neg (by omega)]
  dsimp only
  congr 2 <;> omega

theorem point_g : k0_pay12 (iblk m c 0 t) (iblk m c 3 t) (ix2 r l)
    = gat (argP m c) (argD m c) (1024 * (t.val % 8) + r.val) (256 * (t.val / 8) + l.val) := by
  unfold gat
  rw [← read0, ← read3]
  pointwise [k0_pay12]

/-- What the convolution gives before its gate, at an index. -/
def yat (P : Shape.Idx ⟨2, ![8192, 3072]⟩ → EReal) (W : Shape.Idx ⟨2, ![3, 512]⟩ → EReal) (B : Shape.Idx ⟨2, ![1, 512]⟩ → EReal)
    (n k : Nat) : EReal :=
  at2 W 0 k * zat P n k + at2 W 1 k * zat P (n + 1) k + at2 W 2 k * zat P (n + 2) k + at2 B 0 k

/-- The gradient of the gated product, at an index. -/
def dzat (P : Shape.Idx ⟨2, ![8192, 3072]⟩ → EReal) (D : Shape.Idx ⟨2, ![8192, 1024]⟩ → EReal) (W : Shape.Idx ⟨2, ![3, 512]⟩ → EReal)
    (n k : Nat) : EReal :=
  at2 W 2 k * gat P D n k + at2 W 1 k * gat P D (n + 1) k + at2 W 0 k * gat P D (n + 2) k

theorem point_db : dbBlk (grid0.coords t) (iblk m c 1 t) (iblk m c 2 t) (iblk m c 3 t) (iblk m c 4 t)
      (iblk m c 5 t) (iblk m c 8 t) (iblk m c 9 t) (ix2 r l)
    = at2 (argD m c) (1024 * (t.val % 8) + r.val) (256 * (t.val / 8) + l.val)
      * yat (argP m c) (argW m c) (argB m c) (1024 * (t.val % 8) + r.val) (256 * (t.val / 8) + l.val) := by
  unfold yat
  rw [← point_z0, ← point_z1, ← point_z2, ← read3, ← read9]
  have w0 := read8 m c t 0 l
  have w1 := read8 m c t 1 l
  have w2 := read8 m c t 2 l
  simp only [Fin.val_zero, Fin.val_one, Fin.val_two, Fin.isValue] at w0 w1 w2
  pointwise [dbBlk, k0_pay11, k0_pay5]
  rw [w0, w1, w2]

theorem point_dz : dzBlk (grid0.coords t) (iblk m c 0 t) (iblk m c 3 t) (iblk m c 6 t) (iblk m c 7 t) (iblk m c 8 t) (ix2 r l)
    = dzat (argP m c) (argD m c) (argW m c) (1024 * (t.val % 8) + r.val) (256 * (t.val / 8) + l.val) := by
  have w0 := read8 m c t 0 l
  have w1 := read8 m c t 1 l
  have w2 := read8 m c t 2 l
  have a0 := read6 m c t 0 l
  have a1 := read6 m c t 1 l
  have b0 := read7 m c t 0 l
  have b1 := read7 m c t 1 l
  have g0 := point_g m c t r l
  have hl := lt16 t
  have hr := r.isLt
  simp only [Fin.val_zero, Fin.val_one, Fin.val_two, Fin.isValue] at w0 w1 w2 a0 a1 b0 b1
  pointwise [dzBlk, rows, k0_pay18, k0_pay13, k0_pay14, k0_pay15, k0_pay16, k0_pay17, k0_pay5]
  rw [g0, point_g, point_g, w0, w1, w2, a0, a1, b0, b1, coord1]
  simp only [select_eq_ofNat (show r.val < 2 ^ 32 by omega) (show 1023 < 2 ^ 32 by omega),
    select_eq_ofNat (show r.val < 2 ^ 32 by omega) (show 1022 < 2 ^ 32 by omega),
    select_slt_ofNat (show t.val % 8 < 2 ^ 31 by omega) (show 7 < 2 ^ 31 by omega)]
  have halo : ∀ j : Nat, j < 2 → (if t.val % 8 < 7 then
      at2 (argD m c) (8 * min (t.val % 8 * 128 + 128) 1023 + j) (256 * (t.val / 8) + l.val)
        * at2 (argP m c) (8 * min (t.val % 8 * 128 + 128) 1023 + j) (256 * (t.val / 8) + l.val) else 0)
      = gat (argP m c) (argD m c) (1024 * (t.val % 8) + 1024 + j) (256 * (t.val / 8) + l.val) := fun j hj => by
    unfold gat
    by_cases h7 : t.val % 8 < 7
    · rw [if_pos h7]
      congr 2 <;> omega
    · rw [if_neg h7, at2_row_ge _ (by omega), zero_mul]
  rw [halo 0 (by omega), halo 1 (by omega)]
  unfold dzat
  have e1 : (if r.val = 1023 then gat (argP m c) (argD m c) (1024 * (t.val % 8) + 1024 + 0) (256 * (t.val / 8) + l.val)
      else gat (argP m c) (argD m c) (1024 * (t.val % 8) + (r.val + 1024 - 1023) % 1024) (256 * (t.val / 8) + l.val))
      = gat (argP m c) (argD m c) (1024 * (t.val % 8) + r.val + 1) (256 * (t.val / 8) + l.val) := by
    by_cases h1 : r.val = 1023
    · rw [if_pos h1]
      congr 1
      omega
    · rw [if_neg h1]
      congr 1
      omega
  have e2 : (if r.val = 1023 then gat (argP m c) (argD m c) (1024 * (t.val % 8) + 1024 + 1) (256 * (t.val / 8) + l.val)
      else if r.val = 1022 then gat (argP m c) (argD m c) (1024 * (t.val % 8) + 1024 + 0) (256 * (t.val / 8) + l.val)
      else gat (argP m c) (argD m c) (1024 * (t.val % 8) + (r.val + 1024 - 1022) % 1024) (256 * (t.val / 8) + l.val))
      = gat (argP m c) (argD m c) (1024 * (t.val % 8) + r.val + 2) (256 * (t.val / 8) + l.val) := by
    by_cases h1 : r.val = 1023
    · rw [if_pos h1]
      congr 1
      omega
    rw [if_neg h1]
    by_cases h2 : r.val = 1022
    · rw [if_pos h2]
      congr 1
      omega
    · rw [if_neg h2]
      congr 1
      omega
  rw [e1, e2]

/-- One of the eight rows of the weights' gradient, summed over the rows of one block. -/
def dwTerm (P : Shape.Idx ⟨2, ![8192, 3072]⟩ → EReal) (D : Shape.Idx ⟨2, ![8192, 1024]⟩ → EReal) (h n k : Nat) : EReal :=
  if h < 3 then gat P D n k * zat P (n + h) k else if h = 3 then gat P D n k else 0

theorem point_dw (acc : Vec Ideal S8x256 .f32) : dwBlk (grid0.coords t) (iblk m c 0 t) (iblk m c 1 t) (iblk m c 2 t) (iblk m c 3 t) (iblk m c 4 t)
      (iblk m c 5 t) acc (ix2 h l)
    = acc (ix2 h l) + ∑ x : Fin 1024, dwTerm (argP m c) (argD m c) h.val (1024 * (t.val % 8) + x.val) (256 * (t.val / 8) + l.val) := by
  have hh := h.isLt
  pointwise [dwBlk, k0_pay1, k0_pay21, k0_pay22, k0_pay23, k0_pay24]
  congr 1
  rw [select_eq_ofNat (by omega) (by omega), select_eq_ofNat (by omega) (by omega), select_eq_ofNat (by omega) (by omega),
    select_eq_ofNat (by omega) (by omega)]
  simp only [point_g, point_z0, point_z1, point_z2]
  unfold dwTerm
  by_cases h3 : h.val = 3
  · simp [h3]
  by_cases h2 : h.val = 2
  · simp [h2]
  by_cases h1 : h.val = 1
  · simp [h1]
  by_cases h0 : h.val = 0
  · simp [h0]
  simp [h0, h1, h2, h3, show ¬ h.val < 3 by omega]

end Points

end Cert.KernelIdeal.Conv

end
-- ==== Proof.ConvArrays.lean ====
/- The four arrays that the call for the gradient of the short gated convolution leaves, at an index. -/
module

public import proofs.«01_k».proof.Proof.ConvIndex

@[expose] public section

set_option maxRecDepth 16384

noncomputable section

namespace Cert.KernelIdeal.Conv

open Cert.KernelIdeal Cert.KernelIdeal.Gen Cert.Arrays Idealize.ShloMosaic Idealize.ShloMosaic.TcCoe Idealize.SL.Sem

variable (m : (ℓ : Loc nD τ sig) → Buf (Elt Ideal) ℓ) (c : Dev nD)

/-- The gradients of `b`, `c`, `u`, and the eight rows with the gradients of the weights and of the bias. -/
def DB : S8192x512.Idx → EReal := fun j =>
  at2 (argD m c) (j 0).val (j 1).val * yat (argP m c) (argW m c) (argB m c) (j 0).val (j 1).val
def DC : S8192x512.Idx → EReal := fun j =>
  dzat (argP m c) (argD m c) (argW m c) (j 0).val (j 1).val * at2 (argP m c) (j 0).val (1024 + (j 1).val)
def DU : S8192x512.Idx → EReal := fun j =>
  dzat (argP m c) (argD m c) (argW m c) (j 0).val (j 1).val * at2 (argP m c) (j 0).val (512 + (j 1).val)
def DW : S8x512.Idx → EReal := fun j =>
  ∑ n : Fin 8192, dwTerm (argP m c) (argD m c) (j 0).val n.val (j 1).val

theorem db_at (t : Fin cfg0.N) (y : S1024x256.Idx) :
    (outsAt0 m c t.val t.isLt).1 y = DB m c ((win0_10.blk t).view.emb y) := by
  obtain ⟨r, l, rfl⟩ : ∃ (r : Fin 1024) (l : Fin 256), y = ix2 r l := ⟨_, _, eq_ix2 y⟩
  rw [outs_db, point_db]
  have h0 : (((win0_10.blk t).view.emb (ix2 r l) : S8192x512.Idx) 0).val = 1024 * (t.val % 8) + r.val := by
    blk_simp [idx10 t]
    simp
    omega
  have h1 : (((win0_10.blk t).view.emb (ix2 r l) : S8192x512.Idx) 1).val = 256 * (t.val / 8) + l.val := by
    blk_simp [idx10 t]
    simp
    omega
  unfold DB
  rw [h0, h1]

theorem dc_at (t : Fin cfg0.N) (y : S1024x256.Idx) :
    (outsAt0 m c t.val t.isLt).2.1 y = DC m c ((win0_11.blk t).view.emb y) := by
  obtain ⟨r, l, rfl⟩ : ∃ (r : Fin 1024) (l : Fin 256), y = ix2 r l := ⟨_, _, eq_ix2 y⟩
  have h0 : (((win0_11.blk t).view.emb (ix2 r l) : S8192x512.Idx) 0).val = 1024 * (t.val % 8) + r.val := by
    blk_simp [idx11 t]
    simp
    omega
  have h1 : (((win0_11.blk t).view.emb (ix2 r l) : S8192x512.Idx) 1).val = 256 * (t.val / 8) + l.val := by
    blk_simp [idx11 t]
    simp
    omega
  unfold DC
  rw [outs_dc, h0, h1, ← point_dz, ← read2]
  pointwise []

theorem du_at (t : Fin cfg0.N) (y : S1024x256.Idx) :
    (outsAt0 m c t.val t.isLt).2.2.1 y = DU m c ((win0_12.blk t).view.emb y) := by
  obtain ⟨r, l, rfl⟩ : ∃ (r : Fin 1024) (l : Fin 256), y = ix2 r l := ⟨_, _, eq_ix2 y⟩
  have h0 : (((win0_12.blk t).view.emb (ix2 r l) : S8192x512.Idx) 0).val = 1024 * (t.val % 8) + r.val := by
    blk_simp [idx12 t]
    simp
    omega
  have h1 : (((win0_12.blk t).view.emb (ix2 r l) : S8192x512.Idx) 1).val = 256 * (t.val / 8) + l.val := by
    blk_simp [idx12 t]
    simp
    omega
  unfold DU
  rw [outs_du, h0, h1, ← point_dz, ← read1]
  pointwise []

theorem dw_at (t : Fin cfg0.N) (hf : t.val % 8 = 7) (y : S8x256.Idx) :
    (outsAt0 m c t.val t.isLt).2.2.2 y = DW m c ((win0_13.blk t).view.emb y) := by
  have key := Pipeline.eq_sum_fin_of_reset_step_apply_of_flush (fun n h => (outsAt0 m c n h).2.2.2) 8 (fun _ => (0 : EReal))
    (fun t j => ∑ x : Fin 1024, dwTerm (argP m c) (argD m c) (j 0).val (1024 * (t.val % 8) + x.val) (256 * (t.val / 8) + (j 1).val))
    (fun t h0 j => by
      obtain ⟨r, l, rfl⟩ : ∃ (r : Fin 8) (l : Fin 256), j = ix2 r l := ⟨_, _, eq_ix2 j⟩
      dsimp only
      rw [outs_dw_first m c t h0, point_dw]
      pointwise [k0_pay2])
    (fun t h0 j => by
      obtain ⟨r, l, rfl⟩ : ∃ (r : Fin 8) (l : Fin 256), j = ix2 r l := ⟨_, _, eq_ix2 j⟩
      dsimp only
      rw [outs_dw_next m c t h0, point_dw]
      rfl) t hf y
  refine key.trans ?_
  obtain ⟨r, l, rfl⟩ : ∃ (r : Fin 8) (l : Fin 256), y = ix2 r l := ⟨_, _, eq_ix2 y⟩
  have h0 : (((win0_13.blk t).view.emb (ix2 r l) : S8x512.Idx) 0).val = r.val := by
    blk_simp [idx13 t]
  have h1 : (((win0_13.blk t).view.emb (ix2 r l) : S8x512.Idx) 1).val = 256 * (t.val / 8) + l.val := by
    blk_simp [idx13 t]
    simp
    omega
  unfold DW
  rw [h0, h1, zero_add]
  have hl := lt16 t
  refine Fin.sum_mul_add_congr fun s x hx => ?_
  show dwTerm (argP m c) (argD m c) r.val (1024 * ((8 * (t.val / 8) + s.val) % 8) + x.val) (256 * ((8 * (t.val / 8) + s.val) / 8) + l.val)
    = dwTerm (argP m c) (argD m c) r.val (s.val * 1024 + x.val) (256 * (t.val / 8) + l.val)
  have hs := s.isLt
  congr 1 <;> omega

theorem arr_db : (dats m 0 c).arrAt 10 cfg0.N = DB m c := by
  refine (dats m 0 c).arrAt_eq_of_covers 10 _ (by decide +kernel) fun t hf y => ?_
  blk_simp
  rw [after0_10]
  exact db_at m c t y

theorem arr_dc : (dats m 0 c).arrAt 11 cfg0.N = DC m c := by
  refine (dats m 0 c).arrAt_eq_of_covers 11 _ (by decide +kernel) fun t hf y => ?_
  blk_simp
  rw [after0_11]
  exact dc_at m c t y

theorem arr_du : (dats m 0 c).arrAt 12 cfg0.N = DU m c := by
  refine (dats m 0 c).arrAt_eq_of_covers 12 _ (by decide +kernel) fun t hf y => ?_
  blk_simp
  rw [after0_12]
  exact du_at m c t y

theorem arr_dw : (dats m 0 c).arrAt 13 cfg0.N = DW m c := by
  refine (dats m 0 c).arrAt_eq_of_covers 13 _ (by decide +kernel) fun t hf y => ?_
  blk_simp
  rw [after0_13]
  exact dw_at m c t ((flush0_13 t).mp hf) y

end Cert.KernelIdeal.Conv

end
-- ==== Proof.ConvRef.lean ====
/- What the reference for the gradient of the short gated convolution computes, at an index. -/
module

public import proofs.«01_k».proof.Proof.Gen.ReferenceIdeal.Read
public import proofs.«01_k».proof.Proof.ConvIndex

@[expose] public section

set_option maxRecDepth 16384

noncomputable section

namespace Cert.ReferenceIdeal.Conv

open Cert.ReferenceIdeal Cert.ReferenceIdeal.Read Cert.Arrays Idealize.ShloMosaic Idealize.ShloMosaic.TcCoe
open Cert.KernelIdeal.Conv (zat gat yat dzat dwTerm)

variable (P : (⟨S8192x3072, .f32⟩ : BufTy).Contents (Elt Ideal)) (D : (⟨S8192x1024, .f32⟩ : BufTy).Contents (Elt Ideal))
  (W : (⟨S3x512, .f32⟩ : BufTy).Contents (Elt Ideal)) (B : (⟨S1x512, .f32⟩ : BufTy).Contents (Elt Ideal))

theorem ref_z (n : Fin 8194) (k : Fin 512) : val_main_v5 (F := Ideal) P (ix2 n k) = zat P n.val k.val := by
  unfold zat
  pointwise [val_main_v5, val_main_v3, val_main_v4, val_main_v1, val_main_v2, val_main_cst]
  by_cases h : n.val < 2
  · rw [dif_pos h, if_pos h]
  · rw [dif_neg h, if_neg h, at2_of_lt P (by omega) (by omega), at2_of_lt P (by omega) (by omega)]

theorem ref_g (n : Fin 8192) (k : Fin 512) : val_main_v25 (F := Ideal) P D (ix2 n k) = gat P D n.val k.val := by
  unfold gat
  rw [at2_of_lt D n.isLt (by omega), at2_of_lt P n.isLt (by omega), mul_comm]
  pointwise [val_main_v25, val_main_v0, val_main_v24]

theorem ref_db (n : Fin 8192) (k : Fin 512) :
    val_main_v60 (F := Ideal) P D W B (ix2 n k) = at2 D n.val k.val * yat P W B n.val k.val := by
  pointwise [val_main_v60, val_main_v26, val_main_v22, val_main_v24, val_main_v20, val_main_v21, val_main_v19, val_main_v15, val_main_v14,
    val_main_v10, val_main_v9, val_main_v7, val_main_v8, val_main_v13, val_main_v12, val_main_v11, val_main_v16, val_main_v17, val_main_v18]
  unfold yat
  rw [ref_z, ref_z, ref_z, at2_of_lt D n.isLt (by omega), at2_of_lt W (by omega) k.isLt, at2_of_lt W (by omega) k.isLt,
    at2_of_lt W (by omega) k.isLt, at2_of_lt B (by omega) k.isLt, Nat.add_comm n.val 1, Nat.add_comm n.val 2]
  rfl

theorem ref_w2g (n : Fin 8192) (k : Fin 512) : val_main_v30 (F := Ideal) P D W (ix2 n k) = at2 W 2 k.val * gat P D n.val k.val := by
  rw [← ref_g, at2_of_lt W (by omega) k.isLt]
  pointwise [val_main_v30, val_main_v29, val_main_v16]

theorem ref_w1g (n : Fin 8192) (k : Fin 512) : val_main_v37 (F := Ideal) P D W (ix2 n k) = at2 W 1 k.val * gat P D n.val k.val := by
  rw [← ref_g, at2_of_lt W (by omega) k.isLt]
  pointwise [val_main_v37, val_main_v36, val_main_v11]

theorem ref_w0g (n : Fin 8192) (k : Fin 512) : val_main_v46 (F := Ideal) P D W (ix2 n k) = at2 W 0 k.val * gat P D n.val k.val := by
  rw [← ref_g, at2_of_lt W (by omega) k.isLt]
  pointwise [val_main_v46, val_main_v45, val_main_v7]

theorem ref_dz (n : Fin 8192) (k : Fin 512) :
    val_main_v55 (F := Ideal) P D W (ix2 n k) = dzat P D W n.val k.val := by
  pointwise [val_main_v55, val_main_v51, val_main_v42, val_main_v34, val_main_v41, val_main_v50, val_main_cst_6, val_main_cst_9]
  rw [ref_w2g]
  unfold dzat
  congr 1
  · congr 1
    by_cases h : n.val + 1 < 8192
    · rw [dif_pos ⟨by omega, by omega⟩, ref_w1g]
      congr 2
      show 2 + n.val - 1 = n.val + 1
      omega
    · rw [dif_neg (by omega)]
      unfold gat
      rw [at2_row_ge D (by omega), zero_mul, mul_zero]
  · by_cases h : n.val + 2 < 8192
    · rw [dif_pos (by omega), ref_w0g]
      congr 2
      show 2 + n.val = n.val + 2
      omega
    · rw [dif_neg (by omega)]
      unfold gat
      rw [at2_row_ge D (by omega), zero_mul, mul_zero]

theorem ref_dw0 (k : Fin 512) : val_main_v49 (F := Ideal) P D (ix2 0 k) = ∑ x : Fin 8192, gat P D x.val k.val * zat P x.val k.val := by
  pointwise [val_main_v49, val_main_v48, val_main_v47, val_main_v8, val_main_cst_8]
  simp only [ref_g, ref_z]

theorem ref_dw1 (k : Fin 512) : val_main_v40 (F := Ideal) P D (ix2 0 k) = ∑ x : Fin 8192, gat P D x.val k.val * zat P (x.val + 1) k.val := by
  pointwise [val_main_v40, val_main_v39, val_main_v38, val_main_v12, val_main_cst_5]
  simp only [ref_g, ref_z, Nat.add_comm 1]

theorem ref_dw2 (k : Fin 512) : val_main_v33 (F := Ideal) P D (ix2 0 k) = ∑ x : Fin 8192, gat P D x.val k.val * zat P (x.val + 2) k.val := by
  pointwise [val_main_v33, val_main_v32, val_main_v31, val_main_v17, val_main_cst_2]
  simp only [ref_g, ref_z, Nat.add_comm 2]

theorem ref_dbias (k : Fin 512) : val_main_v27 (F := Ideal) P D (ix1 k) = ∑ x : Fin 8192, gat P D x.val k.val := by
  pointwise [val_main_v27, val_main_cst_1]
  simp only [ref_g]

theorem ref_dw (n : Fin 8) (k : Fin 512) :
    val_main_v59 (F := Ideal) P D (ix2 n k) = ∑ x : Fin 8192, dwTerm P D n.val x.val k.val := by
  pointwise [val_main_v59, val_main_v58, val_main_v28, val_main_v53, val_main_v44, val_main_v35, val_main_v43, val_main_v52, val_main_cst_4, val_main_cst_7, val_main_cst_10, val_main_cst_11]
  unfold dwTerm
  have hn := n.isLt
  by_cases h0 : n.val = 0
  · simp [h0, ref_dw0]
  by_cases h1 : n.val = 1
  · simp [h1, ref_dw1]
  by_cases h2 : n.val = 2
  · simp [h2, ref_dw2]
  by_cases h3 : n.val = 3
  · simp [h3, ref_dbias]
  simp [h3, show ¬ n.val < 3 by omega, show ¬ n.val - 3 < 1 by omega]

theorem ref_dc (n : Fin 8192) (k : Fin 512) :
    val_main_v61 (F := Ideal) P D W (ix2 n k) = dzat P D W n.val k.val * at2 P n.val (1024 + k.val) := by
  rw [← ref_dz, at2_of_lt P n.isLt (by omega)]
  pointwise [val_main_v61, val_main_v57, val_main_v2]

theorem ref_du (n : Fin 8192) (k : Fin 512) :
    val_main_v62 (F := Ideal) P D W (ix2 n k) = dzat P D W n.val k.val * at2 P n.val (512 + k.val) := by
  rw [← ref_dz, at2_of_lt P n.isLt (by omega), mul_comm]
  pointwise [val_main_v62, val_main_v56, val_main_v1]

end Cert.ReferenceIdeal.Conv

end
-- ==== Proof.ActRuns.lean ====
module

public import proofs.«01_k».proof.Proof.Gen.Kernel2Ideal.Frame
public import proofs.«01_k».proof.Proof.Gen.Kernel2Ideal.Skeleton
public import Idealize.ShloMosaic.Lib.Exec
public import Idealize.ShloMosaic.Lib.Pipeline.Value

@[expose] public section

set_option maxRecDepth 16384

noncomputable section

/-! One point of the gated block's activation gradient, as a triple of the body on whole buffers: at the first
    hidden block of a row block the body also halves the incoming gradient, rounds it and keeps it in the
    carried buffer; at the other hidden blocks it reads what is kept there. -/

namespace Cert.Kernel2Ideal.Act

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zeros2 : (![0, 0] : Fin 2 → ℕ) = fun _ => 0 := by funext a; fin_cases a <;> rfl

theorem zeros3 : (![0, 0, 0] : Fin 3 → ℕ) = fun _ => 0 := by funext a; fin_cases a <;> rfl

/-- A buffer read after one store over its whole extent is what was stored. -/
theorem read_store {S : Shape} {e : EltTy} (v : View sig .tc .vmem S e) (f) {off : Fin S.rank → ℕ} (h : off = fun _ => 0)
    (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- What is kept and what is written back are the same array. -/
theorem pay3_eq (x : Vec F S512x1024 .f32) : k0_pay3 x = k0_pay2 x := shapeCast_self _ _

section

variable (c : Dev nD) (i : grid0.Coords)
  (arg2 : Memref sig .tc .vmem S512x1024 .f32) (harg2 : arg2.IsWhole)
  (arg3 : Memref sig .tc .vmem S1x512x704 .bf16) (harg3 : arg3.IsWhole)
  (arg4 : Memref sig .tc .vmem S1x512x704 .bf16) (harg4 : arg4.IsWhole)
  (arg5 : Memref sig .tc .vmem S1x704x1024 .bf16) (harg5 : arg5.IsWhole)
  (arg6 : Memref sig .tc .vmem S1x512x704 .bf16) (harg6 : arg6.IsWhole)
  (arg7 : Memref sig .tc .vmem S1x512x704 .bf16) (harg7 : arg7.IsWhole)
  (arg8 : Memref sig .tc .vmem S1x512x704 .bf16) (harg8 : arg8.IsWhole)
  (arg9 : Memref sig .tc .vmem S512x1024 .bf16) (harg9 : arg9.IsWhole)
  (arg10 : Memref sig .tc .vmem S512x1024 .bf16) (harg10 : arg10.IsWhole)
  (x0 : Vec F S512x1024 .f32) (x1 x2 : Vec F S1x512x704 .bf16) (x3 : Vec F S1x704x1024 .bf16)

/-- The body at the first hidden block. -/
theorem body_first (E : Set ℕ) (K : PUnit → sProp 𝕄) (hc : k0_cond1 i = 1#1) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay9 x1 x2)
            ∗ owns (c : Thread nD τ) arg7 fullShare (k0_pay10 x1 x2 (k0_pay3 x0) x3)
            ∗ owns (c : Thread nD τ) arg8 fullShare (k0_pay1 (k0_pay11 x1 (k0_pay3 x0) x3))
            ∗ owns (c : Thread nD τ) arg9 fullShare (k0_pay3 x0)
            ∗ owns (c : Thread nD τ) arg10 fullShare (k0_pay3 x0)) -∗ K ⟨⟩))
      ⊢ wp frame (wpE (defs₀ (F := F)) Variants.none c none) E
          (cc0_ffn_bwd_act i arg2 harg2 arg3 harg3 arg4 harg4 arg5 harg5 arg6 harg6 arg7 harg7 arg8 harg8 arg9 harg9 arg10 harg10) K := by
  simp only [cc0_ffn_bwd_act_eq_skeleton, k0_part1_eq_skeleton]; unfold cc0_ffn_bwd_act_skel; simp only [k0_part1_eq_skeleton]; unfold k0_part1_skel
  unfold owns
  iintro ⟨⟨%f0, %e0, H0⟩, ⟨%f1, %e1, H1⟩, ⟨%f2, %e2, H2⟩, ⟨%f3, %e3, H3⟩, ⟨%d4, %f4, %e4, H4⟩, ⟨%d5, %f5, %e5, H5⟩, ⟨%d6, %f6, %e6, H6⟩, ⟨%d7, %f7, %e7, H7⟩, ⟨%d8, %f8, %e8, H8⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  obtain rfl := harg8.eq_unread e6; obtain rfl := harg9.eq_unread e7; obtain rfl := harg10.eq_unread e8
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_store (S := S1x512x704) _ _ zeros3]
    simp only [View.readAt_eq_ld, Memref.IsWhole.read_unread, View.ld_unit_zero (S := S1x512x704) zeros3]
  isplitl [H5]
  · iexists _; isplitr; swap; · iexact H5
    ipureintro
    sl_unfold_words
    rw [read_store (S := S1x512x704) _ _ zeros3, View.readCov_unit_zero (S := S512x1024) _ zeros2]
    simp only [View.readAt_eq_ld, Memref.IsWhole.read_unread, View.ld_unit_zero (S := S1x512x704) zeros3, View.ld_unit_zero (S := S1x704x1024) zeros3, View.ld_unit_zero (S := S512x1024) zeros2]
  isplitl [H6]
  · iexists _; isplitr; swap; · iexact H6
    ipureintro
    sl_unfold_words
    rw [read_store (S := S1x512x704) _ _ zeros3, View.readCov_unit_zero (S := S512x1024) _ zeros2]
    simp only [View.readAt_eq_ld, Memref.IsWhole.read_unread, View.ld_unit_zero (S := S1x512x704) zeros3, View.ld_unit_zero (S := S1x704x1024) zeros3, View.ld_unit_zero (S := S512x1024) zeros2]
  isplitl [H7]
  · iexists _; isplitr; swap; · iexact H7
    ipureintro
    sl_unfold_words
    rw [read_store (S := S512x1024) _ _ zeros2]
    simp only [View.readAt_eq_ld, Memref.IsWhole.read_unread, View.ld_unit_zero (S := S512x1024) zeros2]
    exact (pay3_eq x0).symm
  iexists _; isplitr; swap; · iexact H8
  ipureintro
  sl_unfold_words
  rw [read_store (S := S512x1024) _ _ zeros2]
  simp only [View.readAt_eq_ld, Memref.IsWhole.read_unread, View.ld_unit_zero (S := S512x1024) zeros2]

/-- The body at a later hidden block: the carried buffer at `y`, the halved gradient's window untouched. -/
theorem body_later (E : Set ℕ) (K : PUnit → sProp 𝕄) (hc : ¬k0_cond1 i = 1#1) (y z : Vec F S512x1024 .bf16) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare z
        ∗ owns (c : Thread nD τ) arg10 fullShare y
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay9 x1 x2)
            ∗ owns (c : Thread nD τ) arg7 fullShare (k0_pay10 x1 x2 y x3)
            ∗ owns (c : Thread nD τ) arg8 fullShare (k0_pay1 (k0_pay11 x1 y x3))
            ∗ owns (c : Thread nD τ) arg9 fullShare z
            ∗ owns (c : Thread nD τ) arg10 fullShare y) -∗ K ⟨⟩))
      ⊢ wp frame (wpE (defs₀ (F := F)) Variants.none c none) E
          (cc0_ffn_bwd_act i arg2 harg2 arg3 harg3 arg4 harg4 arg5 harg5 arg6 harg6 arg7 harg7 arg8 harg8 arg9 harg9 arg10 harg10) K := by
  simp only [cc0_ffn_bwd_act_eq_skeleton]; unfold cc0_ffn_bwd_act_skel; simp only [k0_part1_eq_skeleton]; unfold k0_part1_skel
  unfold owns
  iintro ⟨⟨%f0, %e0, H0⟩, ⟨%f1, %e1, H1⟩, ⟨%f2, %e2, H2⟩, ⟨%f3, %e3, H3⟩, ⟨%d4, %f4, %e4, H4⟩, ⟨%d5, %f5, %e5, H5⟩, ⟨%d6, %f6, %e6, H6⟩, ⟨%f7, %e7, H7⟩, ⟨%f8, %e8, H8⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  obtain rfl := harg8.eq_unread e6; obtain rfl := harg9.eq_unread e7; obtain rfl := harg10.eq_unread e8
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_store (S := S1x512x704) _ _ zeros3]
    simp only [View.readAt_eq_ld, Memref.IsWhole.read_unread, View.ld_unit_zero (S := S1x512x704) zeros3]
  isplitl [H5]
  · iexists _; isplitr; swap; · iexact H5
    ipureintro
    sl_unfold_words
    rw [read_store (S := S1x512x704) _ _ zeros3]
    simp only [View.readAt_eq_ld, Memref.IsWhole.read_unread, View.ld_unit_zero (S := S1x512x704) zeros3, View.ld_unit_zero (S := S1x704x1024) zeros3, View.ld_unit_zero (S := S512x1024) zeros2]
  isplitl [H6]
  · iexists _; isplitr; swap; · iexact H6
    ipureintro
    sl_unfold_words
    rw [read_store (S := S1x512x704) _ _ zeros3]
    simp only [View.readAt_eq_ld, Memref.IsWhole.read_unread, View.ld_unit_zero (S := S1x512x704) zeros3, View.ld_unit_zero (S := S1x704x1024) zeros3, View.ld_unit_zero (S := S512x1024) zeros2]
  isplitl [H7]
  · iexists _; isplitr; · ipureintro; exact harg9.read_unread _
    iexact H7
  iexists _; isplitr; · ipureintro; exact harg10.read_unread _
  iexact H8

end

end Cert.Kernel2Ideal.Act

end
-- ==== Proof.ActFrame.lean ====
module

public import proofs.«01_k».proof.Proof.ActRuns
public import Idealize.ShloMosaic.Lib.Pipeline.FrameBody
public import Idealize.ShloMosaic.Lib.Pipeline.TableIdle
public import Idealize.ShloMosaic.Lib.Claim

@[expose] public section

set_option maxRecDepth 16384

noncomputable section

/-! The launch of the gated block's activation gradient, over any values: what every point leaves in the output
    windows and in the carried buffer, the body at every point, and the run. -/

namespace Cert.Kernel2Ideal.Act

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first hidden block of each row block. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The halved, rounded gradient kept after point `n`: that of the row block's first point. -/
def kept (c : Dev nD) : (n : ℕ) → n < cfg0.N → Vec F S512x1024 .bf16
  | 0, h => k0_pay3 (iblk m c 0 ⟨0, h⟩)
  | n + 1, h => if (n + 1) % 4 = 0 then k0_pay3 (iblk m c 0 ⟨n + 1, h⟩) else kept c n (Nat.lt_of_succ_lt h)

theorem kept_first (c : Dev nD) (t : Fin cfg0.N) (h : t.val % 4 = 0) : kept m c t.val t.isLt = k0_pay3 (iblk m c 0 t) := by
  obtain ⟨n, hn⟩ := t
  cases n with
  | zero => rfl
  | succ n => unfold kept; rw [if_pos h]

theorem kept_later (c : Dev nD) (t : Fin cfg0.N) (h : ¬t.val % 4 = 0) :
    kept m c t.val t.isLt = kept m c (t.val - 1) (Nat.lt_of_le_of_lt (Nat.sub_le _ _) t.isLt) := by
  obtain ⟨n, hn⟩ := t
  cases n with
  | zero => exact absurd rfl h
  | succ n => show kept m c (n + 1) hn = kept m c n _; rw [kept, if_neg h]

/-- The carried buffer. -/
abbrev car : Memref sig .tc .vmem S512x1024 .bf16 := Memref.whole cc0_scratch0

/-- What holds between points: the carried buffer at what the last point kept, at anything before the first. -/
def inv (c : Dev nD) : (n : ℕ) → n ≤ cfg0.N → sProp 𝕄
  | 0, _ => Pipeline.ΦA spec0 c
  | n + 1, h => iprop(owns (c : Thread nD τ) car fullShare (kept m c n h) ∗ (∃ r, prngReg c r))

theorem inv_succ (c : Dev nD) (n : ℕ) (h : n < cfg0.N) :
    inv m c (n + 1) h = iprop(owns (c : Thread nD τ) car fullShare (kept m c n h) ∗ (∃ r, prngReg c r)) := rfl

theorem inv_pos (c : Dev nD) (n : ℕ) (h : n ≤ cfg0.N) (hz : n ≠ 0) :
    inv m c n h = iprop(owns (c : Thread nD τ) car fullShare (kept m c (n - 1) (by omega)) ∗ (∃ r, prngReg c r)) := by
  cases n with
  | zero => exact absurd rfl hz
  | succ n => rfl

theorem ΦA_eq (c : Dev nD) :
    (Pipeline.ΦA spec0 c : sProp 𝕄) = iprop((∃ d, owns (c : Thread nD τ) car fullShare d) ∗ (∃ r, prngReg c r)) := by
  unfold Pipeline.ΦA; rw [scopedRest0_eq]; simp only [car, owns_whole]; try rfl

/-- At any position the carried buffer is at something. -/
theorem inv_any (c : Dev nD) (n : ℕ) (h : n ≤ cfg0.N) :
    inv m c n h ⊢ iprop((∃ d, owns (c : Thread nD τ) car fullShare d) ∗ (∃ r, prngReg c r)) := by
  cases n with
  | zero =>
    show Pipeline.ΦA spec0 c ⊢ _
    rw [ΦA_eq]
  | succ n =>
    rw [inv_succ]
    iintro ⟨HS, Hg⟩
    isplitl [HS]
    · iexists _; iexact HS
    iexact Hg

/-- The proof data: every input window at its block, the outputs at the body's terms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay9 (iblk m c 1 t) (iblk m c 2 t)
    | ⟨5, _⟩ => k0_pay10 (iblk m c 1 t) (iblk m c 2 t) (kept m c t.val t.isLt) (iblk m c 3 t)
    | ⟨6, _⟩ => k0_pay1 (k0_pay11 (iblk m c 1 t) (kept m c t.val t.isLt) (iblk m c 3 t))
    | ⟨7, _⟩ => kept m c t.val t.isLt
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

section

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = k0_pay9 (iblk m c 1 t) (iblk m c 2 t) := by dsimp only [dats]
theorem after_5 : (dats m 0 c).after 5 t
    = k0_pay10 (iblk m c 1 t) (iblk m c 2 t) (kept m c t.val t.isLt) (iblk m c 3 t) := by dsimp only [dats]
theorem after_6 : (dats m 0 c).after 6 t
    = k0_pay1 (k0_pay11 (iblk m c 1 t) (kept m c t.val t.isLt) (iblk m c 3 t)) := by dsimp only [dats]
theorem after_7 : (dats m 0 c).after 7 t = kept m c t.val t.isLt := by dsimp only [dats]

theorem inv_castSucc : (dats m 0 c).Φ t.castSucc = inv m c t.val (Nat.le_of_lt t.isLt) := by
  dsimp only [dats]; exact Pipeline.Dat.Φ_castSucc (inv m c) t

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d

/-- The window of the halved gradient is idle at the later hidden blocks only. -/
theorem idle_7 : cfg0.idle 7 (grid0.coords t) = true ↔ ¬t.val % 4 = 0 := by
  revert t
  exact (by decide +kernel : ∀ t : Fin grid0.N, idle0 7 (grid0.coords t) = true ↔ ¬t.val % 4 = 0)

theorem fresh_7 (h : ¬t.val % 4 = 0) : cfg0.fresh 7 t.val = false := by
  revert t
  decide +kernel

/-- At a later hidden block that window still holds what the first one stored. -/
theorem before_7 (h : ¬t.val % 4 = 0) (d) : (dats m 0 c).before 7 t d = kept m c t.val t.isLt := by
  rw [Dat.before_out_traj _ 7 rfl (fun _ _ => rfl) (fun s _ hi _ => by
      rw [after_7, after_7]; exact kept_later m c s ((idle_7 s).mp hi)) t.val t rfl d,
    if_neg (by rw [fresh_7 t h]; exact Bool.false_ne_true), kept_later m c t h]
  dsimp only [dats]

/-- The window of the halved gradient ends every point at what is kept, or may be left as found. -/
theorem leaves_7_first (h : t.val % 4 = 0) :
    (dats m 0 c).leavesExact 7 t = owns (c : Thread nD τ) (st0_7 t) fullShare ((dats m 0 c).after 7 t) := by
  unfold Dat.leavesExact
  rw [show cfg0.idle 7 (cfg0.grid.coords t) = false from Bool.eq_false_iff.mpr fun hi => (idle_7 t).mp hi h]

theorem leaves_7_later (h : ¬t.val % 4 = 0) :
    owns (c : Thread nD τ) (st0_7 t) fullShare (kept m c t.val t.isLt) ⊢ (dats m 0 c).leavesExact 7 t := by
  unfold Dat.leavesExact
  rw [show cfg0.idle 7 (cfg0.grid.coords t) = true from (idle_7 t).mpr h]
  cases hf : (cfg0.win 7).flush t with
  | true => show _ ⊢ owns (c : Thread nD τ) _ fullShare ((dats m 0 c).after 7 t); rw [after_7]
  | false =>
    show _ ⊢ iprop(∃ d, owns (c : Thread nD τ) _ fullShare ((dats m 0 c).before 7 t d))
    simp only [before_7 m c t h]
    iintro H
    iexists fun _ => Classical.arbitrary _
    iexact H

/-- What the body is called with at a point. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

set_option maxHeartbeats 3200000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = inv m c (t.val + 1) t.isLt from rfl, inv_succ, inv_castSucc]
  rw [show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).leavesExact 5 t = owns (c : Thread nD τ) (st0_5 t) fullShare ((dats m 0 c).after 5 t) from rfl, after_5,
    show (dats m 0 c).leavesExact 6 t = owns (c : Thread nD τ) (st0_6 t) fullShare ((dats m 0 c).after 6 t) from rfl, after_6]
  by_cases h : t.val % 4 = 0
  · rw [leaves_7_first m c t h, after_7, kept_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ := (inv_any m c t.val _) $$ HΦ
    icases HΦ with ⟨HS, Hg⟩
    iapply (body_first c (grid0.coords t) _ _ _ _ _ _ _ _ _ _ _ _ _ _ _ _ _ _ (iblk m c 0 t) (iblk m c 1 t) (iblk m c 2 t) (iblk m c 3 t) Set.univ _ ((cond_iff t).mpr h))
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos m c _ _ (fun hz => h (by omega)), ← kept_later m c t h]
    simp only [before_7 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (iblk m c 0 t) (iblk m c 1 t) (iblk m c 2 t) (iblk m c 3 t) Set.univ _ (fun hc => h ((cond_iff t).mp hc)) (kept m c t.val t.isLt) (kept m c t.val t.isLt))
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7_later m c t h)
    iexact H7

end

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

theorem inv_out (c : Dev nD) : (dats m 0 c).Φ (Fin.last cfg0.N) ⊢ Pipeline.ΦA spec0 c := by
  rw [ΦA_eq]
  exact inv_any m c cfg0.N (Nat.le_refl _)

set_option backward.isDefEq.respectTransparency.types false in
/-- The launch ends with every window's array at what the points wrote back, and the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := inv_out m)

/-- The run with each output array after it named, the arguments as launched. -/
theorem run_blocks : θ_run defs (onTc (τ := τ) (main (F := F))) ⟨m, fun _ => 0, ρ⟩ (fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_v0_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h.1 c).1 4, (h.1 c).1 5, (h.1 c).1 6, (h.1 c).1 7,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩)
    (run_main m ρ)

/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Act

end
-- ==== Proof.ActArrays.lean ====
/- The gradient of a gated feed-forward's activations: what the call's grid leaves in its four output arrays, over the
   extended reals. Four points (one per shard) share a block of 512 tokens; sixteen blocks make the array. -/
module

public import proofs.«01_k».proof.Proof.ActFrame
public import proofs.«01_k».proof.Proof.Arrays
public import Idealize.ShloMosaic.Lib.Pipeline.ValueKit

@[expose] public section

set_option maxRecDepth 16384

noncomputable section

namespace Cert.Kernel2Ideal.Act

open Cert.Kernel2Ideal Cert.Kernel2Ideal.Gen Cert.Arrays Idealize.ShloMosaic Idealize.ShloMosaic.TcCoe Idealize.SL.Sem

variable (m : (ℓ : Loc nD τ sig) → Buf (Elt Ideal) ℓ) (c : Dev nD)

/-- The arguments as arrays of extended reals. -/
def argY : Shape.Idx ⟨2, ![8192, 1024]⟩ → EReal := m ((c : Thread nD τ).loc main_arg0)
def argA : Shape.Idx ⟨3, ![4, 8192, 704]⟩ → EReal := m ((c : Thread nD τ).loc main_arg1)
def argB : Shape.Idx ⟨3, ![4, 8192, 704]⟩ → EReal := m ((c : Thread nD τ).loc main_arg2)
def argW : Shape.Idx ⟨3, ![4, 704, 1024]⟩ → EReal := m ((c : Thread nD τ).loc main_arg3)

theorem lt64 (t : Fin cfg0.N) : t.val < 64 := lt_of_lt_of_eq t.isLt N_0

theorem idx0 : ∀ t : Fin cfg0.N, win0_0.index t = ![t.val / 4, 0] := (by decide +kernel : ∀ t : Fin grid0.N, _)
theorem idx1 : ∀ t : Fin cfg0.N, win0_1.index t = ![t.val % 4, t.val / 4, 0] := (by decide +kernel : ∀ t : Fin grid0.N, _)
theorem idx2 : ∀ t : Fin cfg0.N, win0_2.index t = ![t.val % 4, t.val / 4, 0] := (by decide +kernel : ∀ t : Fin grid0.N, _)
theorem idx3 : ∀ t : Fin cfg0.N, win0_3.index t = ![t.val % 4, 0, 0] := (by decide +kernel : ∀ t : Fin grid0.N, _)
theorem idx4 : ∀ t : Fin cfg0.N, win0_4.index t = ![t.val % 4, t.val / 4, 0] := (by decide +kernel : ∀ t : Fin grid0.N, _)
theorem idx5 : ∀ t : Fin cfg0.N, win0_5.index t = ![t.val % 4, t.val / 4, 0] := (by decide +kernel : ∀ t : Fin grid0.N, _)
theorem idx6 : ∀ t : Fin cfg0.N, win0_6.index t = ![t.val % 4, t.val / 4, 0] := (by decide +kernel : ∀ t : Fin grid0.N, _)
theorem idx7 : ∀ t : Fin cfg0.N, win0_7.index t = ![t.val / 4, 0] := (by decide +kernel : ∀ t : Fin grid0.N, _)

theorem read0 (t : Fin cfg0.N) (r : Fin 512) (l : Fin 1024) :
    iblk m c 0 t (ix2 r l) = at2 (argY m c) (512 * (t.val / 4) + r.val) l.val := by
  have := lt64 t
  rw [at2_of_lt _ (by omega) (by omega)]
  unfold argY
  blk_ext [iblk, V_main_arg0, idx0 t]
theorem read1 (t : Fin cfg0.N) (z : Fin 1) (r : Fin 512) (l : Fin 704) :
    iblk m c 1 t (ix3 z r l) = at3 (argA m c) (t.val % 4) (512 * (t.val / 4) + r.val) l.val := by
  have := lt64 t
  rw [at3_of_lt _ (by omega) (by omega) (by omega)]
  unfold argA
  blk_ext [iblk, V_main_arg1, idx1 t]
theorem read2 (t : Fin cfg0.N) (z : Fin 1) (r : Fin 512) (l : Fin 704) :
    iblk m c 2 t (ix3 z r l) = at3 (argB m c) (t.val % 4) (512 * (t.val / 4) + r.val) l.val := by
  have := lt64 t
  rw [at3_of_lt _ (by omega) (by omega) (by omega)]
  unfold argB
  blk_ext [iblk, V_main_arg2, idx2 t]
theorem read3 (t : Fin cfg0.N) (z : Fin 1) (r : Fin 704) (l : Fin 1024) :
    iblk m c 3 t (ix3 z r l) = at3 (argW m c) (t.val % 4) r.val l.val := by
  have := lt64 t
  rw [at3_of_lt _ (by omega) (by omega) (by omega)]
  unfold argW
  blk_ext [iblk, V_main_arg3, idx3 t]

/-- Half the output's gradient. -/
def half (n d : Nat) : EReal := Ideal.ofBits .f32 0x3F000000#32 * at2 (argY m c) n d

/-- The gradient of the gated product. -/
def ds (s n f : Nat) : EReal := ∑ d : Fin 1024, half m c n d.val * at3 (argW m c) s f d.val

/-- The gated product, and the gradients of its two factors' arguments. -/
def act (s n f : Nat) : EReal := at3 (argA m c) s n f * Ideal.logistic (at3 (argA m c) s n f) * at3 (argB m c) s n f
def da (s n f : Nat) : EReal :=
  ds m c s n f * at3 (argB m c) s n f * (Ideal.logistic (at3 (argA m c) s n f) * (1
    + at3 (argA m c) s n f * (1 - Ideal.logistic (at3 (argA m c) s n f))))
def db (s n f : Nat) : EReal := ds m c s n f * (at3 (argA m c) s n f * Ideal.logistic (at3 (argA m c) s n f))

def S (i : S4x8192x704.Idx) : EReal := act m c (i 0).val (i 1).val (i 2).val
def DA (i : S4x8192x704.Idx) : EReal := da m c (i 0).val (i 1).val (i 2).val
def DB (i : S4x8192x704.Idx) : EReal := db m c (i 0).val (i 1).val (i 2).val
def HY (i : S8192x1024.Idx) : EReal := half m c (i 0).val (i 1).val

theorem kept_at : ∀ (n : ℕ) (h : n < cfg0.N) (r : Fin 512) (d : Fin 1024),
    kept m c n h (ix2 r d) = half m c (512 * (n / 4) + r.val) d.val
  | n, h, r, d => by
    by_cases h0 : n % 4 = 0
    · rw [kept_first m c ⟨n, h⟩ h0, pay3_eq]
      pointwise [k0_pay2]
      rw [read0]
      rfl
    · rw [kept_later m c ⟨n, h⟩ h0]
      refine (kept_at (n - 1) _ r d).trans ?_
      rw [show (n - 1) / 4 = n / 4 by omega]
  termination_by n => n
  decreasing_by omega

theorem ds_at (t : Fin cfg0.N) (r : Fin 512) (f : Fin 704) :
    k0_pay6 (kept m c t.val t.isLt) (iblk m c 3 t) (ix2 r f) = ds m c (t.val % 4) (512 * (t.val / 4) + r.val) f.val := by
  pointwise [k0_pay6]
  simp only [kept_at, read3]
  rfl

theorem a_at (t : Fin cfg0.N) (r : Fin 512) (f : Fin 704) :
    k0_pay4 (iblk m c 1 t) (ix2 r f) = at3 (argA m c) (t.val % 4) (512 * (t.val / 4) + r.val) f.val := by
  pointwise [k0_pay4]
  rw [read1]

theorem b_at (t : Fin cfg0.N) (r : Fin 512) (f : Fin 704) :
    k0_pay5 (iblk m c 2 t) (ix2 r f) = at3 (argB m c) (t.val % 4) (512 * (t.val / 4) + r.val) f.val := by
  pointwise [k0_pay5]
  rw [read2]

theorem arr_s : (dats m 0 c).arrAt 4 cfg0.N = S m c := by
  refine (dats m 0 c).arrAt_eq_of_covers 4 _ (by decide +kernel) fun t hf y => ?_
  blk_simp
  rw [after_4]
  obtain ⟨z, r, f, rfl⟩ : ∃ (z : Fin 1) (r : Fin 512) (f : Fin 704), y = ix3 z r f := ⟨_, _, _, eq_ix3 y⟩
  have h0 : (((win0_4.blk t).view.emb (ix3 z r f) : S4x8192x704.Idx) 0).val = t.val % 4 := by
    blk_simp [idx4 t]
  have h1 : (((win0_4.blk t).view.emb (ix3 z r f) : S4x8192x704.Idx) 1).val = 512 * (t.val / 4) + r.val := by
    blk_simp [idx4 t]
    omega
  have h2 : (((win0_4.blk t).view.emb (ix3 z r f) : S4x8192x704.Idx) 2).val = f.val := by
    blk_simp [idx4 t]
  show _ = S m c ((win0_4.blk t).view.emb (ix3 z r f))
  unfold S
  rw [h0, h1, h2]
  pointwise [k0_pay9, k0_pay8, k0_pay7]
  rw [a_at, b_at]
  rfl

theorem arr_da : (dats m 0 c).arrAt 5 cfg0.N = DA m c := by
  refine (dats m 0 c).arrAt_eq_of_covers 5 _ (by decide +kernel) fun t hf y => ?_
  blk_simp
  rw [after_5]
  obtain ⟨z, r, f, rfl⟩ : ∃ (z : Fin 1) (r : Fin 512) (f : Fin 704), y = ix3 z r f := ⟨_, _, _, eq_ix3 y⟩
  have h0 : (((win0_5.blk t).view.emb (ix3 z r f) : S4x8192x704.Idx) 0).val = t.val % 4 := by
    blk_simp [idx5 t]
  have h1 : (((win0_5.blk t).view.emb (ix3 z r f) : S4x8192x704.Idx) 1).val = 512 * (t.val / 4) + r.val := by
    blk_simp [idx5 t]
    omega
  have h2 : (((win0_5.blk t).view.emb (ix3 z r f) : S4x8192x704.Idx) 2).val = f.val := by
    blk_simp [idx5 t]
  show _ = DA m c ((win0_5.blk t).view.emb (ix3 z r f))
  unfold DA
  rw [h0, h1, h2]
  pointwise [k0_pay10, k0_pay7]
  rw [a_at, b_at, ds_at]
  rfl

theorem arr_db : (dats m 0 c).arrAt 6 cfg0.N = DB m c := by
  refine (dats m 0 c).arrAt_eq_of_covers 6 _ (by decide +kernel) fun t hf y => ?_
  blk_simp
  rw [after_6]
  obtain ⟨z, r, f, rfl⟩ : ∃ (z : Fin 1) (r : Fin 512) (f : Fin 704), y = ix3 z r f := ⟨_, _, _, eq_ix3 y⟩
  have h0 : (((win0_6.blk t).view.emb (ix3 z r f) : S4x8192x704.Idx) 0).val = t.val % 4 := by
    blk_simp [idx6 t]
  have h1 : (((win0_6.blk t).view.emb (ix3 z r f) : S4x8192x704.Idx) 1).val = 512 * (t.val / 4) + r.val := by
    blk_simp [idx6 t]
    omega
  have h2 : (((win0_6.blk t).view.emb (ix3 z r f) : S4x8192x704.Idx) 2).val = f.val := by
    blk_simp [idx6 t]
  show _ = DB m c ((win0_6.blk t).view.emb (ix3 z r f))
  unfold DB
  rw [h0, h1, h2]
  pointwise [k0_pay1, k0_pay11, k0_pay8, k0_pay7]
  rw [a_at, ds_at]
  rfl

theorem arr_half : (dats m 0 c).arrAt 7 cfg0.N = HY m c := by
  refine (dats m 0 c).arrAt_eq_of_covers 7 _ (by decide +kernel) fun t hf y => ?_
  blk_simp
  rw [after_7]
  obtain ⟨r, d, rfl⟩ : ∃ (r : Fin 512) (d : Fin 1024), y = ix2 r d := ⟨_, _, eq_ix2 y⟩
  have h0 : (((win0_7.blk t).view.emb (ix2 r d) : S8192x1024.Idx) 0).val = 512 * (t.val / 4) + r.val := by
    blk_simp [idx7 t]
    omega
  have h1 : (((win0_7.blk t).view.emb (ix2 r d) : S8192x1024.Idx) 1).val = d.val := by
    blk_simp [idx7 t]
  show _ = HY m c ((win0_7.blk t).view.emb (ix2 r d))
  unfold HY
  rw [h0, h1]
  exact kept_at m c _ _ r d

end Cert.Kernel2Ideal.Act

end
-- ==== Proof.Reals.lean ====
/- Finite inputs as real numbers: the constants of the text as reals, what a bound on the absolute values of an array gives,
   and the two forms of the derivative of a normalisation by the root of the mean square. -/
module

public import Idealize.ShloMosaic.Lib.Pointwise
public import Idealize.ShloMosaic.Lib.ReduceAll
public import Idealize.ShloMosaic.Lib.IdealHost
public import Idealize.ShloMosaic.Lib.Tactic

@[expose] public section

set_option maxRecDepth 16384

noncomputable section

namespace Cert.Reals

open Idealize.ShloMosaic

/-- The number of features. -/
theorem c1024 : Ideal.ofBits .f32 0x44800000#32 = ((1024 : ℝ) : EReal) := by
  simp [Ideal.ofBits, Ideal.ieee, -EReal.coe_mul]; norm_num

/-- The constant under the root. -/
theorem cEps : Ideal.ofBits .f32 0x358637BD#32 = ((8796093 / 8796093022208 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

/-- The two forms of the derivative of `x * logistic x`, times a real factor, at every extended real. -/
theorem silu_grad (G : ℝ) (a : EReal) :
    (G : EReal) * Ideal.logistic a
        + a * (G : EReal) * (Ideal.logistic a * (1 - Ideal.logistic a))
      = (G : EReal) * (Ideal.logistic a * (1
          + a * (1 - Ideal.logistic a))) := by
  induction a using EReal.rec with
  | bot => rw [Ideal.logistic_bot]; simp
  | top =>
    have h : (1 : EReal) - 1 = 0 := by rw [← EReal.coe_one, ← EReal.coe_sub, sub_self, EReal.coe_zero]
    rw [Ideal.logistic_top, h]; simp
  | coe x =>
    rw [Ideal.logistic_coe]
    norm_cast
    ring

/-- The largest finite number. -/
theorem cMax : Ideal.ofBits .f32 0x7F7FFFFF#32 = ((340282346638528859811704183484516925440 : ℝ) : EReal) := by
  simp [Ideal.ofBits, Ideal.ieee, -EReal.coe_mul]; norm_num

/-- A number whose absolute value is at most the largest finite one is real. -/
theorem real_of_abs_le (x : EReal) (h : Ideal.cmp .ole (FloatOps.absf (F := Ideal) (φ := .f32) x) (Ideal.ofBits .f32 0x7F7FFFFF#32) = 1#1) :
    x = ((x.toReal : ℝ) : EReal) := by
  rw [cMax] at h
  induction x using EReal.rec with
  | bot => exact absurd h (by simp [Ideal.cmp, FloatOps.absf])
  | top => exact absurd h (by simp [Ideal.cmp, FloatOps.absf])
  | coe r => rfl

/-- An array whose entries' absolute values are all at most the largest finite number is real. -/
theorem real_of_all {s t u : Shape} [Subsingleton t.Idx] {dims} {axes} (x : FVec Ideal s .f32) (hb : (⟨0, ![]⟩ : Shape).BroadcastsInDim s dims)
    (init : u.Idx → BitVec 1) (hr : s.ReducesTo axes t) (hu : 0 < u.numel) (j : t.Idx)
    (h : Host.reduce IntOp.andi (cmpf .ole (Host.absf x) (broadcastInDim s dims hb (constant ⟨0, ![]⟩ .f32 0x7F7FFFFF#32))) init hr hu j
      = 1#1) (i : s.Idx) : x i = ((x i).toReal : EReal) :=
  real_of_abs_le _ (Host.reduce_andi_all _ _ hr hu j h i)

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two forms of the derivative of `x * r * g` in `x`, with `r` the reciprocal root of the mean square: through the
    mean of `dh * g * (x * r)`, and by the rules of differentiation step by step. -/
theorem norm_grad (x g h : Fin 1024 → ℝ) (res : EReal) (d : Fin 1024) (M r : EReal)
    (hM : M = Ideal.div (∑ k : Fin 1024, (x k : EReal) * (x k : EReal)) (Ideal.ofBits .f32 0x44800000#32) + Ideal.ofBits .f32 0x358637BD#32)
    (hr : r = Ideal.rsqrt M) :
    res + (h d : EReal) * (g d : EReal) * r
        + (x d : EReal) * Ideal.div ((∑ k : Fin 1024, (x k : EReal) * ((h k : EReal) * (g k : EReal)))
            * (Ideal.ofBits .f32 0xBF000000#32 * Ideal.div r M)) (Ideal.ofBits .f32 0x44800000#32)
        + Ideal.div ((∑ k : Fin 1024, (x k : EReal) * ((h k : EReal) * (g k : EReal)))
            * (Ideal.ofBits .f32 0xBF000000#32 * Ideal.div r M)) (Ideal.ofBits .f32 0x44800000#32) * (x d : EReal)
      = res + r * ((h d : EReal) * (g d : EReal)
          - (x d : EReal) * r * Ideal.div (∑ k : Fin 1024, (h k : EReal) * (g k : EReal) * ((x k : EReal) * r))
              (Ideal.ofBits .f32 0x44800000#32)) := by
  have hpos : 0 < (∑ k : Fin 1024, x k * x k) * (1 / 1024) + 8796093 / 8796093022208 := by
    have : 0 ≤ ∑ k : Fin 1024, x k * x k := Finset.sum_nonneg fun k _ => mul_self_nonneg _
    positivity
  obtain ⟨μ, hμ⟩ : ∃ μ : ℝ, μ = (∑ k : Fin 1024, x k * x k) * (1 / 1024) + 8796093 / 8796093022208 := ⟨_, rfl⟩
  rw [← hμ] at hpos
  have hMμ : M = (μ : EReal) := by
    rw [hM, hμ, c1024, cEps, Ideal.div_coe (by norm_num)]
    push_cast [coe_sum]
    rfl
  obtain ⟨ρ, hρ⟩ : ∃ ρ : ℝ, ρ = (Real.sqrt μ)⁻¹ := ⟨_, rfl⟩
  have hrρ : r = (ρ : EReal) := by
    rw [hr, hMμ, Ideal.rsqrt_coe, if_neg (not_lt.mpr hpos.le), if_neg hpos.ne', hρ]
  have hsq : 1 / μ = ρ * ρ := by
    rw [hρ, ← mul_inv, Real.mul_self_sqrt hpos.le, one_div]
  have e1 : (∑ k : Fin 1024, (x k : EReal) * ((h k : EReal) * (g k : EReal))) = ((∑ k : Fin 1024, x k * (h k * g k) : ℝ) : EReal) := by
    rw [coe_sum]; exact Finset.sum_congr rfl fun k _ => by push_cast; rfl
  have e2 : (∑ k : Fin 1024, (h k : EReal) * (g k : EReal) * ((x k : EReal) * (ρ : EReal)))
      = ((ρ * ∑ k : Fin 1024, x k * (h k * g k) : ℝ) : EReal) := by
    rw [Finset.mul_sum, coe_sum]
    refine Finset.sum_congr rfl fun k _ => ?_
    rw [← EReal.coe_mul, ← EReal.coe_mul, ← EReal.coe_mul]
    exact congrArg _ (by ring)
  rw [hrρ, hMμ, e1, e2, c1024, cNegHalf, Ideal.div_coe hpos.ne', Ideal.div_coe (by norm_num), Ideal.div_coe (by norm_num), hsq]
  generalize (∑ k : Fin 1024, x k * (h k * g k)) = S
  rw [add_assoc, add_assoc]
  refine congrArg (res + ·) ?_
  norm_cast
  ring

end Cert.Reals

end
-- ==== Proof.ActRef.lean ====
/- The derivative of the gated half step in its two arguments, at an index. -/
module

public import proofs.«01_k».proof.Proof.ActArrays
public import proofs.«01_k».proof.Proof.Reals
public import proofs.«01_k».proof.Proof.Gen.Reference2Ideal.Run
public import proofs.«01_k».proof.Proof.Gen.Reference2Ideal.Read

@[expose] public section

set_option maxRecDepth 16384

noncomputable section

namespace Cert.Reference2Ideal.Act

open Cert.Reference2Ideal Cert.Reference2Ideal.Gen Cert.Reference2Ideal.Read Cert.Arrays Idealize.ShloMosaic Idealize.ShloMosaic.TcCoe
  Idealize.SL.Sem

open Cert.Kernel2Ideal.Act

variable (m : (ℓ : Loc Cert.Kernel2Ideal.nD Cert.Kernel2Ideal.τ Cert.Kernel2Ideal.sig) → Buf (Elt Ideal) ℓ) (c : Dev Cert.Kernel2Ideal.nD)

theorem ref_half (n : Fin 8192) (d : Fin 1024) : val_main_v22 (F := Ideal) (argY m c) (ix2 n d) = HY m c (ix2 n d) := by
  pointwise [val_main_v22, val_main_v18, val_main_v17, val_main_cst_1]
  show _ = half m c n.val d.val
  unfold half
  rw [at2_of_lt _ n.isLt d.isLt]

theorem ref_ds (s : Fin 4) (n : Fin 8192) (f : Fin 704) :
    val_main_v11 (F := Ideal) (argY m c) (argW m c) (ix3 s n f) = ds m c s.val n.val f.val := by
  pointwise [val_main_v11, val_main_v10, val_main_v9, val_main_v8, val_main_v2, val_main_cst_0]
  unfold ds half
  refine Finset.sum_congr rfl fun d _ => ?_
  rw [at2_of_lt _ n.isLt d.isLt, at3_of_lt _ s.isLt f.isLt d.isLt]

/-- The logistic function as the text writes it, once for the derivative and once for the value. -/
theorem ref_sg (s : Fin 4) (n : Fin 8192) (f : Fin 704) :
    val_main_v3_2 (F := Ideal) (argA m c) (ix3 s n f) = Ideal.logistic (at3 (argA m c) s.val n.val f.val) := by
  pointwise [val_main_v3_2, val_main_call0_v4, val_main_call0_v3, val_main_call0_v2, val_main_call0_v1,
    val_main_call0_v0, val_main_call0_cst, val_main_call0_cst_0, val_main_v0]
  rw [at3_of_lt _ s.isLt n.isLt f.isLt]
  rfl

theorem ref_s (s : Fin 4) (n : Fin 8192) (f : Fin 704) :
    val_main_v19 (F := Ideal) (argA m c) (argB m c) (ix3 s n f) = S m c (ix3 s n f) := by
  pointwise [val_main_v19, val_main_v16, val_main_v15, val_main_call2_v5, val_main_call2_v4, val_main_call2_v3, val_main_call2_v2,
    val_main_call2_v1, val_main_call2_v0, val_main_call2_cst, val_main_call2_cst_0, val_main_v0, val_main_v1]
  show _ = act m c s.val n.val f.val
  unfold act
  rw [at3_of_lt _ s.isLt n.isLt f.isLt, at3_of_lt _ s.isLt n.isLt f.isLt]
  rfl

theorem ref_db (s : Fin 4) (n : Fin 8192) (f : Fin 704) :
    val_main_v21 (F := Ideal) (argY m c) (argA m c) (argW m c) (ix3 s n f) = DB m c (ix3 s n f) := by
  pointwise [val_main_v21, val_main_v12, val_main_v3_0, val_main_v0]
  rw [ref_ds, ref_sg]
  show _ = db m c s.val n.val f.val
  unfold db
  rw [mul_comm, at3_of_lt _ s.isLt n.isLt f.isLt]

/-- Real arguments make the gradient of the gated product real. -/
theorem ds_real (hY : ∀ i, argY m c i = ((argY m c i).toReal : EReal)) (hW : ∀ i, argW m c i = ((argW m c i).toReal : EReal))
    (s : Fin 4) (n : Fin 8192) (f : Fin 704) : ∃ r : ℝ, ds m c s.val n.val f.val = (r : EReal) := by
  refine ⟨∑ d : Fin 1024, 1 / 2 * (argY m c (ix2 n d)).toReal * (argW m c (ix3 s f d)).toReal, ?_⟩
  unfold ds half
  rw [Cert.Reals.coe_sum]
  refine Finset.sum_congr rfl fun d _ => ?_
  rw [at2_of_lt _ n.isLt d.isLt, at3_of_lt _ s.isLt f.isLt d.isLt, Cert.Reals.cHalf, EReal.coe_mul, EReal.coe_mul]
  exact congrArg₂ (· * ·) (congrArg _ (hY _)) (hW _)

theorem ref_da (hY : ∀ i, argY m c i = ((argY m c i).toReal : EReal)) (hB : ∀ i, argB m c i = ((argB m c i).toReal : EReal))
    (hW : ∀ i, argW m c i = ((argW m c i).toReal : EReal)) (s : Fin 4) (n : Fin 8192) (f : Fin 704) :
    val_main_v20 (F := Ideal) (argY m c) (argA m c) (argB m c) (argW m c) (ix3 s n f) = DA m c (ix3 s n f) := by
  pointwise [val_main_v20, val_main_v14, val_main_call1_v2, val_main_call1_v1, val_main_call1_v0, val_main_v13, val_main_v3_1,
    val_main_call0_v7, val_main_call0_v6, val_main_call0_cst_1, val_main_v0, val_main_v1]
  simp only [ref_ds, ref_sg]
  obtain ⟨g, hg⟩ := ds_real m c hY hW s n f
  have e := Cert.Reals.silu_grad (g * (argB m c (ix3 s n f)).toReal) (argA m c (ix3 s n f))
  rw [EReal.coe_mul, ← hg, ← hB] at e
  show _ = da m c s.val n.val f.val
  unfold da
  simp only [at3_of_lt _ s.isLt n.isLt f.isLt]
  exact e

end Cert.Reference2Ideal.Act

end
-- ==== Proof.NormInBlocks.lean ====
/- What one grid point of the gradient through a feed-forward's inputs and its norm writes, as the kernel's own payloads
   at the point's input blocks: the running sum of products, the block of the input's gradient (at the last shard of a
   block of tokens), and the running sums of the gain's gradient. Over any float model. -/
module

public import proofs.«01_k».proof.Proof.Gen.Kernel3Ideal.Value
public import Idealize.ShloMosaic.Lib.Tactic

@[expose] public section

set_option maxRecDepth 16384

noncomputable section

namespace Cert.Kernel3Ideal.NormIn

open Cert.Kernel3Ideal Cert.Kernel3Ideal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := by decide
theorem hz3 : (![0, 0, 0] : Fin 3 → Nat) = fun _ => 0 := by decide

/-- What the point before left. -/
abbrev before (c : Dev nD) (t : Fin cfg0.N) := outsAt0 m c (t.val - 1) (Nat.lt_of_le_of_lt (Nat.sub_le _ _) t.isLt)

/-- The running sum after a point that found it at `acc`. -/
def accBlk (c : Dev nD) (t : Fin cfg0.N) (acc : Vec F S512x1024 .f32) : FVec F S512x1024 .f32 :=
  k0_pay3 acc (iblk m c 0 t) (iblk m c 2 t) (iblk m c 1 t) (iblk m c 3 t)

/-- The first shard of a block of tokens starts the sum at zero. -/
theorem outs_acc_first (c : Dev nD) (t : Fin cfg0.N) (h1 : t.val % 4 = 0) :
    (outsAt0 m c t.val t.isLt).2.2 = accBlk m c t (k0_pay2 (F := F)) := by
  have h2 : ¬ t.val % 4 = 3 := by omega
  by_cases h0 : t.val % 64 = 0
  · rw [outsAt0_A m c t h0 h1 h2]
    dsimp only
    unfold sout0_A_0
    rw [View.read_writes_eq_canon _ _ _ (fun y => scover0_A_0 _ _ _ _ _ _ _ _ _ _ _ _ _ _ _ _ _ _ _ _ _ _ _ _ _ _ _ _ _ _ _ _ y)]
    unfold kernelRun0_A
    dsimp only
    sl_unfold_words
    rw [View.canon_cons_unit_zero (S := S512x1024) hz, View.readCov_unit_zero (S := S512x1024) _ hz]
    simp only [View.readAt_eq_ld, Memref.IsWhole.read_unread, View.ld_unit_zero (S := S512x1024) hz,
      View.ld_unit_zero (S := S1x512x704) hz3, View.ld_unit_zero (S := S1x1024x704) hz3, shapeCast_self]
    rfl
  · rw [outsAt0_D m c t h0 h1 h2]
    dsimp only
    unfold sout0_D_0
    rw [View.read_writes_eq_canon _ _ _ (fun y => scover0_D_0 _ _ _ _ _ _ _ _ _ _ _ _ _ _ _ _ _ _ _ _ _ _ _ _ _ _ _ _ _ _ _ _ y)]
    unfold kernelRun0_D
    dsimp only
    sl_unfold_words
    rw [View.canon_cons_unit_zero (S := S512x1024) hz, View.readCov_unit_zero (S := S512x1024) _ hz]
    simp only [View.readAt_eq_ld, Memref.IsWhole.read_unread, View.ld_unit_zero (S := S512x1024) hz,
      View.ld_unit_zero (S := S1x512x704) hz3, View.ld_unit_zero (S := S1x1024x704) hz3, shapeCast_self]
    rfl

/-- Every later shard adds to what the point before left. -/
theorem outs_acc_next (c : Dev nD) (t : Fin cfg0.N) (h1 : ¬ t.val % 4 = 0) :
    (outsAt0 m c t.val t.isLt).2.2 = accBlk m c t (before m c t).2.2 := by
  have h0 : ¬ t.val % 64 = 0 := by omega
  by_cases h2 : t.val % 4 = 3
  · rw [outsAt0_C m c t h0 h1 h2]
    dsimp only
    unfold sout0_C_0
    rw [View.read_writes_eq_canon _ _ _ (fun y => scover0_C_0 _ _ _ _ _ _ _ _ _ _ _ _ _ _ _ _ _ _ _ _ _ _ _ _ _ _ _ _ _ _ _ _ _ _ y)]
    unfold kernelRun0_C
    dsimp only
    sl_unfold_words
    rw [View.canon_unit_zero (S := S512x1024) hz]
    simp only [View.readAt_eq_ld, Memref.IsWhole.read_unread, View.ld_unit_zero (S := S512x1024) hz,
      View.ld_unit_zero (S := S1x512x704) hz3, View.ld_unit_zero (S := S1x1024x704) hz3, shapeCast_self]
    exact congrArg (accBlk m c t) (Memref.IsWhole.read_unread (Memref.isWhole_whole cc0_scratch0) _)
  · rw [outsAt0_B m c t h0 h1 h2]
    dsimp only
    unfold sout0_B_0
    rw [View.read_writes_eq_canon _ _ _ (fun y => scover0_B_0 _ _ _ _ _ _ _ _ _ _ _ _ _ _ _ _ _ _ _ _ _ _ _ _ _ _ _ _ _ _ _ _ _ y)]
    unfold kernelRun0_B
    dsimp only
    sl_unfold_words
    rw [View.canon_unit_zero (S := S512x1024) hz]
    simp only [View.readAt_eq_ld, Memref.IsWhole.read_unread, View.ld_unit_zero (S := S512x1024) hz,
      View.ld_unit_zero (S := S1x512x704) hz3, View.ld_unit_zero (S := S1x1024x704) hz3, shapeCast_self]
    exact congrArg (accBlk m c t) (Memref.IsWhole.read_unread (Memref.isWhole_whole cc0_scratch0) _)

/-- The last shard writes the gradient of the input's block, from the finished sum. -/
theorem outs_dx (c : Dev nD) (t : Fin cfg0.N) (h2 : t.val % 4 = 3) :
    (outsAt0 m c t.val t.isLt).1 = k0_pay6 (iblk m c 6 t) (iblk m c 5 t) (outsAt0 m c t.val t.isLt).2.2 (iblk m c 4 t) := by
  have h0 : ¬ t.val % 64 = 0 := by omega
  have h1 : ¬ t.val % 4 = 0 := by omega
  rw [outs_acc_next m c t h1, outsAt0_C m c t h0 h1 h2]
  dsimp only
  unfold out0_C_7
  rw [View.read_writes_eq_canon _ _ _ (fun y => cover0_C_7 _ _ _ _ _ _ _ _ _ _ _ _ _ _ _ _ _ _ _ _ _ _ _ _ _ _ _ _ _ _ _ _ _ _ y)]
  unfold kernelRun0_C
  dsimp only
  sl_unfold_words
  rw [View.canon_unit_zero (S := S512x1024) hz, View.readCov_unit_zero (S := S512x1024) _ hz]
  simp only [View.readAt_eq_ld, Memref.IsWhole.read_unread, View.ld_unit_zero (S := S512x1024) hz,
    View.ld_unit_zero (S := S1x1024) hz,
    View.ld_unit_zero (S := S1x512x704) hz3, View.ld_unit_zero (S := S1x1024x704) hz3, shapeCast_self]
  exact congrArg (fun a => k0_pay6 (iblk m c 6 t) (iblk m c 5 t) (accBlk m c t a) (iblk m c 4 t)) (Memref.IsWhole.read_unread (Memref.isWhole_whole cc0_scratch0) _)

/-- The first point of the grid starts the sums of the gain's gradient at zero. -/
theorem outs_dg_first (c : Dev nD) (t : Fin cfg0.N) (h0 : t.val % 64 = 0) :
    (outsAt0 m c t.val t.isLt).2.1 = k0_pay1 (F := F) := by
  have h1 : t.val % 4 = 0 := by omega
  have h2 : ¬ t.val % 4 = 3 := by omega
  rw [outsAt0_A m c t h0 h1 h2]
  dsimp only
  unfold out0_A_8
  rw [View.read_writes_eq_canon _ _ _ (fun y => cover0_A_8 _ _ _ _ _ _ _ _ _ _ _ _ _ _ _ _ _ _ _ _ _ _ _ _ _ _ _ _ _ _ _ _ y)]
  unfold kernelRun0_A
  dsimp only
  sl_unfold_words
  rw [View.canon_unit_zero (S := S8x1024) hz]

/-- The last shard of a block of tokens adds the block's part. -/
theorem outs_dg_last (c : Dev nD) (t : Fin cfg0.N) (h2 : t.val % 4 = 3) :
    (outsAt0 m c t.val t.isLt).2.1 = k0_pay7 (iblk m c 5 t) (outsAt0 m c t.val t.isLt).2.2 (before m c t).2.1 := by
  have h0 : ¬ t.val % 64 = 0 := by omega
  have h1 : ¬ t.val % 4 = 0 := by omega
  rw [outs_acc_next m c t h1, outsAt0_C m c t h0 h1 h2]
  dsimp only
  unfold out0_C_8
  rw [View.read_writes_eq_canon _ _ _ (fun y => cover0_C_8 _ _ _ _ _ _ _ _ _ _ _ _ _ _ _ _ _ _ _ _ _ _ _ _ _ _ _ _ _ _ _ _ _ _ y)]
  unfold kernelRun0_C
  dsimp only
  sl_unfold_words
  rw [View.canon_unit_zero (S := S8x1024) hz, View.readCov_unit_zero (S := S512x1024) _ hz]
  simp only [View.readAt_eq_ld, Memref.IsWhole.read_unread, View.ld_unit_zero (S := S512x1024) hz,
    View.ld_unit_zero (S := S8x1024) hz,
    View.ld_unit_zero (S := S1x512x704) hz3, View.ld_unit_zero (S := S1x1024x704) hz3, shapeCast_self]
  exact congrArg (fun a => k0_pay7 (iblk m c 5 t) (accBlk m c t a) (before m c t).2.1) (Memref.IsWhole.read_unread (Memref.isWhole_whole cc0_scratch0) _)

/-- Every other point but the first leaves those sums as they are. -/
theorem outs_dg_keep (c : Dev nD) (t : Fin cfg0.N) (h0 : ¬ t.val % 64 = 0) (h2 : ¬ t.val % 4 = 3) :
    (outsAt0 m c t.val t.isLt).2.1 = (before m c t).2.1 := by
  by_cases h1 : t.val % 4 = 0
  · rw [outsAt0_D m c t h0 h1 h2]
    rfl
  · rw [outsAt0_B m c t h0 h1 h2]
    rfl

end Cert.Kernel3Ideal.NormIn

end
-- ==== Proof.NormInArrays.lean ====
/- The gradient through a feed-forward's inputs and its norm: what the call's grid leaves in its two output arrays, over
   the extended reals. Four points (one per shard) make one block of 512 tokens; sixteen blocks make the array. -/
module

public import proofs.«01_k».proof.Proof.NormInBlocks
public import proofs.«01_k».proof.Proof.Arrays
public import Idealize.ShloMosaic.Lib.Pipeline.ValueKit

@[expose] public section

set_option maxRecDepth 16384

noncomputable section

namespace Cert.Kernel3Ideal.NormIn

open Cert.Kernel3Ideal Cert.Kernel3Ideal.Gen Cert.Arrays Idealize.ShloMosaic Idealize.ShloMosaic.TcCoe Idealize.SL.Sem

variable (m : (ℓ : Loc nD τ sig) → Buf (Elt Ideal) ℓ) (c : Dev nD)

/-- The arguments as arrays of extended reals. -/
def argA : Shape.Idx ⟨3, ![4, 8192, 704]⟩ → EReal := m ((c : Thread nD τ).loc main_arg0)
def argB : Shape.Idx ⟨3, ![4, 8192, 704]⟩ → EReal := m ((c : Thread nD τ).loc main_arg1)
def argG : Shape.Idx ⟨3, ![4, 1024, 704]⟩ → EReal := m ((c : Thread nD τ).loc main_arg2)
def argU : Shape.Idx ⟨3, ![4, 1024, 704]⟩ → EReal := m ((c : Thread nD τ).loc main_arg3)
def argR : Shape.Idx ⟨2, ![8192, 1024]⟩ → EReal := m ((c : Thread nD τ).loc main_arg4)
def argX : Shape.Idx ⟨2, ![8192, 1024]⟩ → EReal := m ((c : Thread nD τ).loc main_arg5)
def argN : Shape.Idx ⟨2, ![1, 1024]⟩ → EReal := m ((c : Thread nD τ).loc main_arg6)

theorem lt64 (t : Fin cfg0.N) : t.val < 64 := lt_of_lt_of_eq t.isLt N_0

theorem idx0 : ∀ t : Fin cfg0.N, win0_0.index t = ![t.val % 4, t.val / 4, 0] := (by decide +kernel : ∀ t : Fin grid0.N, _)
theorem idx1 : ∀ t : Fin cfg0.N, win0_1.index t = ![t.val % 4, t.val / 4, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4, 0, 0] := (by decide +kernel : ∀ t : Fin grid0.N, _)
theorem idx4 : ∀ t : Fin cfg0.N, win0_4.index t = ![t.val / 4, 0] := (by decide +kernel : ∀ t : Fin grid0.N, _)
theorem idx5 : ∀ t : Fin cfg0.N, win0_5.index t = ![t.val / 4, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 4, 0] := (by decide +kernel : ∀ t : Fin grid0.N, _)
theorem idx8 : ∀ t : Fin cfg0.N, win0_8.index t = ![0, 0] := (by decide +kernel : ∀ t : Fin grid0.N, _)

theorem read0 (t : Fin cfg0.N) (z : Fin 1) (r : Fin 512) (l : Fin 704) :
    iblk m c 0 t (ix3 z r l) = at3 (argA m c) (t.val % 4) (512 * (t.val / 4) + r.val) l.val := by
  have := lt64 t
  rw [at3_of_lt _ (by omega) (by omega) (by omega)]
  unfold argA
  blk_ext [iblk, V_main_arg0, idx0 t]
theorem read1 (t : Fin cfg0.N) (z : Fin 1) (r : Fin 512) (l : Fin 704) :
    iblk m c 1 t (ix3 z r l) = at3 (argB m c) (t.val % 4) (512 * (t.val / 4) + r.val) l.val := by
  have := lt64 t
  rw [at3_of_lt _ (by omega) (by omega) (by omega)]
  unfold argB
  blk_ext [iblk, V_main_arg1, idx1 t]
theorem read2 (t : Fin cfg0.N) (z : Fin 1) (r : Fin 1024) (l : Fin 704) :
    iblk m c 2 t (ix3 z r l) = at3 (argG m c) (t.val % 4) r.val l.val := by
  have := lt64 t
  rw [at3_of_lt _ (by omega) (by omega) (by omega)]
  unfold argG
  blk_ext [iblk, V_main_arg2, idx2 t]
theorem read3 (t : Fin cfg0.N) (z : Fin 1) (r : Fin 1024) (l : Fin 704) :
    iblk m c 3 t (ix3 z r l) = at3 (argU m c) (t.val % 4) r.val l.val := by
  have := lt64 t
  rw [at3_of_lt _ (by omega) (by omega) (by omega)]
  unfold argU
  blk_ext [iblk, V_main_arg3, idx3 t]
theorem read4 (t : Fin cfg0.N) (r : Fin 512) (l : Fin 1024) :
    iblk m c 4 t (ix2 r l) = at2 (argR m c) (512 * (t.val / 4) + r.val) l.val := by
  have := lt64 t
  rw [at2_of_lt _ (by omega) (by omega)]
  unfold argR
  blk_ext [iblk, V_main_arg4, idx4 t]
theorem read5 (t : Fin cfg0.N) (r : Fin 512) (l : Fin 1024) :
    iblk m c 5 t (ix2 r l) = at2 (argX m c) (512 * (t.val / 4) + r.val) l.val := by
  have := lt64 t
  rw [at2_of_lt _ (by omega) (by omega)]
  unfold argX
  blk_ext [iblk, V_main_arg5, idx5 t]
theorem read6 (t : Fin cfg0.N) (r : Fin 1) (l : Fin 1024) :
    iblk m c 6 t (ix2 r l) = at2 (argN m c) 0 l.val := by
  have := lt64 t
  rw [at2_of_lt _ (by omega) (by omega)]
  unfold argN
  blk_ext [iblk, V_main_arg6, idx6 t]

/-- One shard's part of the gradient of the normed input. -/
def part (s n d : Nat) : EReal :=
  (∑ f : Fin 704, at3 (argA m c) s n f.val * at3 (argG m c) s d f.val)
    + ∑ f : Fin 704, at3 (argB m c) s n f.val * at3 (argU m c) s d f.val

/-- The gradient of the normed and scaled input. -/
def dh (n d : Nat) : EReal := ∑ s : Fin 4, part m c s.val n d

theorem acc_point (t : Fin cfg0.N) (acc : Vec Ideal S512x1024 .f32) (r : Fin 512) (d : Fin 1024) :
    accBlk m c t acc (ix2 r d) = acc (ix2 r d) + part m c (t.val % 4) (512 * (t.val / 4) + r.val) d.val := by
  unfold accBlk
  pointwise [k0_pay3]
  unfold part
  simp only [read0, read1, read2, read3]

theorem acc_last (t : Fin cfg0.N) (hf : t.val % 4 = 3) (r : Fin 512) (d : Fin 1024) :
    (outsAt0 m c t.val t.isLt).2.2 (ix2 r d) = dh m c (512 * (t.val / 4) + r.val) d.val := by
  have key := Pipeline.eq_sum_fin_of_reset_step_apply_of_flush (fun n h => (outsAt0 m c n h).2.2) 4 (fun _ => (0 : EReal))
    (fun t j => part m c (t.val % 4) (512 * (t.val / 4) + (j 0).val) (j 1).val)
    (fun t h0 j => by
      obtain ⟨r, d, rfl⟩ : ∃ (r : Fin 512) (d : Fin 1024), j = ix2 r d := ⟨_, _, eq_ix2 j⟩
      rw [outs_acc_first m c t h0, acc_point]
      pointwise [k0_pay2])
    (fun t h0 j => by
      obtain ⟨r, d, rfl⟩ : ∃ (r : Fin 512) (d : Fin 1024), j = ix2 r d := ⟨_, _, eq_ix2 j⟩
      rw [outs_acc_next m c t h0, acc_point]
      rfl) t hf (ix2 r d)
  refine key.trans ?_
  rw [zero_add]
  unfold dh
  refine Finset.sum_congr rfl fun s _ => ?_
  have hs := s.isLt
  show part m c ((4 * (t.val / 4) + s.val) % 4) (512 * ((4 * (t.val / 4) + s.val) / 4) + r.val) d.val = _
  rw [show (4 * (t.val / 4) + s.val) % 4 = s.val by omega, show (4 * (t.val / 4) + s.val) / 4 = t.val / 4 by omega]

/-- The reciprocal of the root of a token's mean square. -/
def rms (n : Nat) : EReal :=
  Ideal.rsqrt (Ideal.div (∑ k : Fin 1024, at2 (argX m c) n k.val * at2 (argX m c) n k.val) (Ideal.ofBits .f32 0x44800000#32)
    + Ideal.ofBits .f32 0x358637BD#32)

theorem rms_at (t : Fin cfg0.N) (r : Fin 512) (z : Fin 1) :
    k0_pay4 (iblk m c 5 t) (ix2 r z) = rms m c (512 * (t.val / 4) + r.val) := by
  pointwise [k0_pay4]
  simp only [read5]
  rfl

theorem xn_at (t : Fin cfg0.N) (r : Fin 512) (d : Fin 1024) :
    k0_pay5 (iblk m c 5 t) (ix2 r d) = at2 (argX m c) (512 * (t.val / 4) + r.val) d.val * rms m c (512 * (t.val / 4) + r.val) := by
  pointwise [k0_pay5]
  rw [read5, rms_at]

/-- The gradient of the input. -/
def dx (n d : Nat) : EReal :=
  at2 (argR m c) n d + rms m c n * (dh m c n d * at2 (argN m c) 0 d
    - at2 (argX m c) n d * rms m c n * Ideal.div (∑ k : Fin 1024, dh m c n k.val * at2 (argN m c) 0 k.val
        * (at2 (argX m c) n k.val * rms m c n)) (Ideal.ofBits .f32 0x44800000#32))

def DX (i : S8192x1024.Idx) : EReal := dx m c (i 0).val (i 1).val

/-- The gradient of the gain, in each of the eight rows. -/
def dg (d : Nat) : EReal := ∑ n : Fin 8192, dh m c n.val d * (at2 (argX m c) n.val d * rms m c n.val)

def DG (i : S8x1024.Idx) : EReal := dg m c (i 1).val

theorem dx_at (t : Fin cfg0.N) (hf : t.val % 4 = 3) (y : S512x1024.Idx) :
    (outsAt0 m c t.val t.isLt).1 y = DX m c ((win0_7.blk t).view.emb y) := by
  obtain ⟨r, d, rfl⟩ : ∃ (r : Fin 512) (d : Fin 1024), y = ix2 r d := ⟨_, _, eq_ix2 y⟩
  have h0 : (((win0_7.blk t).view.emb (ix2 r d) : S8192x1024.Idx) 0).val = 512 * (t.val / 4) + r.val := by
    blk_simp [idx7 t]
    omega
  have h1 : (((win0_7.blk t).view.emb (ix2 r d) : S8192x1024.Idx) 1).val = d.val := by
    blk_simp [idx7 t]
  unfold DX
  rw [h0, h1, outs_dx m c t hf]
  pointwise [k0_pay6]
  simp only [read4, read6, xn_at, rms_at, acc_last m c t hf]
  rfl

theorem arr_dx : (dats m 0 c).arrAt 7 cfg0.N = DX m c := by
  refine (dats m 0 c).arrAt_eq_of_covers 7 _ (by decide +kernel) fun t hf y => ?_
  blk_simp
  rw [after0_7]
  exact dx_at m c t ((flush0_7 t).mp hf) y

/-- What a block of tokens adds to the gradient of the gain. -/
def dgPart (b d : Nat) : EReal :=
  ∑ r : Fin 512, dh m c (512 * b + r.val) d * (at2 (argX m c) (512 * b + r.val) d * rms m c (512 * b + r.val))

theorem dg_point (t : Fin cfg0.N) (hf : t.val % 4 = 3) (acc : Vec Ideal S8x1024 .f32) (r : Fin 8) (d : Fin 1024) :
    k0_pay7 (iblk m c 5 t) (outsAt0 m c t.val t.isLt).2.2 acc (ix2 r d) = acc (ix2 r d) + dgPart m c (t.val / 4) d.val := by
  pointwise [k0_pay7]
  unfold dgPart
  simp only [xn_at, acc_last m c t hf]

theorem dg_at (t : Fin cfg0.N) (hf : t.val % 64 = 63) (y : S8x1024.Idx) :
    (outsAt0 m c t.val t.isLt).2.1 y = DG m c ((win0_8.blk t).view.emb y) := by
  have key := Pipeline.eq_sum_fin_of_reset_step_apply_of_flush (fun n h => (outsAt0 m c n h).2.1) 64 (fun _ => (0 : EReal))
    (fun t j => if t.val % 4 = 3 then dgPart m c (t.val / 4) (j 1).val else 0)
    (fun t h0 j => by
      obtain ⟨r, d, rfl⟩ : ∃ (r : Fin 8) (d : Fin 1024), j = ix2 r d := ⟨_, _, eq_ix2 j⟩
      rw [outs_dg_first m c t h0, if_neg (by omega)]
      pointwise [k0_pay1])
    (fun t h0 j => by
      obtain ⟨r, d, rfl⟩ : ∃ (r : Fin 8) (d : Fin 1024), j = ix2 r d := ⟨_, _, eq_ix2 j⟩
      by_cases h2 : t.val % 4 = 3
      · rw [outs_dg_last m c t h2, if_pos h2, dg_point m c t h2]
        rfl
      · rw [outs_dg_keep m c t h0 h2, if_neg h2, add_zero]) t hf y
  refine key.trans ?_
  obtain ⟨r, d, rfl⟩ : ∃ (r : Fin 8) (d : Fin 1024), y = ix2 r d := ⟨_, _, eq_ix2 y⟩
  have h1 : (((win0_8.blk t).view.emb (ix2 r d) : S8x1024.Idx) 1).val = d.val := by
    blk_simp [idx8 t]
  unfold DG dg
  rw [h1, zero_add]
  have hl := lt64 t
  have h16 := Fin.sum_univ_mul_divmod 16 4 fun a b => if b = 3 then dgPart m c a d.val else 0
  have hb : ∀ a : Fin 16, (∑ b : Fin 4, if b.val = 3 then dgPart m c a.val d.val else 0) = dgPart m c a.val d.val := fun a => by
    rw [Fin.sum_univ_four, if_neg (by decide), if_neg (by decide), if_neg (by decide), if_pos (by decide), zero_add, zero_add, zero_add]
  simp only [hb] at h16
  refine (Finset.sum_congr rfl fun s _ => ?_).trans (h16.trans (Fin.sum_mul_add_congr fun b r hn => ?_))
  · have hs : 64 * (t.val / 64) + s.val = s.val := by omega
    show (if (64 * (t.val / 64) + s.val) % 4 = 3 then dgPart m c ((64 * (t.val / 64) + s.val) / 4) d.val else 0) = _
    rw [hs]
  · show _ = dh m c (b.val * 512 + r.val) d.val * (at2 (argX m c) (b.val * 512 + r.val) d.val * rms m c (b.val * 512 + r.val))
    rw [mul_comm b.val 512]

theorem arr_dg : (dats m 0 c).arrAt 8 cfg0.N = DG m c := by
  refine (dats m 0 c).arrAt_eq_of_covers 8 _ (by decide +kernel) fun t hf y => ?_
  blk_simp
  rw [after0_8]
  exact dg_at m c t ((flush0_8 t).mp hf) y

end Cert.Kernel3Ideal.NormIn

end
-- ==== Proof.NormInRef.lean ====
/- The derivative of a feed-forward's input products and of its norm, in the input and in the gain, at an index. -/
module

public import proofs.«01_k».proof.Proof.NormInArrays
public import proofs.«01_k».proof.Proof.Reals
public import proofs.«01_k».proof.Proof.Gen.Reference3Ideal.Run
public import proofs.«01_k».proof.Proof.Gen.Reference3Ideal.Read

@[expose] public section

set_option maxRecDepth 16384

noncomputable section

namespace Cert.Reference3Ideal.NormIn

open Cert.Reference3Ideal Cert.Reference3Ideal.Gen Cert.Reference3Ideal.Read Cert.Arrays Idealize.ShloMosaic Idealize.ShloMosaic.TcCoe
  Idealize.SL.Sem

open Cert.Kernel3Ideal.NormIn

variable (m : (ℓ : Loc Cert.Kernel3Ideal.nD Cert.Kernel3Ideal.τ Cert.Kernel3Ideal.sig) → Buf (Elt Ideal) ℓ) (c : Dev Cert.Kernel3Ideal.nD)

/-- The gradient of the normed and scaled input. -/
theorem ref_dh (n : Fin 8192) (d : Fin 1024) :
    val_main_v27 (F := Ideal) (argA m c) (argB m c) (argG m c) (argU m c) (ix2 n d) = dh m c n.val d.val := by
  pointwise [val_main_v27, val_main_v24, val_main_v26, val_main_v23, val_main_v25, val_main_v0, val_main_v1, val_main_v2, val_main_v3]
  unfold dh part
  rw [Finset.sum_add_distrib, add_comm]
  refine congrArg₂ (· + ·) ?_ ?_
  · refine Finset.sum_congr rfl fun s _ => Finset.sum_congr rfl fun f _ => ?_
    rw [at3_of_lt _ s.isLt n.isLt f.isLt, at3_of_lt _ s.isLt d.isLt f.isLt]
  · refine Finset.sum_congr rfl fun s _ => Finset.sum_congr rfl fun f _ => ?_
    rw [at3_of_lt _ s.isLt n.isLt f.isLt, at3_of_lt _ s.isLt d.isLt f.isLt]

/-- The mean square plus the constant. -/
def ms (n : Nat) : EReal :=
  Ideal.div (∑ k : Fin 1024, at2 (argX m c) n k.val * at2 (argX m c) n k.val) (Ideal.ofBits .f32 0x44800000#32)
    + Ideal.ofBits .f32 0x358637BD#32

theorem ref_ms (n : Fin 8192) (z : Fin 1) : val_main_v10 (F := Ideal) (argX m c) (ix2 n z) = ms m c n.val := by
  pointwise [val_main_v10, val_main_v8, val_main_v9, val_main_v6, val_main_v7, val_main_v5, val_main_v4, val_main_cst, val_main_cst_0, val_main_cst_1]
  unfold ms
  simp only [at2_of_lt _ n.isLt (Fin.isLt _)]

theorem ref_dg (r : Fin 8) (d : Fin 1024) :
    val_main_v48 (F := Ideal) (argA m c) (argB m c) (argG m c) (argU m c) (argX m c) (ix2 r d) = DG m c (ix2 r d) := by
  pointwise [val_main_v48, val_main_v30, val_main_v29, val_main_v28, val_main_v16, val_main_v15, val_main_v11, val_main_cst_3]
  simp only [ref_dh, ref_ms]
  show _ = dg m c d.val
  unfold dg
  refine Finset.sum_congr rfl fun n _ => ?_
  rw [mul_comm, at2_of_lt _ n.isLt d.isLt]
  rfl

/-- Real arguments make the gradient of the normed input real. -/
theorem dh_real (hA : ∀ i, argA m c i = ((argA m c i).toReal : EReal)) (hB : ∀ i, argB m c i = ((argB m c i).toReal : EReal))
    (hG : ∀ i, argG m c i = ((argG m c i).toReal : EReal)) (hU : ∀ i, argU m c i = ((argU m c i).toReal : EReal))
    (n : Fin 8192) (d : Fin 1024) : ∃ r : ℝ, dh m c n.val d.val = (r : EReal) := by
  refine ⟨∑ s : Fin 4, ((∑ f : Fin 704, (argA m c (ix3 s n f)).toReal * (argG m c (ix3 s d f)).toReal)
    + ∑ f : Fin 704, (argB m c (ix3 s n f)).toReal * (argU m c (ix3 s d f)).toReal), ?_⟩
  unfold dh part
  rw [Cert.Reals.coe_sum]
  refine Finset.sum_congr rfl fun s _ => ?_
  rw [EReal.coe_add, Cert.Reals.coe_sum, Cert.Reals.coe_sum]
  refine congrArg₂ (· + ·) (Finset.sum_congr rfl fun f _ => ?_) (Finset.sum_congr rfl fun f _ => ?_)
  · rw [at3_of_lt _ s.isLt n.isLt f.isLt, at3_of_lt _ s.isLt d.isLt f.isLt, EReal.coe_mul]
    exact congrArg₂ (· * ·) (hA _) (hG _)
  · rw [at3_of_lt _ s.isLt n.isLt f.isLt, at3_of_lt _ s.isLt d.isLt f.isLt, EReal.coe_mul]
    exact congrArg₂ (· * ·) (hB _) (hU _)

theorem ref_dx (hA : ∀ i, argA m c i = ((argA m c i).toReal : EReal)) (hB : ∀ i, argB m c i = ((argB m c i).toReal : EReal))
    (hG : ∀ i, argG m c i = ((argG m c i).toReal : EReal)) (hU : ∀ i, argU m c i = ((argU m c i).toReal : EReal))
    (hX : ∀ i, argX m c i = ((argX m c i).toReal : EReal)) (hN : ∀ i, argN m c i = ((argN m c i).toReal : EReal))
    (n : Fin 8192) (d : Fin 1024) :
    val_main_v47 (F := Ideal) (argA m c) (argB m c) (argG m c) (argU m c) (argR m c) (argX m c) (argN m c) (ix2 n d)
      = DX m c (ix2 n d) := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v14, val_main_v13,
    val_main_v12, val_main_v11, val_main_cst_2, val_main_cst_4, val_main_cst_5, val_main_cst_6]
  simp only [ref_dh, ref_ms, Fin.sum_univ_one]
  choose h hh using fun k => dh_real m c hA hB hG hU n k
  have e := Cert.Reals.norm_grad (fun k => (argX m c (ix2 n k)).toReal) (fun k => (argN m c (ix2 0 k)).toReal) h
    (argR m c (ix2 n d)) d (ms m c n.val) (Ideal.rsqrt (ms m c n.val))
    (by unfold ms; simp only [at2_of_lt _ n.isLt (Fin.isLt _), ← hX]) rfl
  simp only [← hX, ← hN, ← hh] at e
  refine e.trans ?_
  show _ = dx m c n.val d.val
  unfold dx
  simp only [at2_of_lt _ n.isLt (Fin.isLt _), at2_of_lt (argN m c) Nat.zero_lt_one (Fin.isLt _)]
  have hr : rms m c n.val = Ideal.rsqrt (ms m c n.val) := rfl
  rw [hr]
  rfl

end Cert.Reference3Ideal.NormIn

end
-- ==== Proof.WeightArrays.lean ====
/- The gradient of a feed-forward weight: what the call's grid leaves in its output array, over the extended reals. One
   grid point adds the product of 4096 tokens; two points make one shard's block. -/
module

public import proofs.«01_k».proof.Proof.Gen.Kernel4Ideal.Value
public import proofs.«01_k».proof.Proof.Arrays
public import Idealize.ShloMosaic.Lib.Pipeline.ValueKit

@[expose] public section

set_option maxRecDepth 16384

noncomputable section

namespace Cert.Kernel4Ideal.Weight

open Cert.Kernel4Ideal Cert.Kernel4Ideal.Gen Cert.Arrays Idealize.ShloMosaic Idealize.ShloMosaic.TcCoe Idealize.SL.Sem

variable (m : (ℓ : Loc nD τ sig) → Buf (Elt Ideal) ℓ) (c : Dev nD)

/-- The two arguments as arrays of extended reals. -/
def argA : Shape.Idx ⟨3, ![4, 8192, 704]⟩ → EReal := m ((c : Thread nD τ).loc main_arg0)
def argB : Shape.Idx ⟨2, ![8192, 1024]⟩ → EReal := m ((c : Thread nD τ).loc main_arg1)

theorem lt8 (t : Fin cfg0.N) : t.val < 8 := lt_of_lt_of_eq t.isLt N_0

theorem idx0 : ∀ t : Fin cfg0.N, win0_0.index t = ![t.val / 2, t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0, 0] := (by decide +kernel : ∀ t : Fin grid0.N, _)

theorem read0 (t : Fin cfg0.N) (z : Fin 1) (r : Fin 4096) (l : Fin 704) :
    iblk m c 0 t (ix3 z r l) = at3 (argA m c) (t.val / 2) (4096 * (t.val % 2) + r.val) l.val := by
  have := lt8 t
  rw [at3_of_lt _ (by omega) (by omega) (by omega)]
  unfold argA
  blk_ext [iblk, V_main_arg0, idx0 t]

theorem read1 (t : Fin cfg0.N) (r : Fin 4096) (l : Fin 1024) :
    iblk m c 1 t (ix2 r l) = at2 (argB m c) (4096 * (t.val % 2) + r.val) l.val := by
  have := lt8 t
  rw [at2_of_lt _ (by omega) (by omega)]
  unfold argB
  blk_ext [iblk, V_main_arg1, idx1 t]

/-- The gradient: the sum over the tokens of the products. -/
def DW (i : S4x704x1024.Idx) : EReal :=
  ∑ n : Fin 8192, at3 (argA m c) (i 0).val n.val (i 1).val * at2 (argB m c) n.val (i 2).val

/-- One point's part of the sum. -/
def part (t : Fin cfg0.N) (f d : Nat) : EReal :=
  ∑ x : Fin 4096, at3 (argA m c) (t.val / 2) (4096 * (t.val % 2) + x.val) f * at2 (argB m c) (4096 * (t.val % 2) + x.val) d

theorem point (t : Fin cfg0.N) (acc : Vec Ideal S1x704x1024 .f32) (z : Fin 1) (f : Fin 704) (d : Fin 1024) :
    k0_pay2 acc (iblk m c 0 t) (iblk m c 1 t) (ix3 z f d) = acc (ix3 z f d) + part m c t f.val d.val := by
  pointwise [k0_pay2]
  obtain rfl : z = 0 := Fin.fin_one_eq_zero z
  exact congrArg (_ + ·) (Finset.sum_congr rfl fun x _ => by rw [read0, read1])

theorem dw_at (t : Fin cfg0.N) (hf : t.val % 2 = 1) (y : S1x704x1024.Idx) :
    (outsAt0 m c t.val t.isLt) y = DW m c ((win0_2.blk t).view.emb y) := by
  have key := Pipeline.eq_sum_fin_of_reset_step_apply_of_flush (fun n h => outsAt0 m c n h) 2 (fun _ => (0 : EReal))
    (fun t j => part m c t (j 1).val (j 2).val)
    (fun t h0 j => by
      obtain ⟨z, f, d, rfl⟩ : ∃ (z : Fin 1) (f : Fin 704) (d : Fin 1024), j = ix3 z f d := ⟨_, _, _, eq_ix3 j⟩
      rw [outsAt0_A m c t h0, Value.out_A_2_eq, point]
      pointwise [k0_pay1])
    (fun t h0 j => by
      obtain ⟨z, f, d, rfl⟩ : ∃ (z : Fin 1) (f : Fin 704) (d : Fin 1024), j = ix3 z f d := ⟨_, _, _, eq_ix3 j⟩
      rw [outsAt0_B m c t h0, Value.out_B_2_eq, point]
      rfl) t hf y
  refine key.trans ?_
  obtain ⟨z, f, d, rfl⟩ : ∃ (z : Fin 1) (f : Fin 704) (d : Fin 1024), y = ix3 z f d := ⟨_, _, _, eq_ix3 y⟩
  have h0 : (((win0_2.blk t).view.emb (ix3 z f d) : S4x704x1024.Idx) 0).val = t.val / 2 := by
    blk_simp [idx2 t]
  have h1 : (((win0_2.blk t).view.emb (ix3 z f d) : S4x704x1024.Idx) 1).val = f.val := by
    blk_simp [idx2 t]
  have h2 : (((win0_2.blk t).view.emb (ix3 z f d) : S4x704x1024.Idx) 2).val = d.val := by
    blk_simp [idx2 t]
  unfold DW
  rw [h0, h1, h2, zero_add]
  have hl := lt8 t
  refine Fin.sum_mul_add_congr fun s x hx => ?_
  show at3 (argA m c) ((2 * (t.val / 2) + s.val) / 2) (4096 * ((2 * (t.val / 2) + s.val) % 2) + x.val) f.val
      * at2 (argB m c) (4096 * ((2 * (t.val / 2) + s.val) % 2) + x.val) d.val
    = at3 (argA m c) (t.val / 2) (s.val * 4096 + x.val) f.val * at2 (argB m c) (s.val * 4096 + x.val) d.val
  have hs := s.isLt
  have e1 : (2 * (t.val / 2) + s.val) / 2 = t.val / 2 := by omega
  have e2 : 4096 * ((2 * (t.val / 2) + s.val) % 2) + x.val = s.val * 4096 + x.val := by omega
  rw [e1, e2]

theorem arr_dw : (dats m 0 c).arrAt 2 cfg0.N = DW m c := by
  refine (dats m 0 c).arrAt_eq_of_covers 2 _ (by decide +kernel) fun t hf y => ?_
  blk_simp
  rw [after0_2]
  exact dw_at m c t ((flush0_2 t).mp hf) y

end Cert.Kernel4Ideal.Weight

end
-- ==== Proof.WeightRef.lean ====
/- The derivative of a product of the gated features and a weight, in the weight, at an index. -/
module

public import proofs.«01_k».proof.Proof.WeightArrays
public import proofs.«01_k».proof.Proof.Gen.Reference4Ideal.Run
public import proofs.«01_k».proof.Proof.Gen.Reference4Ideal.Read

@[expose] public section

set_option maxRecDepth 16384

noncomputable section

namespace Cert.Reference4Ideal.Weight

open Cert.Reference4Ideal Cert.Reference4Ideal.Gen Cert.Reference4Ideal.Read Cert.Arrays Idealize.ShloMosaic Idealize.ShloMosaic.TcCoe
  Idealize.SL.Sem

open Cert.Kernel4Ideal.Weight in
/-- The derivative in the weight, at one entry, is the sum over the tokens that the call leaves there. -/
theorem ref_dw (m : (ℓ : Loc Cert.Kernel4Ideal.nD Cert.Kernel4Ideal.τ Cert.Kernel4Ideal.sig) → Buf (Elt Ideal) ℓ) (c : Dev Cert.Kernel4Ideal.nD)
    (s : Fin 4) (f : Fin 704) (d : Fin 1024) :
    val_main_v5 (F := Ideal) (argA m c) (argB m c) (ix3 s f d) = DW m c (ix3 s f d) := by
  pointwise [val_main_v5, val_main_v4, val_main_v1, val_main_v0]
  unfold DW
  refine Finset.sum_congr rfl fun n _ => ?_
  show _ = at3 (argA m c) s.val n.val f.val * at2 (argB m c) n.val d.val
  rw [at3_of_lt _ s.isLt n.isLt f.isLt, at2_of_lt _ n.isLt d.isLt, mul_comm]

end Cert.Reference4Ideal.Weight

end
-- ==== Proof.FwdRuns.lean ====
module

public import proofs.«01_k».proof.Proof.Gen.Kernel5Ideal.Frame
public import proofs.«01_k».proof.Proof.Gen.Kernel5Ideal.Skeleton
public import Idealize.ShloMosaic.Lib.Exec
public import Idealize.ShloMosaic.Lib.Pipeline.Value

@[expose] public section

set_option maxRecDepth 16384

noncomputable section

/-! One point of the gated block's forward pass, as a triple of the body on whole buffers: at the first hidden
    block of a row block the body normalises the rows and clears the sum; at every hidden block it adds that
    block's product to the sum; at the last one it writes the residual plus half the sum. -/

namespace Cert.Kernel5Ideal.Fwd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zeros2 : (![0, 0] : Fin 2 → ℕ) = fun _ => 0 := by funext a; fin_cases a <;> rfl

theorem zeros3 : (![0, 0, 0] : Fin 3 → ℕ) = fun _ => 0 := by funext a; fin_cases a <;> rfl

/-- A buffer read after a last store over its whole extent is what was stored. -/
theorem read_store {S : Shape} {e : EltTy} (v : View sig .tc .vmem S e) (f) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-- The sum after a hidden block whose weights are `g`, `u`, `w`, from the normalised rows and the sum before. -/
def step (h : Vec F S512x1024 .bf16) (g u : Vec F S1x1024x704 .bf16) (s : Vec F S512x1024 .f32) (w : Vec F S1x704x1024 .bf16) :
    Vec F S512x1024 .f32 := k0_pay1 (k0_pay10 h g u s w)

/-- What is kept and what is written back are the same rows. -/
theorem pay4_eq (x : Vec F S512x1024 .f32) (g : Vec F S1x1024 .f32) : k0_pay4 x g = k0_pay3 x g := shapeCast_self _ _

section

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1x1024x704 .bf16) (harg4 : arg4.IsWhole)
  (arg5 : Memref sig .tc .vmem S1x1024x704 .bf16) (harg5 : arg5.IsWhole)
  (arg6 : Memref sig .tc .vmem S1x704x1024 .bf16) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S1x512x704 .bf16) (harg9 : arg9.IsWhole)
  (arg10 : Memref sig .tc .vmem S1x512x704 .bf16) (harg10 : arg10.IsWhole)
  (arg11 : Memref sig .tc .vmem S512x1024 .bf16) (harg11 : arg11.IsWhole)
  (arg12 : Memref sig .tc .vmem S512x1024 .f32) (harg12 : arg12.IsWhole)
  (x0 : Vec F S512x1024 .f32) (x1 : Vec F S1x1024 .f32) (x2 x3 : Vec F S1x1024x704 .bf16) (x4 : Vec F S1x704x1024 .bf16)

/-- The body at the first hidden block: the output's window untouched. -/
theorem body_first (E : Set ℕ) (K : PUnit → sProp 𝕄) (hc : k0_cond1 i = 1#1) (hd : ¬k0_cond2 i = 1#1) (z : Vec F S512x1024 .f32) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare z
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare z
            ∗ owns (c : Thread nD τ) arg8 fullShare (k0_pay4 x0 x1)
            ∗ owns (c : Thread nD τ) arg9 fullShare (k0_pay8 (k0_pay4 x0 x1) x2)
            ∗ owns (c : Thread nD τ) arg10 fullShare (k0_pay9 (k0_pay4 x0 x1) x3)
            ∗ owns (c : Thread nD τ) arg11 fullShare (k0_pay4 x0 x1)
            ∗ owns (c : Thread nD τ) arg12 fullShare (step (k0_pay4 x0 x1) x2 x3 k0_pay5 x4)) -∗ K ⟨⟩))
      ⊢ wp frame (wpE (defs₀ (F := F)) Variants.none c none) E
          (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel; simp only [k0_part1_eq_skeleton]; unfold k0_part1_skel
  unfold owns step
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, %e6, H6⟩, ⟨%d7, %f7, %e7, H7⟩, ⟨%d8, %f8, %e8, H8⟩, ⟨%d9, %f9, %e9, H9⟩, ⟨%d10, %f10, %e10, H10⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  obtain rfl := harg8.eq_unread e6; obtain rfl := harg9.eq_unread e7; obtain rfl := harg10.eq_unread e8
  obtain rfl := harg11.eq_unread e9; obtain rfl := harg12.eq_unread e10
  sl_exec (disch := first | sl_exact hc | sl_exact hd)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    rw [read_store (S := S512x1024) _ _ zeros2]
    simp only [View.readAt_eq_ld, Memref.IsWhole.read_unread, View.ld_unit_zero (S := S512x1024) zeros2, View.ld_unit_zero (S := S1x1024) zeros2]
    exact (pay4_eq x0 x1).symm
  isplitl [H7]
  · iexists _; isplitr; swap; · iexact H7
    ipureintro
    sl_unfold_words
    rw [read_store (S := S1x512x704) _ _ zeros3, View.readCov_unit_zero (S := S512x1024) _ zeros2]
    simp only [View.readAt_eq_ld, Memref.IsWhole.read_unread, View.ld_unit_zero (S := S512x1024) zeros2, View.ld_unit_zero (S := S1x1024) zeros2, View.ld_unit_zero (S := S1x1024x704) zeros3]
  isplitl [H8]
  · iexists _; isplitr; swap; · iexact H8
    ipureintro
    sl_unfold_words
    rw [read_store (S := S1x512x704) _ _ zeros3, View.readCov_unit_zero (S := S512x1024) _ zeros2]
    simp only [View.readAt_eq_ld, Memref.IsWhole.read_unread, View.ld_unit_zero (S := S512x1024) zeros2, View.ld_unit_zero (S := S1x1024) zeros2, View.ld_unit_zero (S := S1x1024x704) zeros3]
  isplitl [H9]
  · iexists _; isplitr; swap; · iexact H9
    ipureintro
    sl_unfold_words
    rw [read_store (S := S512x1024) _ _ zeros2]
    simp only [View.readAt_eq_ld, Memref.IsWhole.read_unread, View.ld_unit_zero (S := S512x1024) zeros2, View.ld_unit_zero (S := S1x1024) zeros2]
  iexists _; isplitr; swap; · iexact H10
  ipureintro
  sl_unfold_words
  rw [read_store (S := S512x1024) _ _ zeros2]
  simp only [View.readCov_unit_zero (S := S512x1024) _ zeros2, View.readAt_eq_ld, Memref.IsWhole.read_unread, View.ld_unit_zero (S := S512x1024) zeros2, View.ld_unit_zero (S := S1x1024) zeros2, View.ld_unit_zero (S := S1x1024x704) zeros3, View.ld_unit_zero (S := S1x704x1024) zeros3]

/-- The body at a hidden block between: the rows kept at `h`, the sum at `s`, the two windows it does not store
    into untouched. -/
theorem body_between (E : Set ℕ) (K : PUnit → sProp 𝕄) (hc : ¬k0_cond1 i = 1#1) (hd : ¬k0_cond2 i = 1#1)
    (z s : Vec F S512x1024 .f32) (y h : Vec F S512x1024 .bf16) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare z
        ∗ owns (c : Thread nD τ) arg8 fullShare y ∗ (∃ d, owns (c : Thread nD τ) arg9 fullShare d)
        ∗ (∃ d, owns (c : Thread nD τ) arg10 fullShare d) ∗ owns (c : Thread nD τ) arg11 fullShare h
        ∗ owns (c : Thread nD τ) arg12 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare z
            ∗ owns (c : Thread nD τ) arg8 fullShare y
            ∗ owns (c : Thread nD τ) arg9 fullShare (k0_pay8 h x2)
            ∗ owns (c : Thread nD τ) arg10 fullShare (k0_pay9 h x3)
            ∗ owns (c : Thread nD τ) arg11 fullShare h
            ∗ owns (c : Thread nD τ) arg12 fullShare (step h x2 x3 s x4)) -∗ K ⟨⟩))
      ⊢ wp frame (wpE (defs₀ (F := F)) Variants.none c none) E
          (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel; simp only [k0_part1_eq_skeleton]; unfold k0_part1_skel
  unfold owns step
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, %e7, H7⟩, ⟨%d8, %f8, %e8, H8⟩, ⟨%f9, %e9, H9⟩, ⟨%f10, %e10, H10⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  obtain rfl := harg8.eq_unread e6; obtain rfl := harg9.eq_unread e7; obtain rfl := harg10.eq_unread e8
  obtain rfl := harg11.eq_unread e9; obtain rfl := harg12.eq_unread e10
  sl_exec (disch := first | sl_exact hc | sl_exact hd)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_store (S := S1x512x704) _ _ zeros3]
    simp only [View.readAt_eq_ld, Memref.IsWhole.read_unread, View.ld_unit_zero (S := S512x1024) zeros2, View.ld_unit_zero (S := S1x1024x704) zeros3]
  isplitl [H8]
  · iexists _; isplitr; swap; · iexact H8
    ipureintro
    sl_unfold_words
    rw [read_store (S := S1x512x704) _ _ zeros3]
    simp only [View.readAt_eq_ld, Memref.IsWhole.read_unread, View.ld_unit_zero (S := S512x1024) zeros2, View.ld_unit_zero (S := S1x1024x704) zeros3]
  isplitl [H9]
  · iexists _; isplitr; · ipureintro; exact harg11.read_unread _
    iexact H9
  iexists _; isplitr; swap; · iexact H10
  ipureintro
  sl_unfold_words
  rw [read_store (S := S512x1024) _ _ zeros2]
  simp only [View.readAt_eq_ld, Memref.IsWhole.read_unread, View.ld_unit_zero (S := S512x1024) zeros2, View.ld_unit_zero (S := S1x1024x704) zeros3, View.ld_unit_zero (S := S1x704x1024) zeros3]

/-- The body at the last hidden block: also the output's window. -/
theorem body_last (E : Set ℕ) (K : PUnit → sProp 𝕄) (hc : ¬k0_cond1 i = 1#1) (hd : k0_cond2 i = 1#1)
    (s : Vec F S512x1024 .f32) (y h : Vec F S512x1024 .bf16) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare y ∗ (∃ d, owns (c : Thread nD τ) arg9 fullShare d)
        ∗ (∃ d, owns (c : Thread nD τ) arg10 fullShare d) ∗ owns (c : Thread nD τ) arg11 fullShare h
        ∗ owns (c : Thread nD τ) arg12 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (k0_pay2 x0 (step h x2 x3 s x4))
            ∗ owns (c : Thread nD τ) arg8 fullShare y
            ∗ owns (c : Thread nD τ) arg9 fullShare (k0_pay8 h x2)
            ∗ owns (c : Thread nD τ) arg10 fullShare (k0_pay9 h x3)
            ∗ owns (c : Thread nD τ) arg11 fullShare h
            ∗ owns (c : Thread nD τ) arg12 fullShare (step h x2 x3 s x4)) -∗ K ⟨⟩))
      ⊢ wp frame (wpE (defs₀ (F := F)) Variants.none c none) E
          (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel; simp only [k0_part1_eq_skeleton]; unfold k0_part1_skel
  unfold owns step
  iintro ⟨⟨%f0, %e0, H0⟩, ⟨%f1, %e1, H1⟩, ⟨%f2, %e2, H2⟩, ⟨%f3, %e3, H3⟩, ⟨%f4, %e4, H4⟩, ⟨%d5, %f5, %e5, H5⟩, ⟨%f6, %e6, H6⟩, ⟨%d7, %f7, %e7, H7⟩, ⟨%d8, %f8, %e8, H8⟩, ⟨%f9, %e9, H9⟩, ⟨%f10, %e10, H10⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  obtain rfl := harg8.eq_unread e6; obtain rfl := harg9.eq_unread e7; obtain rfl := harg10.eq_unread e8
  obtain rfl := harg11.eq_unread e9; obtain rfl := harg12.eq_unread e10
  sl_exec (disch := first | sl_exact hc | sl_exact hd)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    rw [read_store (S := S512x1024) _ _ zeros2]
    simp only [View.readCov_unit_zero (S := S512x1024) _ zeros2, View.readAt_eq_ld, Memref.IsWhole.read_unread, View.ld_unit_zero (S := S512x1024) zeros2, View.ld_unit_zero (S := S1x1024x704) zeros3, View.ld_unit_zero (S := S1x704x1024) zeros3]
  isplitl [H6]
  · iexists _; isplitr; · ipureintro; exact harg8.read_unread _
    iexact H6
  isplitl [H7]
  · iexists _; isplitr; swap; · iexact H7
    ipureintro
    sl_unfold_words
    rw [read_store (S := S1x512x704) _ _ zeros3]
    simp only [View.readAt_eq_ld, Memref.IsWhole.read_unread, View.ld_unit_zero (S := S512x1024) zeros2, View.ld_unit_zero (S := S1x1024x704) zeros3]
  isplitl [H8]
  · iexists _; isplitr; swap; · iexact H8
    ipureintro
    sl_unfold_words
    rw [read_store (S := S1x512x704) _ _ zeros3]
    simp only [View.readAt_eq_ld, Memref.IsWhole.read_unread, View.ld_unit_zero (S := S512x1024) zeros2, View.ld_unit_zero (S := S1x1024x704) zeros3]
  isplitl [H9]
  · iexists _; isplitr; · ipureintro; exact harg11.read_unread _
    iexact H9
  iexists _; isplitr; swap; · iexact H10
  ipureintro
  sl_unfold_words
  rw [read_store (S := S512x1024) _ _ zeros2]
  simp only [View.readAt_eq_ld, Memref.IsWhole.read_unread, View.ld_unit_zero (S := S512x1024) zeros2, View.ld_unit_zero (S := S1x1024x704) zeros3, View.ld_unit_zero (S := S1x704x1024) zeros3]

end

end Cert.Kernel5Ideal.Fwd

end
-- ==== Proof.FwdFrame.lean ====
module

public import proofs.«01_k».proof.Proof.FwdRuns
public import Idealize.ShloMosaic.Lib.Pipeline.FrameBody
public import Idealize.ShloMosaic.Lib.Pipeline.TableIdle
public import Idealize.ShloMosaic.Lib.Claim

@[expose] public section

set_option maxRecDepth 16384

noncomputable section

/-! The launch of the gated block's forward pass, over any values: what every point leaves in the output windows
    and in the two carried buffers, the body at every point, and the run. -/

namespace Cert.Kernel5Ideal.Fwd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first condition holds at the first hidden block of each row block, -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- the second at the last. -/
theorem cond2_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-- The normalised rows kept after point `n`: those of the row block's first point. -/
def kept (c : Dev nD) : (n : ℕ) → n < cfg0.N → Vec F S512x1024 .bf16
  | 0, h => k0_pay4 (iblk m c 0 ⟨0, h⟩) (iblk m c 1 ⟨0, h⟩)
  | n + 1, h => if (n + 1) % 4 = 0 then k0_pay4 (iblk m c 0 ⟨n + 1, h⟩) (iblk m c 1 ⟨n + 1, h⟩) else kept c n (Nat.lt_of_succ_lt h)

theorem kept_first (c : Dev nD) (t : Fin cfg0.N) (h : t.val % 4 = 0) :
    kept m c t.val t.isLt = k0_pay4 (iblk m c 0 t) (iblk m c 1 t) := by
  obtain ⟨n, hn⟩ := t
  cases n with
  | zero => rfl
  | succ n => unfold kept; rw [if_pos h]

theorem kept_later (c : Dev nD) (t : Fin cfg0.N) (h : ¬t.val % 4 = 0) :
    kept m c t.val t.isLt = kept m c (t.val - 1) (Nat.lt_of_le_of_lt (Nat.sub_le _ _) t.isLt) := by
  obtain ⟨n, hn⟩ := t
  cases n with
  | zero => exact absurd rfl h
  | succ n => show kept m c (n + 1) hn = kept m c n _; rw [kept, if_neg h]

/-- One hidden block's step at a point, from the sum before. -/
def stepAt (c : Dev nD) (t : Fin cfg0.N) (s : Vec F S512x1024 .f32) : Vec F S512x1024 .f32 :=
  step (kept m c t.val t.isLt) (iblk m c 2 t) (iblk m c 3 t) s (iblk m c 4 t)

/-- The sum after point `n`. -/
def sums (c : Dev nD) : (n : ℕ) → n < cfg0.N → Vec F S512x1024 .f32
  | 0, h => stepAt m c ⟨0, h⟩ k0_pay5
  | n + 1, h => if (n + 1) % 4 = 0 then stepAt m c ⟨n + 1, h⟩ k0_pay5 else stepAt m c ⟨n + 1, h⟩ (sums c n (Nat.lt_of_succ_lt h))

theorem sums_first (c : Dev nD) (t : Fin cfg0.N) (h : t.val % 4 = 0) : sums m c t.val t.isLt = stepAt m c t k0_pay5 := by
  obtain ⟨n, hn⟩ := t
  cases n with
  | zero => rfl
  | succ n => unfold sums; rw [if_pos h]

theorem sums_later (c : Dev nD) (t : Fin cfg0.N) (h : ¬t.val % 4 = 0) :
    sums m c t.val t.isLt = stepAt m c t (sums m c (t.val - 1) (Nat.lt_of_le_of_lt (Nat.sub_le _ _) t.isLt)) := by
  obtain ⟨n, hn⟩ := t
  cases n with
  | zero => exact absurd rfl h
  | succ n => show sums m c (n + 1) hn = stepAt m c _ (sums m c n _); rw [sums, if_neg h]

/-- The two carried buffers. -/
abbrev carH : Memref sig .tc .vmem S512x1024 .bf16 := Memref.whole cc0_scratch0
abbrev carS : Memref sig .tc .vmem S512x1024 .f32 := Memref.whole cc0_scratch1

/-- What holds between points: the carried buffers at what the last point left, at anything before the first. -/
def inv (c : Dev nD) : (n : ℕ) → n ≤ cfg0.N → sProp 𝕄
  | 0, _ => Pipeline.ΦA spec0 c
  | n + 1, h => iprop((owns (c : Thread nD τ) carH fullShare (kept m c n h) ∗ owns (c : Thread nD τ) carS fullShare (sums m c n h))
      ∗ (∃ r, prngReg c r))

theorem inv_succ (c : Dev nD) (n : ℕ) (h : n < cfg0.N) :
    inv m c (n + 1) h = iprop((owns (c : Thread nD τ) carH fullShare (kept m c n h) ∗ owns (c : Thread nD τ) carS fullShare (sums m c n h))
      ∗ (∃ r, prngReg c r)) := rfl

theorem inv_pos (c : Dev nD) (n : ℕ) (h : n ≤ cfg0.N) (hz : n ≠ 0) :
    inv m c n h = iprop((owns (c : Thread nD τ) carH fullShare (kept m c (n - 1) (by omega))
      ∗ owns (c : Thread nD τ) carS fullShare (sums m c (n - 1) (by omega))) ∗ (∃ r, prngReg c r)) := by
  cases n with
  | zero => exact absurd rfl hz
  | succ n => rfl

theorem ΦA_eq (c : Dev nD) :
    (Pipeline.ΦA spec0 c : sProp 𝕄)
      = iprop(((∃ d, owns (c : Thread nD τ) carH fullShare d) ∗ (∃ d, owns (c : Thread nD τ) carS fullShare d)) ∗ (∃ r, prngReg c r)) := by
  unfold Pipeline.ΦA; rw [scopedRest0_eq]; simp only [carH, carS, owns_whole]; try rfl

/-- At any position the carried buffers are at something. -/
theorem inv_any (c : Dev nD) (n : ℕ) (h : n ≤ cfg0.N) :
    inv m c n h ⊢ iprop(((∃ d, owns (c : Thread nD τ) carH fullShare d) ∗ (∃ d, owns (c : Thread nD τ) carS fullShare d))
      ∗ (∃ r, prngReg c r)) := by
  cases n with
  | zero =>
    show Pipeline.ΦA spec0 c ⊢ _
    rw [ΦA_eq]
  | succ n =>
    rw [inv_succ]
    iintro ⟨⟨HH, HS⟩, Hg⟩
    isplitl [HH HS]
    · isplitl [HH]
      · iexists _; iexact HH
      iexists _; iexact HS
    iexact Hg

/-- The proof data: every input window at its block, the outputs at the body's terms. The output's window is
    stated at every point, though only the last hidden block of a row block stores it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (sums m c t.val t.isLt)
    | ⟨6, _⟩ => kept m c t.val t.isLt
    | ⟨7, _⟩ => k0_pay8 (kept m c t.val t.isLt) (iblk m c 2 t)
    | ⟨8, _⟩ => k0_pay9 (kept m c t.val t.isLt) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

section

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = k0_pay2 (iblk m c 0 t) (sums m c t.val t.isLt) := by dsimp only [dats]
theorem after_6 : (dats m 0 c).after 6 t = kept m c t.val t.isLt := by dsimp only [dats]
theorem after_7 : (dats m 0 c).after 7 t = k0_pay8 (kept m c t.val t.isLt) (iblk m c 2 t) := by dsimp only [dats]
theorem after_8 : (dats m 0 c).after 8 t = k0_pay9 (kept m c t.val t.isLt) (iblk m c 3 t) := by dsimp only [dats]

theorem inv_castSucc : (dats m 0 c).Φ t.castSucc = inv m c t.val (Nat.le_of_lt t.isLt) := by
  dsimp only [dats]; exact Pipeline.Dat.Φ_castSucc (inv m c) t

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d

/-- The output's window is idle before the last hidden block, the window of the rows after the first. -/
theorem idle_5 : cfg0.idle 5 (grid0.coords t) = true ↔ ¬t.val % 4 = 3 := by
  revert t
  exact (by decide +kernel : ∀ t : Fin grid0.N, idle0 5 (grid0.coords t) = true ↔ ¬t.val % 4 = 3)

theorem idle_6 : cfg0.idle 6 (grid0.coords t) = true ↔ ¬t.val % 4 = 0 := by
  revert t
  exact (by decide +kernel : ∀ t : Fin grid0.N, idle0 6 (grid0.coords t) = true ↔ ¬t.val % 4 = 0)

theorem fresh_6 (h : ¬t.val % 4 = 0) : cfg0.fresh 6 t.val = false := by
  revert t
  decide +kernel

/-- After the first hidden block the window of the rows still holds what that one stored. -/
theorem before_6 (h : ¬t.val % 4 = 0) (d) : (dats m 0 c).before 6 t d = kept m c t.val t.isLt := by
  rw [Dat.before_out_traj _ 6 rfl (fun _ _ => rfl) (fun s _ hi _ => by
      rw [after_6, after_6]; exact kept_later m c s ((idle_6 s).mp hi)) t.val t rfl d,
    if_neg (by rw [fresh_6 t h]; exact Bool.false_ne_true), kept_later m c t h]
  dsimp only [dats]

theorem leaves_6_first (h : t.val % 4 = 0) :
    (dats m 0 c).leavesExact 6 t = owns (c : Thread nD τ) (st0_6 t) fullShare ((dats m 0 c).after 6 t) := by
  unfold Dat.leavesExact
  rw [show cfg0.idle 6 (cfg0.grid.coords t) = false from Bool.eq_false_iff.mpr fun hi => (idle_6 t).mp hi h]

theorem leaves_6_later (h : ¬t.val % 4 = 0) :
    owns (c : Thread nD τ) (st0_6 t) fullShare (kept m c t.val t.isLt) ⊢ (dats m 0 c).leavesExact 6 t := by
  unfold Dat.leavesExact
  rw [show cfg0.idle 6 (cfg0.grid.coords t) = true from (idle_6 t).mpr h]
  cases hf : (cfg0.win 6).flush t with
  | true => show _ ⊢ owns (c : Thread nD τ) _ fullShare ((dats m 0 c).after 6 t); rw [after_6]
  | false =>
    show _ ⊢ iprop(∃ d, owns (c : Thread nD τ) _ fullShare ((dats m 0 c).before 6 t d))
    simp only [before_6 m c t h]
    iintro H
    iexists fun _ => Classical.arbitrary _
    iexact H

theorem leaves_5_last (h : t.val % 4 = 3) :
    (dats m 0 c).leavesExact 5 t = owns (c : Thread nD τ) (st0_5 t) fullShare ((dats m 0 c).after 5 t) := by
  unfold Dat.leavesExact
  rw [show cfg0.idle 5 (cfg0.grid.coords t) = false from Bool.eq_false_iff.mpr fun hi => (idle_5 t).mp hi h]

theorem leaves_5_before (h : ¬t.val % 4 = 3) :
    (dats m 0 c).leavesExact 5 t = iprop(∃ d, owns (c : Thread nD τ) (st0_5 t) fullShare ((dats m 0 c).before 5 t d)) :=
  Dat.leavesExact_idle (dats m 0 c) 5 t ((idle_5 t).mpr h) (Bool.eq_false_iff.mpr fun hf => h ((flush0_5 t).mp hf))

/-- What the body is called with at a point. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 6400000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = inv m c (t.val + 1) t.isLt from rfl, inv_succ, inv_castSucc]
  rw [show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).leavesExact 7 t = owns (c : Thread nD τ) (st0_7 t) fullShare ((dats m 0 c).after 7 t) from rfl, after_7,
    show (dats m 0 c).leavesExact 8 t = owns (c : Thread nD τ) (st0_8 t) fullShare ((dats m 0 c).after 8 t) from rfl, after_8]
  by_cases h : t.val % 4 = 0
  · have h3 : ¬t.val % 4 = 3 := by omega
    rw [leaves_6_first m c t h, leaves_5_before m c t h3, after_6, sums_first m c t h]
    unfold stepAt
    rw [kept_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := (inv_any m c t.val _) $$ HΦ
    icases HΦ with ⟨⟨HH, HS⟩, Hg⟩
    iapply (body_first c (grid0.coords t) _ _ _ _ _ _ _ _ _ _ _ _ _ _ _ _ _ _ _ _ _ _ (iblk m c 0 t) (iblk m c 1 t) (iblk m c 2 t) (iblk m c 3 t) (iblk m c 4 t) Set.univ _ ((cond1_iff t).mpr h) (fun hc => h3 ((cond2_iff t).mp hc)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HH]; · iexact HH
    isplitl [HS]; · iexact HS
    iintro ⟨H0, H1, H2, H3, H4, H5, H6, H7, H8, HH, HS⟩
    isplitl [HH HS Hg]
    · isplitl [HH HS]
      · isplitl [HH]; · iexact HH
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iexact H8
  · by_cases h3 : t.val % 4 = 3
    · rw [inv_pos m c _ _ (fun hz => h (by omega)), leaves_5_last m c t h3, after_5, sums_later m c t h]
      unfold stepAt
      rw [← kept_later m c t h]
      simp only [before_6 m c t h]
      iintro ⟨⟨⟨HH, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c (grid0.coords t) _ _ _ _ _ _ _ _ _ _ _ _ _ _ _ _ _ _ _ _ _ _ (iblk m c 0 t) (iblk m c 1 t) (iblk m c 2 t) (iblk m c 3 t) (iblk m c 4 t) Set.univ _ (fun hc => h ((cond1_iff t).mp hc)) ((cond2_iff t).mpr h3) _ (kept m c t.val t.isLt) (kept m c t.val t.isLt))
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexists _; iexact H8
      isplitl [HH]; · iexact HH
      isplitl [HS]; · iexact HS
      iintro ⟨H0, H1, H2, H3, H4, H5, H6, H7, H8, HH, HS⟩
      isplitl [HH HS Hg]
      · isplitl [HH HS]
        · isplitl [HH]; · iexact HH
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leaves_6_later m c t h); iexact H6
      isplitl [H7]; · iexact H7
      iexact H8
    · rw [inv_pos m c _ _ (fun hz => h (by omega)), leaves_5_before m c t h3, sums_later m c t h]
      unfold stepAt
      rw [← kept_later m c t h]
      simp only [before_6 m c t h]
      iintro ⟨⟨⟨HH, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_between c (grid0.coords t) _ _ _ _ _ _ _ _ _ _ _ _ _ _ _ _ _ _ _ _ _ _ (iblk m c 0 t) (iblk m c 1 t) (iblk m c 2 t) (iblk m c 3 t) (iblk m c 4 t) Set.univ _ (fun hc => h ((cond1_iff t).mp hc)) (fun hc => h3 ((cond2_iff t).mp hc)) _ _ (kept m c t.val t.isLt) (kept m c t.val t.isLt))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HH]; · iexact HH
      isplitl [HS]; · iexact HS
      iintro ⟨H0, H1, H2, H3, H4, H5, H6, H7, H8, HH, HS⟩
      isplitl [HH HS Hg]
      · isplitl [HH HS]
        · isplitl [HH]; · iexact HH
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iapply (leaves_6_later m c t h); iexact H6
      isplitl [H7]; · iexact H7
      iexact H8

end

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

theorem inv_out (c : Dev nD) : (dats m 0 c).Φ (Fin.last cfg0.N) ⊢ Pipeline.ΦA spec0 c := by
  rw [ΦA_eq]
  exact inv_any m c cfg0.N (Nat.le_refl _)

set_option backward.isDefEq.respectTransparency.types false in
/-- The launch ends with every window's array at what the points wrote back, and the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := inv_out m)

/-- The run with each output array after it named, the arguments as launched. -/
theorem run_blocks : θ_run defs (onTc (τ := τ) (main (F := F))) ⟨m, fun _ => 0, ρ⟩ (fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h.1 c).1 5, (h.1 c).1 6, (h.1 c).1 7, (h.1 c).1 8,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c)))⟩)
    (run_main m ρ)

/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel5Ideal.Fwd

end
-- ==== Proof.FwdArrays.lean ====
/- The half-step feed-forward layer forward: what the call's grid leaves in its four output arrays, over the extended reals.
   Four points (one per shard) make one block of 512 tokens; sixteen blocks make the array. -/
module

public import proofs.«01_k».proof.Proof.FwdFrame
public import proofs.«01_k».proof.Proof.Arrays
public import Idealize.ShloMosaic.Lib.Pipeline.ValueKit

@[expose] public section

set_option maxRecDepth 16384

noncomputable section

namespace Cert.Kernel5Ideal.Fwd

open Cert.Kernel5Ideal Cert.Kernel5Ideal.Gen Cert.Arrays Idealize.ShloMosaic Idealize.ShloMosaic.TcCoe Idealize.SL.Sem

variable (m : (ℓ : Loc nD τ sig) → Buf (Elt Ideal) ℓ) (c : Dev nD)

/-- The arguments as arrays of extended reals. -/
def argX : Shape.Idx ⟨2, ![8192, 1024]⟩ → EReal := m ((c : Thread nD τ).loc main_arg0)
def argN : Shape.Idx ⟨2, ![1, 1024]⟩ → EReal := m ((c : Thread nD τ).loc main_arg1)
def argG : Shape.Idx ⟨3, ![4, 1024, 704]⟩ → EReal := m ((c : Thread nD τ).loc main_arg2)
def argU : Shape.Idx ⟨3, ![4, 1024, 704]⟩ → EReal := m ((c : Thread nD τ).loc main_arg3)
def argW : Shape.Idx ⟨3, ![4, 704, 1024]⟩ → EReal := m ((c : Thread nD τ).loc main_arg4)

theorem lt64 (t : Fin cfg0.N) : t.val < 64 := lt_of_lt_of_eq t.isLt N_0

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4, 0, 0] := (by decide +kernel : ∀ t : Fin grid0.N, _)
theorem idx4 : ∀ t : Fin cfg0.N, win0_4.index t = ![t.val % 4, 0, 0] := (by decide +kernel : ∀ t : Fin grid0.N, _)
theorem idx5 : ∀ t : Fin cfg0.N, win0_5.index t = ![t.val / 4, 0] := (by decide +kernel : ∀ t : Fin grid0.N, _)
theorem idx6 : ∀ t : Fin cfg0.N, win0_6.index t = ![t.val / 4, 0] := (by decide +kernel : ∀ t : Fin grid0.N, _)
theorem idx7 : ∀ t : Fin cfg0.N, win0_7.index t = ![t.val % 4, t.val / 4, 0] := (by decide +kernel : ∀ t : Fin grid0.N, _)
theorem idx8 : ∀ t : Fin cfg0.N, win0_8.index t = ![t.val % 4, t.val / 4, 0] := (by decide +kernel : ∀ t : Fin grid0.N, _)

theorem read0 (t : Fin cfg0.N) (r : Fin 512) (l : Fin 1024) :
    iblk m c 0 t (ix2 r l) = at2 (argX m c) (512 * (t.val / 4) + r.val) l.val := by
  have := lt64 t
  rw [at2_of_lt _ (by omega) (by omega)]
  unfold argX
  blk_ext [iblk, V_main_arg0, idx0 t]
theorem read1 (t : Fin cfg0.N) (r : Fin 1) (l : Fin 1024) :
    iblk m c 1 t (ix2 r l) = at2 (argN m c) 0 l.val := by
  have := lt64 t
  rw [at2_of_lt _ (by omega) (by omega)]
  unfold argN
  blk_ext [iblk, V_main_arg1, idx1 t]
theorem read2 (t : Fin cfg0.N) (z : Fin 1) (r : Fin 1024) (l : Fin 704) :
    iblk m c 2 t (ix3 z r l) = at3 (argG m c) (t.val % 4) r.val l.val := by
  have := lt64 t
  rw [at3_of_lt _ (by omega) (by omega) (by omega)]
  unfold argG
  blk_ext [iblk, V_main_arg2, idx2 t]
theorem read3 (t : Fin cfg0.N) (z : Fin 1) (r : Fin 1024) (l : Fin 704) :
    iblk m c 3 t (ix3 z r l) = at3 (argU m c) (t.val % 4) r.val l.val := by
  have := lt64 t
  rw [at3_of_lt _ (by omega) (by omega) (by omega)]
  unfold argU
  blk_ext [iblk, V_main_arg3, idx3 t]
theorem read4 (t : Fin cfg0.N) (z : Fin 1) (r : Fin 704) (l : Fin 1024) :
    iblk m c 4 t (ix3 z r l) = at3 (argW m c) (t.val % 4) r.val l.val := by
  have := lt64 t
  rw [at3_of_lt _ (by omega) (by omega) (by omega)]
  unfold argW
  blk_ext [iblk, V_main_arg4, idx4 t]

/-- The reciprocal of the root of a token's mean square. -/
def rms (n : Nat) : EReal :=
  Ideal.rsqrt (Ideal.div (∑ k : Fin 1024, at2 (argX m c) n k.val * at2 (argX m c) n k.val) (Ideal.ofBits .f32 0x44800000#32)
    + Ideal.ofBits .f32 0x358637BD#32)

/-- The normed and scaled rows. -/
def hid (n d : Nat) : EReal := at2 (argX m c) n d * rms m c n * at2 (argN m c) 0 d

/-- The two products with the weights of one shard. -/
def gate (s n f : Nat) : EReal := ∑ d : Fin 1024, hid m c n d.val * at3 (argG m c) s d.val f
def up (s n f : Nat) : EReal := ∑ d : Fin 1024, hid m c n d.val * at3 (argU m c) s d.val f

/-- One shard's part of the layer's sum. -/
def part (s n d : Nat) : EReal :=
  ∑ f : Fin 704, gate m c s n f.val * Ideal.logistic (gate m c s n f.val) * up m c s n f.val * at3 (argW m c) s f.val d

/-- The layer's output. -/
def out (n d : Nat) : EReal := at2 (argX m c) n d + Ideal.ofBits .f32 0x3F000000#32 * ∑ s : Fin 4, part m c s.val n d

def Y (i : S8192x1024.Idx) : EReal := out m c (i 0).val (i 1).val
def H (i : S8192x1024.Idx) : EReal := hid m c (i 0).val (i 1).val
def A (i : S4x8192x704.Idx) : EReal := gate m c (i 0).val (i 1).val (i 2).val
def B (i : S4x8192x704.Idx) : EReal := up m c (i 0).val (i 1).val (i 2).val

theorem kept_at : ∀ (n : ℕ) (h : n < cfg0.N) (r : Fin 512) (d : Fin 1024),
    kept m c n h (ix2 r d) = hid m c (512 * (n / 4) + r.val) d.val
  | n, h, r, d => by
    by_cases h0 : n % 4 = 0
    · rw [kept_first m c ⟨n, h⟩ h0, pay4_eq]
      pointwise [k0_pay3]
      simp only [read0, read1]
      rfl
    · rw [kept_later m c ⟨n, h⟩ h0]
      refine (kept_at (n - 1) _ r d).trans ?_
      rw [show (n - 1) / 4 = n / 4 by omega]
  termination_by n => n
  decreasing_by omega

theorem gate_at (t : Fin cfg0.N) (r : Fin 512) (f : Fin 704) :
    k0_pay6 (kept m c t.val t.isLt) (iblk m c 2 t) (ix2 r f) = gate m c (t.val % 4) (512 * (t.val / 4) + r.val) f.val := by
  pointwise [k0_pay6]
  simp only [kept_at, read2]
  rfl

theorem up_at (t : Fin cfg0.N) (r : Fin 512) (f : Fin 704) :
    k0_pay7 (kept m c t.val t.isLt) (iblk m c 3 t) (ix2 r f) = up m c (t.val % 4) (512 * (t.val / 4) + r.val) f.val := by
  pointwise [k0_pay7]
  simp only [kept_at, read3]
  rfl

theorem step_at (t : Fin cfg0.N) (s : Vec Ideal S512x1024 .f32) (r : Fin 512) (d : Fin 1024) :
    stepAt m c t s (ix2 r d) = s (ix2 r d) + part m c (t.val % 4) (512 * (t.val / 4) + r.val) d.val := by
  unfold stepAt step
  pointwise [k0_pay1, k0_pay10]
  simp only [gate_at, up_at, read4]
  rfl

theorem sums_last (t : Fin cfg0.N) (hf : t.val % 4 = 3) (r : Fin 512) (d : Fin 1024) :
    sums m c t.val t.isLt (ix2 r d) = ∑ s : Fin 4, part m c s.val (512 * (t.val / 4) + r.val) d.val := by
  have key := Pipeline.eq_sum_fin_of_reset_step_apply_of_flush (fun n h => sums m c n h) 4 (fun _ => (0 : EReal))
    (fun t j => part m c (t.val % 4) (512 * (t.val / 4) + (j 0).val) (j 1).val)
    (fun t h0 j => by
      obtain ⟨r, d, rfl⟩ : ∃ (r : Fin 512) (d : Fin 1024), j = ix2 r d := ⟨_, _, eq_ix2 j⟩
      rw [sums_first m c t h0, step_at]
      pointwise [k0_pay5])
    (fun t h0 j => by
      obtain ⟨r, d, rfl⟩ : ∃ (r : Fin 512) (d : Fin 1024), j = ix2 r d := ⟨_, _, eq_ix2 j⟩
      rw [sums_later m c t h0, step_at]
      rfl) t hf (ix2 r d)
  refine key.trans ?_
  rw [zero_add]
  refine Finset.sum_congr rfl fun s _ => ?_
  have hs := s.isLt
  show part m c ((4 * (t.val / 4) + s.val) % 4) (512 * ((4 * (t.val / 4) + s.val) / 4) + r.val) d.val = _
  rw [show (4 * (t.val / 4) + s.val) % 4 = s.val by omega, show (4 * (t.val / 4) + s.val) / 4 = t.val / 4 by omega]

theorem arr_y : (dats m 0 c).arrAt 5 cfg0.N = Y m c := by
  refine (dats m 0 c).arrAt_eq_of_covers 5 _ (by decide +kernel) fun t hf y => ?_
  blk_simp
  rw [after_5]
  obtain ⟨r, d, rfl⟩ : ∃ (r : Fin 512) (d : Fin 1024), y = ix2 r d := ⟨_, _, eq_ix2 y⟩
  have h0 : (((win0_5.blk t).view.emb (ix2 r d) : S8192x1024.Idx) 0).val = 512 * (t.val / 4) + r.val := by
    blk_simp [idx5 t]
    omega
  have h1 : (((win0_5.blk t).view.emb (ix2 r d) : S8192x1024.Idx) 1).val = d.val := by
    blk_simp [idx5 t]
  show _ = Y m c ((win0_5.blk t).view.emb (ix2 r d))
  unfold Y
  rw [h0, h1]
  pointwise [k0_pay2]
  rw [sums_last m c t ((flush0_5 t).mp hf), read0]
  rfl

theorem arr_h : (dats m 0 c).arrAt 6 cfg0.N = H m c := by
  refine (dats m 0 c).arrAt_eq_of_covers 6 _ (by decide +kernel) fun t hf y => ?_
  blk_simp
  rw [after_6]
  obtain ⟨r, d, rfl⟩ : ∃ (r : Fin 512) (d : Fin 1024), y = ix2 r d := ⟨_, _, eq_ix2 y⟩
  have h0 : (((win0_6.blk t).view.emb (ix2 r d) : S8192x1024.Idx) 0).val = 512 * (t.val / 4) + r.val := by
    blk_simp [idx6 t]
    omega
  have h1 : (((win0_6.blk t).view.emb (ix2 r d) : S8192x1024.Idx) 1).val = d.val := by
    blk_simp [idx6 t]
  show _ = H m c ((win0_6.blk t).view.emb (ix2 r d))
  unfold H
  rw [h0, h1]
  exact kept_at m c _ _ r d

theorem arr_a : (dats m 0 c).arrAt 7 cfg0.N = A m c := by
  refine (dats m 0 c).arrAt_eq_of_covers 7 _ (by decide +kernel) fun t hf y => ?_
  blk_simp
  rw [after_7]
  obtain ⟨z, r, f, rfl⟩ : ∃ (z : Fin 1) (r : Fin 512) (f : Fin 704), y = ix3 z r f := ⟨_, _, _, eq_ix3 y⟩
  have h0 : (((win0_7.blk t).view.emb (ix3 z r f) : S4x8192x704.Idx) 0).val = t.val % 4 := by
    blk_simp [idx7 t]
  have h1 : (((win0_7.blk t).view.emb (ix3 z r f) : S4x8192x704.Idx) 1).val = 512 * (t.val / 4) + r.val := by
    blk_simp [idx7 t]
    omega
  have h2 : (((win0_7.blk t).view.emb (ix3 z r f) : S4x8192x704.Idx) 2).val = f.val := by
    blk_simp [idx7 t]
  show _ = A m c ((win0_7.blk t).view.emb (ix3 z r f))
  unfold A
  rw [h0, h1, h2]
  pointwise [k0_pay8]
  rw [gate_at]

theorem arr_b : (dats m 0 c).arrAt 8 cfg0.N = B m c := by
  refine (dats m 0 c).arrAt_eq_of_covers 8 _ (by decide +kernel) fun t hf y => ?_
  blk_simp
  rw [after_8]
  obtain ⟨z, r, f, rfl⟩ : ∃ (z : Fin 1) (r : Fin 512) (f : Fin 704), y = ix3 z r f := ⟨_, _, _, eq_ix3 y⟩
  have h0 : (((win0_8.blk t).view.emb (ix3 z r f) : S4x8192x704.Idx) 0).val = t.val % 4 := by
    blk_simp [idx8 t]
  have h1 : (((win0_8.blk t).view.emb (ix3 z r f) : S4x8192x704.Idx) 1).val = 512 * (t.val / 4) + r.val := by
    blk_simp [idx8 t]
    omega
  have h2 : (((win0_8.blk t).view.emb (ix3 z r f) : S4x8192x704.Idx) 2).val = f.val := by
    blk_simp [idx8 t]
  show _ = B m c ((win0_8.blk t).view.emb (ix3 z r f))
  unfold B
  rw [h0, h1, h2]
  pointwise [k0_pay9]
  rw [up_at]

end Cert.Kernel5Ideal.Fwd

end
-- ==== Proof.FwdRef.lean ====
/- The half-step feed-forward layer written plainly, at an index. -/
module

public import proofs.«01_k».proof.Proof.FwdArrays
public import proofs.«01_k».proof.Proof.Gen.Reference5Ideal.Run
public import proofs.«01_k».proof.Proof.Gen.Reference5Ideal.Read

@[expose] public section

set_option maxRecDepth 16384

noncomputable section

namespace Cert.Reference5Ideal.Fwd

open Cert.Reference5Ideal Cert.Reference5Ideal.Gen Cert.Reference5Ideal.Read Cert.Arrays Idealize.ShloMosaic Idealize.ShloMosaic.TcCoe
  Idealize.SL.Sem

open Cert.Kernel5Ideal.Fwd

variable (m : (ℓ : Loc Cert.Kernel5Ideal.nD Cert.Kernel5Ideal.τ Cert.Kernel5Ideal.sig) → Buf (Elt Ideal) ℓ) (c : Dev Cert.Kernel5Ideal.nD)

theorem ref_hid (n : Fin 8192) (d : Fin 1024) : val_main_v14 (F := Ideal) (argX m c) (argN m c) (ix2 n d) = hid m c n.val d.val := by
  pointwise [val_main_v14, val_main_v13, val_main_v12, val_main_v11, val_main_v10, val_main_v9, val_main_v8, val_main_v7, val_main_v6,
    val_main_v5, val_main_v4, val_main_v3, val_main_cst, val_main_cst_0, val_main_cst_1]
  unfold hid rms
  simp only [at2_of_lt _ n.isLt (Fin.isLt _), at2_of_lt (argN m c) Nat.zero_lt_one (Fin.isLt _)]
  rfl

theorem ref_gate (s : Fin 4) (n : Fin 8192) (f : Fin 704) :
    val_main_v16 (F := Ideal) (argX m c) (argN m c) (argG m c) (ix3 s n f) = gate m c s.val n.val f.val := by
  pointwise [val_main_v16, val_main_v15, val_main_v0]
  simp only [ref_hid]
  unfold gate
  refine Finset.sum_congr rfl fun d _ => ?_
  rw [mul_comm, at3_of_lt _ s.isLt d.isLt f.isLt]

theorem ref_up (s : Fin 4) (n : Fin 8192) (f : Fin 704) :
    val_main_v18 (F := Ideal) (argX m c) (argN m c) (argU m c) (ix3 s n f) = up m c s.val n.val f.val := by
  pointwise [val_main_v18, val_main_v17, val_main_v1]
  simp only [ref_hid]
  unfold up
  refine Finset.sum_congr rfl fun d _ => ?_
  rw [mul_comm, at3_of_lt _ s.isLt d.isLt f.isLt]

theorem ref_h (n : Fin 8192) (d : Fin 1024) : val_main_v25 (F := Ideal) (argX m c) (argN m c) (ix2 n d) = H m c (ix2 n d) := by
  pointwise [val_main_v25]
  rw [ref_hid]
  rfl

theorem ref_a (s : Fin 4) (n : Fin 8192) (f : Fin 704) :
    val_main_v26 (F := Ideal) (argX m c) (argN m c) (argG m c) (ix3 s n f) = A m c (ix3 s n f) := by
  pointwise [val_main_v26]
  rw [ref_gate]
  rfl

theorem ref_b (s : Fin 4) (n : Fin 8192) (f : Fin 704) :
    val_main_v27 (F := Ideal) (argX m c) (argN m c) (argU m c) (ix3 s n f) = B m c (ix3 s n f) := by
  pointwise [val_main_v27]
  rw [ref_up]
  rfl

theorem ref_act (s : Fin 4) (n : Fin 8192) (f : Fin 704) :
    val_main_v20 (F := Ideal) (argX m c) (argN m c) (argG m c) (argU m c) (ix3 s n f)
      = gate m c s.val n.val f.val * Ideal.logistic (gate m c s.val n.val f.val) * up m c s.val n.val f.val := by
  pointwise [val_main_v20, val_main_v19, val_main_call0_v5, val_main_call0_v4, val_main_call0_v3, val_main_call0_v2, val_main_call0_v1,
    val_main_call0_v0, val_main_call0_cst, val_main_call0_cst_0]
  rw [ref_gate, ref_up]
  rfl

theorem ref_y (n : Fin 8192) (d : Fin 1024) :
    val_main_v24 (F := Ideal) (argX m c) (argN m c) (argG m c) (argU m c) (argW m c) (ix2 n d) = Y m c (ix2 n d) := by
  pointwise [val_main_v24, val_main_v23, val_main_v22, val_main_v21, val_main_v2, val_main_cst_2]
  simp only [ref_act]
  show _ = out m c n.val d.val
  unfold out part
  rw [at2_of_lt _ n.isLt d.isLt]
  refine congrArg (fun z : EReal => argX m c (ix2 n d) + Ideal.ofBits .f32 0x3F000000#32 * z) ?_
  rw [Finset.sum_comm]
  refine Finset.sum_congr rfl fun s _ => Finset.sum_congr rfl fun f _ => ?_
  rw [at3_of_lt _ s.isLt f.isLt d.isLt]

end Cert.Reference5Ideal.Fwd

end
-- ==== Proof.Pairs.lean ====
/- The feed-forward layer's calls beside their references: equal arrays over the extended reals. -/
module

public import proofs.«01_k».proof.Defs
public import proofs.«01_k».proof.Proof.ActRef
public import proofs.«01_k».proof.Proof.NormInRef
public import proofs.«01_k».proof.Proof.WeightRef
public import proofs.«01_k».proof.Proof.FwdRef
public import proofs.«01_k».proof.Proof.Gen.Kernel2
public import proofs.«01_k».proof.Proof.Gen.Kernel5
public import proofs.«01_k».proof.Proof.Gen.Pre_finite2
public import proofs.«01_k».proof.Proof.Gen.Pre_finite3
public import Idealize.ShloMosaic.Lib.Claim
public import Idealize.ShloMosaic.Adequacy
public import Idealize.ShloMosaic.Init

@[expose] public section

set_option maxRecDepth 16384

noncomputable section

namespace Cert.Pairs

open Idealize.ShloMosaic Idealize.SL.Sem Cert.Arrays

/-- The call on words and its twin over the extended reals run the same body. -/
theorem defs_act : @Cert.Kernel2.defs Bits _ Cert.Kernel2.Gen.facts = @Cert.Kernel2Ideal.defs Bits _ Cert.Kernel2Ideal.Gen.facts := by
  refine congrArg (Pipeline.defs _) ?_
  funext p l a
  cases p with
  | tc =>
    obtain ⟨n, hn⟩ := l
    obtain rfl : n = 0 := by omega
    obtain ⟨t, s⟩ := a
    dsimp only [Cert.Kernel2.defs₀, Cert.Kernel2Ideal.defs₀, Defs.onTc]
    rfl
  | scScalar _ => rfl
  | scVector _ _ => rfl

theorem frame_act : @Cert.quiescent_Kernel2 Cert.Kernel2.Gen.facts := fun m ρ _ => by
  show θ_run (@Cert.Kernel2.defs Bits _ Cert.Kernel2.Gen.facts) _ _ _
  rw [defs_act]
  exact Cert.Kernel2Ideal.Act.frame (F := Bits) m ρ

/-- The same of the forward call. -/
theorem defs_fwd : @Cert.Kernel5.defs Bits _ Cert.Kernel5.Gen.facts = @Cert.Kernel5Ideal.defs Bits _ Cert.Kernel5Ideal.Gen.facts := by
  refine congrArg (Pipeline.defs _) ?_
  funext p l a
  cases p with
  | tc =>
    obtain ⟨n, hn⟩ := l
    obtain rfl : n = 0 := by omega
    obtain ⟨t, s⟩ := a
    dsimp only [Cert.Kernel5.defs₀, Cert.Kernel5Ideal.defs₀, Defs.onTc]
    rfl
  | scScalar _ => rfl
  | scVector _ _ => rfl

theorem frame_fwd : @Cert.quiescent_Kernel5 Cert.Kernel5.Gen.facts := fun m ρ _ => by
  show θ_run (@Cert.Kernel5.defs Bits _ Cert.Kernel5.Gen.facts) _ _ _
  rw [defs_fwd]
  exact Cert.Kernel5Ideal.Fwd.frame (F := Bits) m ρ

theorem frame_r2 : @Cert.quiescent_Reference2Ideal Cert.Reference2Ideal.Gen.facts := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem frame_r3 : @Cert.quiescent_Reference3Ideal Cert.Reference3Ideal.Gen.facts := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_r4 : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r5 : @Cert.quiescent_Reference5Ideal Cert.Reference5Ideal.Gen.facts := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

section
open Cert.Kernel2Ideal.Act

/-- What the precondition says of the three arrays it bounds. -/
theorem finite2 (m : (ℓ : Loc Cert.Kernel2Ideal.nD Cert.Kernel2Ideal.τ Cert.Kernel2Ideal.sig) → Buf (Elt Ideal) ℓ)
    (h : @Cert.Pre_Kernel2Ideal_finite2 Cert.Pre_finite2.Gen.facts m) (c : Dev Cert.Kernel2Ideal.nD) :
    (∀ i, argY m c i = ((argY m c i).toReal : EReal)) ∧ (∀ i, argB m c i = ((argB m c i).toReal : EReal))
      ∧ ∀ i, argW m c i = ((argW m c i).toReal : EReal) := by
  have h0 := congrFun (h c) (fun a => a.elim0)
  unfold Cert.Pre_finite2.fn at h0
  obtain ⟨h1, hW⟩ := IntOp.andi_eq_one.1 h0
  obtain ⟨hY, hB⟩ := IntOp.andi_eq_one.1 h1
  exact ⟨Cert.Reals.real_of_all _ _ _ _ _ _ hY, Cert.Reals.real_of_all _ _ _ _ _ _ hB, Cert.Reals.real_of_all _ _ _ _ _ _ hW⟩

open Cert.Reference2Ideal.Act in
/-- The call for the gradient of the gated product and the derivative of the half step leave equal arrays. -/
theorem act_pair : @algebraic_Kernel2Ideal_Reference2Ideal_pre_finite2 Cert.Kernel2Ideal.Gen.facts Cert.Reference2Ideal.Gen.facts Cert.Pre_finite2.Gen.facts := by
  pair_intro
  · run_from Cert.Kernel2Ideal.Act.run_blocks m g
  · run_from Cert.Reference2Ideal.Value.run m' g'
    · exact (Cert.Reference2Ideal.Read.val_main_v19_eq _ _).trans ((funext fun j => by rw [eq_ix3 j]; exact ref_s m c _ _ _).trans (arr_s m c).symm)
    · obtain ⟨hY, hB, hW⟩ := finite2 m hpre c
      exact (Cert.Reference2Ideal.Read.val_main_v20_eq _ _ _ _).trans ((funext fun j => by rw [eq_ix3 j]; exact ref_da m c hY hB hW _ _ _).trans (arr_da m c).symm)
    · exact (Cert.Reference2Ideal.Read.val_main_v21_eq _ _ _).trans ((funext fun j => by rw [eq_ix3 j]; exact ref_db m c _ _ _).trans (arr_db m c).symm)
    · exact (Cert.Reference2Ideal.Read.val_main_v22_eq _).trans ((funext fun j => by rw [eq_ix2 j]; exact ref_half m c _ _).trans (arr_half m c).symm)
end

section
open Cert.Kernel3Ideal.NormIn

/-- What the precondition says of the six arrays it bounds. -/
theorem finite3 (m : (ℓ : Loc Cert.Kernel3Ideal.nD Cert.Kernel3Ideal.τ Cert.Kernel3Ideal.sig) → Buf (Elt Ideal) ℓ)
    (h : @Cert.Pre_Kernel3Ideal_finite3 Cert.Pre_finite3.Gen.facts m) (c : Dev Cert.Kernel3Ideal.nD) :
    (∀ i, argA m c i = ((argA m c i).toReal : EReal)) ∧ (∀ i, argB m c i = ((argB m c i).toReal : EReal))
      ∧ (∀ i, argG m c i = ((argG m c i).toReal : EReal)) ∧ (∀ i, argU m c i = ((argU m c i).toReal : EReal))
      ∧ (∀ i, argX m c i = ((argX m c i).toReal : EReal)) ∧ ∀ i, argN m c i = ((argN m c i).toReal : EReal) := by
  have h0 := congrFun (h c) (fun a => a.elim0)
  unfold Cert.Pre_finite3.fn at h0
  dsimp only at h0
  unfold Cert.Pre_finite3.fn_part1 at h0
  obtain ⟨h1, hN⟩ := IntOp.andi_eq_one.1 h0
  obtain ⟨h2, hX⟩ := IntOp.andi_eq_one.1 h1
  obtain ⟨h3, hU⟩ := IntOp.andi_eq_one.1 h2
  obtain ⟨h4, hG⟩ := IntOp.andi_eq_one.1 h3
  obtain ⟨hA, hB⟩ := IntOp.andi_eq_one.1 h4
  exact ⟨Cert.Reals.real_of_all _ _ _ _ _ _ hA, Cert.Reals.real_of_all _ _ _ _ _ _ hB, Cert.Reals.real_of_all _ _ _ _ _ _ hG,
    Cert.Reals.real_of_all _ _ _ _ _ _ hU, Cert.Reals.real_of_all _ _ _ _ _ _ hX, Cert.Reals.real_of_all _ _ _ _ _ _ hN⟩

open Cert.Reference3Ideal.NormIn in
/-- The call for the gradient through the two products and the norm, and the derivative of the two, leave equal arrays. -/
theorem norm_in_pair : @algebraic_Kernel3Ideal_Reference3Ideal_pre_finite3 Cert.Kernel3Ideal.Gen.facts Cert.Reference3Ideal.Gen.facts Cert.Pre_finite3.Gen.facts := by
  pair_intro
  · run_from Cert.Kernel3Ideal.Value.run_blocks m g
  · refine (θ_run _ _ _).mono (fun r h c => ⟨?_, ?_, (h c).2.2⟩) (Cert.Reference3Ideal.Value.run m' g')
    · obtain ⟨hA, hB, hG, hU, hX, hN⟩ := finite3 m hpre c
      obtain ⟨e0, e1, e2, e3, e4, e5, e6⟩ := hagree c
      refine (h c).1.trans ((Cert.Reference3Ideal.Read.val_main_v47_eq m' c).trans ?_)
      rw [e0, e1, e2, e3, e4, e5, e6]
      exact (funext fun j => by rw [eq_ix2 j]; exact ref_dx m c hA hB hG hU hX hN _ _ :
        Cert.Reference3Ideal.Read.val_main_v47 (F := Ideal) (argA m c) (argB m c) (argG m c) (argU m c) (argR m c) (argX m c) (argN m c) = DX m c).trans
          (arr_dx m c).symm
    · obtain ⟨e0, e1, e2, e3, e4, e5, e6⟩ := hagree c
      refine (h c).2.1.trans ?_
      rw [e0, e1, e2, e3, e5]
      refine (Cert.Reference3Ideal.Read.val_main_v48_eq _ _ _ _ _).trans ?_
      exact (funext fun j => by rw [eq_ix2 j]; exact ref_dg m c _ _ :
        Cert.Reference3Ideal.Read.val_main_v48 (F := Ideal) (argA m c) (argB m c) (argG m c) (argU m c) (argX m c) = DG m c).trans (arr_dg m c).symm
end

section
open Cert.Kernel4Ideal.Weight Cert.Reference4Ideal.Weight

/-- The call for the gradient of a projection's weight and the derivative in that weight leave equal arrays. -/
theorem weight_pair : @algebraic_Kernel4Ideal_Reference4Ideal Cert.Kernel4Ideal.Gen.facts Cert.Reference4Ideal.Gen.facts := by
  pair_intro
  · run_from Cert.Kernel4Ideal.Value.run_blocks m g
  · run_from Cert.Reference4Ideal.Value.run m' g'
    exact (Cert.Reference4Ideal.Read.val_main_v5_eq _ _).trans ((funext fun j => by rw [eq_ix3 j]; exact ref_dw m c _ _ _).trans (arr_dw m c).symm)
end

section
open Cert.Kernel5Ideal.Fwd Cert.Reference5Ideal.Fwd

/-- The forward call of the half-step layer and the layer leave equal arrays. -/
theorem fwd_pair : @algebraic_Kernel5Ideal_Reference5Ideal Cert.Kernel5Ideal.Gen.facts Cert.Reference5Ideal.Gen.facts := by
  pair_intro
  · run_from Cert.Kernel5Ideal.Fwd.run_blocks m g
  · run_from Cert.Reference5Ideal.Value.run m' g'
    · refine Eq.trans ?_ ((funext fun j => by rw [eq_ix2 j]; exact ref_y m c _ _ :
        Cert.Reference5Ideal.Read.val_main_v24 (F := Ideal) (argX m c) (argN m c) (argG m c) (argU m c) (argW m c) = Y m c).trans (arr_y m c).symm)
      exact Cert.Reference5Ideal.Read.val_main_v24_eq _ _ _ _ _
    · refine Eq.trans ?_ ((funext fun j => by rw [eq_ix2 j]; exact ref_h m c _ _ :
        Cert.Reference5Ideal.Read.val_main_v25 (F := Ideal) (argX m c) (argN m c) = H m c).trans (arr_h m c).symm)
      exact Cert.Reference5Ideal.Read.val_main_v25_eq _ _
    · refine Eq.trans ?_ ((funext fun j => by rw [eq_ix3 j]; exact ref_a m c _ _ _ :
        Cert.Reference5Ideal.Read.val_main_v26 (F := Ideal) (argX m c) (argN m c) (argG m c) = A m c).trans (arr_a m c).symm)
      exact Cert.Reference5Ideal.Read.val_main_v26_eq _ _ _
    · refine Eq.trans ?_ ((funext fun j => by rw [eq_ix3 j]; exact ref_b m c _ _ _ :
        Cert.Reference5Ideal.Read.val_main_v27 (F := Ideal) (argX m c) (argN m c) (argU m c) = B m c).trans (arr_b m c).symm)
      exact Cert.Reference5Ideal.Read.val_main_v27_eq _ _ _
end

end Cert.Pairs

end
-- ==== Proof.Adam.lean ====
/- The optimiser's call at each shape it is called at: it leaves the update of its weight, entry by entry. Each output block is
   the same pointwise operations of the argument blocks at the same place, and so is the reference. -/
module

public import proofs.«01_k».proof.Defs
public import proofs.«01_k».proof.Proof.Gen.Kernel11Ideal.Value
public import proofs.«01_k».proof.Proof.Gen.Reference12Ideal.Run
public import proofs.«01_k».proof.Proof.Gen.Reference12Ideal.Read
public import proofs.«01_k».proof.Proof.Gen.Kernel12Ideal.Value
public import proofs.«01_k».proof.Proof.Gen.Reference13Ideal.Run
public import proofs.«01_k».proof.Proof.Gen.Reference13Ideal.Read
public import proofs.«01_k».proof.Proof.Gen.Kernel13Ideal.Value
public import proofs.«01_k».proof.Proof.Gen.Reference14Ideal.Run
public import proofs.«01_k».proof.Proof.Gen.Reference14Ideal.Read
public import proofs.«01_k».proof.Proof.Gen.Kernel14Ideal.Value
public import proofs.«01_k».proof.Proof.Gen.Reference15Ideal.Run
public import proofs.«01_k».proof.Proof.Gen.Reference15Ideal.Read
public import proofs.«01_k».proof.Proof.Gen.Kernel15Ideal.Value
public import proofs.«01_k».proof.Proof.Gen.Reference16Ideal.Run
public import proofs.«01_k».proof.Proof.Gen.Reference16Ideal.Read
public import Idealize.ShloMosaic.Lib.Claim
public import Idealize.ShloMosaic.Adequacy
public import Idealize.ShloMosaic.Init

@[expose] public section

set_option maxRecDepth 16384

noncomputable section

namespace Cert.Adam

open Idealize.ShloMosaic Idealize.SL.Sem

theorem frame_r12 : @Cert.quiescent_Reference12Ideal Cert.Reference12Ideal.Gen.facts := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The update of the feed-forward weights (704 by 1024). -/
theorem pair11 : @algebraic_Kernel11Ideal_Reference12Ideal Cert.Kernel11Ideal.Gen.facts Cert.Reference12Ideal.Gen.facts := by
  pair_intro
  · run_from Cert.Kernel11Ideal.Value.run m g
  · run_from Cert.Reference12Ideal.Value.run m' g' <;> rfl

theorem frame_r13 : @Cert.quiescent_Reference13Ideal Cert.Reference13Ideal.Gen.facts := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The update of the weight into the mixers (1024 by 768). -/
theorem pair12 : @algebraic_Kernel12Ideal_Reference13Ideal Cert.Kernel12Ideal.Gen.facts Cert.Reference13Ideal.Gen.facts := by
  pair_intro
  · run_from Cert.Kernel12Ideal.Value.run m g
  · run_from Cert.Reference13Ideal.Value.run m' g' <;> rfl

theorem frame_r14 : @Cert.quiescent_Reference14Ideal Cert.Reference14Ideal.Gen.facts := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The update of the weight out of the mixers and the embedding's gate (256 by 1024). -/
theorem pair13 : @algebraic_Kernel13Ideal_Reference14Ideal Cert.Kernel13Ideal.Gen.facts Cert.Reference14Ideal.Gen.facts := by
  pair_intro
  · run_from Cert.Kernel13Ideal.Value.run m g
  · run_from Cert.Reference14Ideal.Value.run m' g' <;> rfl

theorem frame_r15 : @Cert.quiescent_Reference15Ideal Cert.Reference15Ideal.Gen.facts := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- The update of the embedding's projection (256 by 256). -/
theorem pair14 : @algebraic_Kernel14Ideal_Reference15Ideal Cert.Kernel14Ideal.Gen.facts Cert.Reference15Ideal.Gen.facts := by
  pair_intro
  · run_from Cert.Kernel14Ideal.Value.run m g
  · run_from Cert.Reference15Ideal.Value.run m' g' <;> rfl

theorem frame_r16 : @Cert.quiescent_Reference16Ideal Cert.Reference16Ideal.Gen.facts := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- The update of the small weights, packed in sixteen rows. -/
theorem pair15 : @algebraic_Kernel15Ideal_Reference16Ideal Cert.Kernel15Ideal.Gen.facts Cert.Reference16Ideal.Gen.facts := by
  pair_intro
  · run_from Cert.Kernel15Ideal.Value.run m g
  · run_from Cert.Reference16Ideal.Value.run m' g' <;> rfl

end Cert.Adam

end
-- ==== Proof.GateRef.lean ====
/- The derivative of the product of the normed input and a gate or up weight, in the weight, laid out as the step keeps it. -/
module

public import proofs.«01_k».proof.Proof.WeightArrays
public import proofs.«01_k».proof.Proof.Gen.Reference6Ideal.Run
public import proofs.«01_k».proof.Proof.Gen.Reference6Ideal.Read

@[expose] public section

set_option maxRecDepth 16384

noncomputable section

namespace Cert.Reference6Ideal.Gate

open Cert.Reference6Ideal Cert.Reference6Ideal.Gen Cert.Reference6Ideal.Read Cert.Arrays Idealize.ShloMosaic Idealize.ShloMosaic.TcCoe
  Idealize.SL.Sem

open Cert.Kernel4Ideal.Weight

variable (m : (ℓ : Loc Cert.Kernel4Ideal.nD Cert.Kernel4Ideal.τ Cert.Kernel4Ideal.sig) → Buf (Elt Ideal) ℓ) (c : Dev Cert.Kernel4Ideal.nD)

/-- The derivative in the weight, hidden unit first, is the sum over the tokens that the call leaves there. -/
theorem ref_dw (s : Fin 4) (f : Fin 704) (d : Fin 1024) :
    val_main_v8 (F := Ideal) (argA m c) (argB m c) (ix3 s f d) = DW m c (ix3 s f d) := by
  pointwise [val_main_v8, val_main_v7, val_main_v6, val_main_v5, val_main_v1, val_main_v0]
  unfold DW
  refine Finset.sum_congr rfl fun n _ => ?_
  show _ = at3 (argA m c) s.val n.val f.val * at2 (argB m c) n.val d.val
  rw [at3_of_lt _ s.isLt n.isLt f.isLt, at2_of_lt _ n.isLt d.isLt]

end Cert.Reference6Ideal.Gate

end
-- ==== Proof.InWeightArrays.lean ====
/- The gradient of the weight of the projection into the mixers: what the call's grid leaves in its output array, over the
   extended reals. One grid point adds the product of 2048 tokens; four points make one shard's block. -/
module

public import proofs.«01_k».proof.Proof.Gen.Kernel6Ideal.Value
public import proofs.«01_k».proof.Proof.Arrays
public import Idealize.ShloMosaic.Lib.Pipeline.ValueKit

@[expose] public section

set_option maxRecDepth 16384

noncomputable section

namespace Cert.Kernel6Ideal.InWeight

open Cert.Kernel6Ideal Cert.Kernel6Ideal.Gen Cert.Arrays Idealize.ShloMosaic Idealize.ShloMosaic.TcCoe Idealize.SL.Sem

variable (m : (ℓ : Loc nD τ sig) → Buf (Elt Ideal) ℓ) (c : Dev nD)

/-- The two arguments as arrays of extended reals. -/
def argA : Shape.Idx ⟨2, ![8192, 1024]⟩ → EReal := m ((c : Thread nD τ).loc main_arg0)
def argB : Shape.Idx ⟨2, ![8192, 3072]⟩ → EReal := m ((c : Thread nD τ).loc main_arg1)

theorem lt16 (t : Fin cfg0.N) : t.val < 16 := lt_of_lt_of_eq t.isLt N_0

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val / 4, 0, 0] := (by decide +kernel : ∀ t : Fin grid0.N, _)

theorem read0 (t : Fin cfg0.N) (r : Fin 2048) (l : Fin 1024) :
    iblk m c 0 t (ix2 r l) = at2 (argA m c) (2048 * (t.val % 4) + r.val) (l.val) := by
  have := lt16 t
  rw [at2_of_lt _ (by omega) (by omega)]
  unfold argA
  blk_ext [iblk, V_main_arg0, idx0 t]

theorem read1 (t : Fin cfg0.N) (r : Fin 2048) (l : Fin 768) :
    iblk m c 1 t (ix2 r l) = at2 (argB m c) (2048 * (t.val % 4) + r.val) (768 * (t.val / 4) + l.val) := by
  have := lt16 t
  rw [at2_of_lt _ (by omega) (by omega)]
  unfold argB
  blk_ext [iblk, V_main_arg1, idx1 t]

/-- The gradient: the sum over the tokens of the products. -/
def DW (i : S4x1024x768.Idx) : EReal :=
  ∑ n : Fin 8192, at2 (argA m c) n.val ((i 1).val) * at2 (argB m c) n.val (768 * (i 0).val + (i 2).val)

/-- One point's part of the sum. -/
def part (s k p q : Nat) : EReal :=
  ∑ x : Fin 2048, at2 (argA m c) (2048 * k + x.val) (p) * at2 (argB m c) (2048 * k + x.val) (768 * s + q)

theorem point (t : Fin cfg0.N) (acc : Vec Ideal S1x1024x768 .f32) (z : Fin 1) (p : Fin 1024) (q : Fin 768) :
    k0_pay2 acc (iblk m c 0 t) (iblk m c 1 t) (ix3 z p q) = acc (ix3 z p q) + part m c (t.val / 4) (t.val % 4) p.val q.val := by
  pointwise [k0_pay2]
  obtain rfl : z = 0 := Fin.fin_one_eq_zero z
  exact congrArg (_ + ·) (Finset.sum_congr rfl fun x _ => by rw [read0, read1])

theorem dw_at (t : Fin cfg0.N) (hf : t.val % 4 = 3) (y : S1x1024x768.Idx) :
    (outsAt0 m c t.val t.isLt) y = DW m c ((win0_2.blk t).view.emb y) := by
  have key := Pipeline.eq_sum_fin_of_reset_step_apply_of_flush (fun n h => outsAt0 m c n h) 4 (fun _ => (0 : EReal))
    (fun t j => part m c (t.val / 4) (t.val % 4) (j 1).val (j 2).val)
    (fun t h0 j => by
      obtain ⟨z, p, q, rfl⟩ : ∃ (z : Fin 1) (p : Fin 1024) (q : Fin 768), j = ix3 z p q := ⟨_, _, _, eq_ix3 j⟩
      rw [outsAt0_A m c t h0, Value.out_A_2_eq, point]
      pointwise [k0_pay1])
    (fun t h0 j => by
      obtain ⟨z, p, q, rfl⟩ : ∃ (z : Fin 1) (p : Fin 1024) (q : Fin 768), j = ix3 z p q := ⟨_, _, _, eq_ix3 j⟩
      rw [outsAt0_B m c t h0, Value.out_B_2_eq, point]
      rfl) t hf y
  refine key.trans ?_
  obtain ⟨z, p, q, rfl⟩ : ∃ (z : Fin 1) (p : Fin 1024) (q : Fin 768), y = ix3 z p q := ⟨_, _, _, eq_ix3 y⟩
  have h0 : (((win0_2.blk t).view.emb (ix3 z p q) : S4x1024x768.Idx) 0).val = t.val / 4 := by
    blk_simp [idx2 t]
  have h1 : (((win0_2.blk t).view.emb (ix3 z p q) : S4x1024x768.Idx) 1).val = p.val := by
    blk_simp [idx2 t]
  have h2 : (((win0_2.blk t).view.emb (ix3 z p q) : S4x1024x768.Idx) 2).val = q.val := by
    blk_simp [idx2 t]
  unfold DW
  rw [h0, h1, h2, zero_add]
  have hl := lt16 t
  refine Fin.sum_mul_add_congr fun k x hx => ?_
  have hk := k.isLt
  have e1 : (4 * (t.val / 4) + k.val) / 4 = t.val / 4 := by omega
  have e2 : 2048 * ((4 * (t.val / 4) + k.val) % 4) + x.val = k.val * 2048 + x.val := by omega
  show at2 (argA m c) (2048 * ((4 * (t.val / 4) + k.val) % 4) + x.val) (p.val)
      * at2 (argB m c) (2048 * ((4 * (t.val / 4) + k.val) % 4) + x.val) (768 * ((4 * (t.val / 4) + k.val) / 4) + q.val) = _
  rw [e1, e2]

theorem arr_dw : (dats m 0 c).arrAt 2 cfg0.N = DW m c := by
  refine (dats m 0 c).arrAt_eq_of_covers 2 _ (by decide +kernel) fun t hf y => ?_
  blk_simp
  rw [after0_2]
  exact dw_at m c t ((flush0_2 t).mp hf) y

end Cert.Kernel6Ideal.InWeight

end
-- ==== Proof.InWeightRef.lean ====
/- The derivative of the projection into the mixers in its weight, at an index. -/
module

public import proofs.«01_k».proof.Proof.InWeightArrays
public import proofs.«01_k».proof.Proof.Gen.Reference7Ideal.Run
public import proofs.«01_k».proof.Proof.Gen.Reference7Ideal.Read

@[expose] public section

set_option maxRecDepth 16384

noncomputable section

namespace Cert.Reference7Ideal.InWeight

open Cert.Reference7Ideal Cert.Reference7Ideal.Gen Cert.Reference7Ideal.Read Cert.Arrays Idealize.ShloMosaic Idealize.ShloMosaic.TcCoe
  Idealize.SL.Sem

open Cert.Kernel6Ideal.InWeight

variable (m : (ℓ : Loc Cert.Kernel6Ideal.nD Cert.Kernel6Ideal.τ Cert.Kernel6Ideal.sig) → Buf (Elt Ideal) ℓ) (c : Dev Cert.Kernel6Ideal.nD)

/-- The derivative in the weight, at one entry, is the sum over the tokens that the call leaves there. -/
theorem ref_dw (s : Fin 4) (d : Fin 1024) (f : Fin 768) :
    val_main_v7 (F := Ideal) (argA m c) (argB m c) (ix3 s d f) = DW m c (ix3 s d f) := by
  pointwise [val_main_v7, val_main_v6, val_main_v5, val_main_v1, val_main_v0]
  unfold DW
  refine Finset.sum_congr rfl fun n _ => ?_
  show _ = at2 (argA m c) n.val d.val * at2 (argB m c) n.val (768 * s.val + f.val)
  rw [show 768 * s.val + f.val = s.val * 768 + f.val by omega, at2_of_lt _ n.isLt d.isLt, at2_of_lt _ n.isLt (by omega), mul_comm]

end Cert.Reference7Ideal.InWeight

end
-- ==== Proof.InGradBlocks.lean ====
/- What one grid point of the gradient through the projection into the mixers and its norm writes, as the kernel's own payloads
   at the point's input blocks: the running sum of products, the block of the input's gradient (at the last shard of a
   block of tokens), and the running sums of the gain's gradient. Over any float model. -/
module

public import proofs.«01_k».proof.Proof.Gen.Kernel7Ideal.Value
public import Idealize.ShloMosaic.Lib.Tactic

@[expose] public section

set_option maxRecDepth 16384

noncomputable section

namespace Cert.Kernel7Ideal.InGrad

open Cert.Kernel7Ideal Cert.Kernel7Ideal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := by decide
theorem hz3 : (![0, 0, 0] : Fin 3 → Nat) = fun _ => 0 := by decide

/-- What the point before left. -/
abbrev before (c : Dev nD) (t : Fin cfg0.N) := outsAt0 m c (t.val - 1) (Nat.lt_of_le_of_lt (Nat.sub_le _ _) t.isLt)

/-- The running sum after a point that found it at `acc`. -/
def accBlk (c : Dev nD) (t : Fin cfg0.N) (acc : Vec F S1024x1024 .f32) : FVec F S1024x1024 .f32 :=
  k0_pay3 acc (iblk m c 0 t) (iblk m c 1 t)

/-- The first shard of a block of tokens starts the sum at zero. -/
theorem outs_acc_first (c : Dev nD) (t : Fin cfg0.N) (h1 : t.val % 4 = 0) :
    (outsAt0 m c t.val t.isLt).2.2 = accBlk m c t (k0_pay2 (F := F)) := by
  have h2 : ¬ t.val % 4 = 3 := by omega
  by_cases h0 : t.val % 32 = 0
  · rw [outsAt0_A m c t h0 h1 h2]
    dsimp only
    unfold sout0_A_0
    rw [View.read_writes_eq_canon _ _ _ (fun y => scover0_A_0 _ _ _ _ _ _ _ _ _ _ _ _ _ _ _ _ _ _ _ _ _ _ _ _ _ _ y)]
    unfold kernelRun0_A
    dsimp only
    sl_unfold_words
    rw [View.canon_cons_unit_zero (S := S1024x1024) hz, View.readCov_unit_zero (S := S1024x1024) _ hz]
    simp only [View.readAt_eq_ld, Memref.IsWhole.read_unread, View.ld_unit_zero (S := S1024x1024) hz,
      View.ld_unit_zero (S := S1024x768) hz, View.ld_unit_zero (S := S1x1024x768) hz3, shapeCast_self]
    rfl
  · rw [outsAt0_D m c t h0 h1 h2]
    dsimp only
    unfold sout0_D_0
    rw [View.read_writes_eq_canon _ _ _ (fun y => scover0_D_0 _ _ _ _ _ _ _ _ _ _ _ _ _ _ _ _ _ _ _ _ _ _ _ _ _ _ y)]
    unfold kernelRun0_D
    dsimp only
    sl_unfold_words
    rw [View.canon_cons_unit_zero (S := S1024x1024) hz, View.readCov_unit_zero (S := S1024x1024) _ hz]
    simp only [View.readAt_eq_ld, Memref.IsWhole.read_unread, View.ld_unit_zero (S := S1024x1024) hz,
      View.ld_unit_zero (S := S1024x768) hz, View.ld_unit_zero (S := S1x1024x768) hz3, shapeCast_self]
    rfl

/-- Every later shard adds to what the point before left. -/
theorem outs_acc_next (c : Dev nD) (t : Fin cfg0.N) (h1 : ¬ t.val % 4 = 0) :
    (outsAt0 m c t.val t.isLt).2.2 = accBlk m c t (before m c t).2.2 := by
  have h0 : ¬ t.val % 32 = 0 := by omega
  by_cases h2 : t.val % 4 = 3
  · rw [outsAt0_C m c t h0 h1 h2]
    dsimp only
    unfold sout0_C_0
    rw [View.read_writes_eq_canon _ _ _ (fun y => scover0_C_0 _ _ _ _ _ _ _ _ _ _ _ _ _ _ _ _ _ _ _ _ _ _ _ _ _ _ _ _ y)]
    unfold kernelRun0_C
    dsimp only
    sl_unfold_words
    rw [View.canon_unit_zero (S := S1024x1024) hz]
    simp only [View.readAt_eq_ld, Memref.IsWhole.read_unread, View.ld_unit_zero (S := S1024x1024) hz,
      View.ld_unit_zero (S := S1024x768) hz, View.ld_unit_zero (S := S1x1024x768) hz3, shapeCast_self]
    exact congrArg (accBlk m c t) (Memref.IsWhole.read_unread (Memref.isWhole_whole cc0_scratch0) _)
  · rw [outsAt0_B m c t h0 h1 h2]
    dsimp only
    unfold sout0_B_0
    rw [View.read_writes_eq_canon _ _ _ (fun y => scover0_B_0 _ _ _ _ _ _ _ _ _ _ _ _ _ _ _ _ _ _ _ _ _ _ _ _ _ _ _ y)]
    unfold kernelRun0_B
    dsimp only
    sl_unfold_words
    rw [View.canon_unit_zero (S := S1024x1024) hz]
    simp only [View.readAt_eq_ld, Memref.IsWhole.read_unread, View.ld_unit_zero (S := S1024x1024) hz,
      View.ld_unit_zero (S := S1024x768) hz, View.ld_unit_zero (S := S1x1024x768) hz3, shapeCast_self]
    exact congrArg (accBlk m c t) (Memref.IsWhole.read_unread (Memref.isWhole_whole cc0_scratch0) _)

/-- The last shard writes the gradient of the input's block, from the finished sum. -/
theorem outs_dx (c : Dev nD) (t : Fin cfg0.N) (h2 : t.val % 4 = 3) :
    (outsAt0 m c t.val t.isLt).1 = k0_pay6 (iblk m c 4 t) (iblk m c 3 t) (outsAt0 m c t.val t.isLt).2.2 (iblk m c 2 t) := by
  have h0 : ¬ t.val % 32 = 0 := by omega
  have h1 : ¬ t.val % 4 = 0 := by omega
  rw [outs_acc_next m c t h1, outsAt0_C m c t h0 h1 h2]
  dsimp only
  unfold out0_C_5
  rw [View.read_writes_eq_canon _ _ _ (fun y => cover0_C_5 _ _ _ _ _ _ _ _ _ _ _ _ _ _ _ _ _ _ _ _ _ _ _ _ _ _ _ _ y)]
  unfold kernelRun0_C
  dsimp only
  sl_unfold_words
  rw [View.canon_unit_zero (S := S1024x1024) hz, View.readCov_unit_zero (S := S1024x1024) _ hz]
  simp only [View.readAt_eq_ld, Memref.IsWhole.read_unread, View.ld_unit_zero (S := S1024x1024) hz,
    View.ld_unit_zero (S := S1x1024) hz,
    View.ld_unit_zero (S := S1024x768) hz, View.ld_unit_zero (S := S1x1024x768) hz3, shapeCast_self]
  exact congrArg (fun a => k0_pay6 (iblk m c 4 t) (iblk m c 3 t) (accBlk m c t a) (iblk m c 2 t)) (Memref.IsWhole.read_unread (Memref.isWhole_whole cc0_scratch0) _)

/-- The first point of the grid starts the sums of the gain's gradient at zero. -/
theorem outs_dg_first (c : Dev nD) (t : Fin cfg0.N) (h0 : t.val % 32 = 0) :
    (outsAt0 m c t.val t.isLt).2.1 = k0_pay1 (F := F) := by
  have h1 : t.val % 4 = 0 := by omega
  have h2 : ¬ t.val % 4 = 3 := by omega
  rw [outsAt0_A m c t h0 h1 h2]
  dsimp only
  unfold out0_A_6
  rw [View.read_writes_eq_canon _ _ _ (fun y => cover0_A_6 _ _ _ _ _ _ _ _ _ _ _ _ _ _ _ _ _ _ _ _ _ _ _ _ _ _ y)]
  unfold kernelRun0_A
  dsimp only
  sl_unfold_words
  rw [View.canon_unit_zero (S := S8x1024) hz]

/-- The last shard of a block of tokens adds the block's part. -/
theorem outs_dg_last (c : Dev nD) (t : Fin cfg0.N) (h2 : t.val % 4 = 3) :
    (outsAt0 m c t.val t.isLt).2.1 = k0_pay7 (iblk m c 3 t) (outsAt0 m c t.val t.isLt).2.2 (before m c t).2.1 := by
  have h0 : ¬ t.val % 32 = 0 := by omega
  have h1 : ¬ t.val % 4 = 0 := by omega
  rw [outs_acc_next m c t h1, outsAt0_C m c t h0 h1 h2]
  dsimp only
  unfold out0_C_6
  rw [View.read_writes_eq_canon _ _ _ (fun y => cover0_C_6 _ _ _ _ _ _ _ _ _ _ _ _ _ _ _ _ _ _ _ _ _ _ _ _ _ _ _ _ y)]
  unfold kernelRun0_C
  dsimp only
  sl_unfold_words
  rw [View.canon_unit_zero (S := S8x1024) hz, View.readCov_unit_zero (S := S1024x1024) _ hz]
  simp only [View.readAt_eq_ld, Memref.IsWhole.read_unread, View.ld_unit_zero (S := S1024x1024) hz,
    View.ld_unit_zero (S := S8x1024) hz,
    View.ld_unit_zero (S := S1024x768) hz, View.ld_unit_zero (S := S1x1024x768) hz3, shapeCast_self]
  exact congrArg (fun a => k0_pay7 (iblk m c 3 t) (accBlk m c t a) (before m c t).2.1) (Memref.IsWhole.read_unread (Memref.isWhole_whole cc0_scratch0) _)

/-- Every other point but the first leaves those sums as they are. -/
theorem outs_dg_keep (c : Dev nD) (t : Fin cfg0.N) (h0 : ¬ t.val % 32 = 0) (h2 : ¬ t.val % 4 = 3) :
    (outsAt0 m c t.val t.isLt).2.1 = (before m c t).2.1 := by
  by_cases h1 : t.val % 4 = 0
  · rw [outsAt0_D m c t h0 h1 h2]
    rfl
  · rw [outsAt0_B m c t h0 h1 h2]
    rfl

end Cert.Kernel7Ideal.InGrad

end
-- ==== Proof.InGradArrays.lean ====
/- The gradient through the projection into the mixers and its norm: what the call's grid leaves in its two output arrays,
   over the extended reals. Four points (one per shard) make one block of 1024 tokens; eight blocks make the array. -/
module

public import proofs.«01_k».proof.Proof.InGradBlocks
public import proofs.«01_k».proof.Proof.Arrays
public import Idealize.ShloMosaic.Lib.Pipeline.ValueKit

@[expose] public section

set_option maxRecDepth 16384

noncomputable section

namespace Cert.Kernel7Ideal.InGrad

open Cert.Kernel7Ideal Cert.Kernel7Ideal.Gen Cert.Arrays Idealize.ShloMosaic Idealize.ShloMosaic.TcCoe Idealize.SL.Sem

variable (m : (ℓ : Loc nD τ sig) → Buf (Elt Ideal) ℓ) (c : Dev nD)

/-- The arguments as arrays of extended reals. -/
def argP : Shape.Idx ⟨2, ![8192, 3072]⟩ → EReal := m ((c : Thread nD τ).loc main_arg0)
def argW : Shape.Idx ⟨3, ![4, 1024, 768]⟩ → EReal := m ((c : Thread nD τ).loc main_arg1)
def argR : Shape.Idx ⟨2, ![8192, 1024]⟩ → EReal := m ((c : Thread nD τ).loc main_arg2)
def argX : Shape.Idx ⟨2, ![8192, 1024]⟩ → EReal := m ((c : Thread nD τ).loc main_arg3)
def argN : Shape.Idx ⟨2, ![1, 1024]⟩ → EReal := m ((c : Thread nD τ).loc main_arg4)

theorem lt32 (t : Fin cfg0.N) : t.val < 32 := lt_of_lt_of_eq t.isLt N_0

theorem idx0 : ∀ t : Fin cfg0.N, win0_0.index t = ![t.val / 4, t.val % 4] := (by decide +kernel : ∀ t : Fin grid0.N, _)
theorem idx1 : ∀ t : Fin cfg0.N, win0_1.index t = ![t.val % 4, 0, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4, 0] := (by decide +kernel : ∀ t : Fin grid0.N, _)
theorem idx6 : ∀ t : Fin cfg0.N, win0_6.index t = ![0, 0] := (by decide +kernel : ∀ t : Fin grid0.N, _)

theorem read0 (t : Fin cfg0.N) (r : Fin 1024) (l : Fin 768) :
    iblk m c 0 t (ix2 r l) = at2 (argP m c) (1024 * (t.val / 4) + r.val) (768 * (t.val % 4) + l.val) := by
  have := lt32 t
  rw [at2_of_lt _ (by omega) (by omega)]
  unfold argP
  blk_ext [iblk, V_main_arg0, idx0 t]
theorem read1 (t : Fin cfg0.N) (z : Fin 1) (r : Fin 1024) (l : Fin 768) :
    iblk m c 1 t (ix3 z r l) = at3 (argW m c) (t.val % 4) r.val l.val := by
  have := lt32 t
  rw [at3_of_lt _ (by omega) (by omega) (by omega)]
  unfold argW
  blk_ext [iblk, V_main_arg1, idx1 t]
theorem read2 (t : Fin cfg0.N) (r : Fin 1024) (l : Fin 1024) :
    iblk m c 2 t (ix2 r l) = at2 (argR m c) (1024 * (t.val / 4) + r.val) (l.val) := by
  have := lt32 t
  rw [at2_of_lt _ (by omega) (by omega)]
  unfold argR
  blk_ext [iblk, V_main_arg2, idx2 t]
theorem read3 (t : Fin cfg0.N) (r : Fin 1024) (l : Fin 1024) :
    iblk m c 3 t (ix2 r l) = at2 (argX m c) (1024 * (t.val / 4) + r.val) (l.val) := by
  have := lt32 t
  rw [at2_of_lt _ (by omega) (by omega)]
  unfold argX
  blk_ext [iblk, V_main_arg3, idx3 t]
theorem read4 (t : Fin cfg0.N) (r : Fin 1) (l : Fin 1024) :
    iblk m c 4 t (ix2 r l) = at2 (argN m c) (0) (l.val) := by
  have := lt32 t
  rw [at2_of_lt _ (by omega) (by omega)]
  unfold argN
  blk_ext [iblk, V_main_arg4, idx4 t]

/-- One shard's part of the gradient of the normed input. -/
def part (s n d : Nat) : EReal := ∑ f : Fin 768, at2 (argP m c) n (768 * s + f.val) * at3 (argW m c) s d f.val

/-- The gradient of the normed and scaled input. -/
def dh (n d : Nat) : EReal := ∑ s : Fin 4, part m c s.val n d

theorem acc_point (t : Fin cfg0.N) (acc : Vec Ideal S1024x1024 .f32) (r : Fin 1024) (d : Fin 1024) :
    accBlk m c t acc (ix2 r d) = acc (ix2 r d) + part m c (t.val % 4) (1024 * (t.val / 4) + r.val) d.val := by
  unfold accBlk
  pointwise [k0_pay3]
  unfold part
  simp only [read0, read1]

theorem acc_last (t : Fin cfg0.N) (hf : t.val % 4 = 3) (r : Fin 1024) (d : Fin 1024) :
    (outsAt0 m c t.val t.isLt).2.2 (ix2 r d) = dh m c (1024 * (t.val / 4) + r.val) d.val := by
  have key := Pipeline.eq_sum_fin_of_reset_step_apply_of_flush (fun n h => (outsAt0 m c n h).2.2) 4 (fun _ => (0 : EReal))
    (fun t j => part m c (t.val % 4) (1024 * (t.val / 4) + (j 0).val) (j 1).val)
    (fun t h0 j => by
      obtain ⟨r, d, rfl⟩ : ∃ (r : Fin 1024) (d : Fin 1024), j = ix2 r d := ⟨_, _, eq_ix2 j⟩
      rw [outs_acc_first m c t h0, acc_point]
      pointwise [k0_pay2])
    (fun t h0 j => by
      obtain ⟨r, d, rfl⟩ : ∃ (r : Fin 1024) (d : Fin 1024), j = ix2 r d := ⟨_, _, eq_ix2 j⟩
      rw [outs_acc_next m c t h0, acc_point]
      rfl) t hf (ix2 r d)
  refine key.trans ?_
  rw [zero_add]
  unfold dh
  refine Finset.sum_congr rfl fun s _ => ?_
  have hs := s.isLt
  show part m c ((4 * (t.val / 4) + s.val) % 4) (1024 * ((4 * (t.val / 4) + s.val) / 4) + r.val) d.val = _
  rw [show (4 * (t.val / 4) + s.val) % 4 = s.val by omega, show (4 * (t.val / 4) + s.val) / 4 = t.val / 4 by omega]

/-- The reciprocal of the root of a token's mean square. -/
def rms (n : Nat) : EReal :=
  Ideal.rsqrt (Ideal.div (∑ k : Fin 1024, at2 (argX m c) n k.val * at2 (argX m c) n k.val) (Ideal.ofBits .f32 0x44800000#32)
    + Ideal.ofBits .f32 0x358637BD#32)

theorem rms_at (t : Fin cfg0.N) (r : Fin 1024) (z : Fin 1) :
    k0_pay4 (iblk m c 3 t) (ix2 r z) = rms m c (1024 * (t.val / 4) + r.val) := by
  pointwise [k0_pay4]
  simp only [read3]
  rfl

theorem xn_at (t : Fin cfg0.N) (r : Fin 1024) (d : Fin 1024) :
    k0_pay5 (iblk m c 3 t) (ix2 r d) = at2 (argX m c) (1024 * (t.val / 4) + r.val) d.val * rms m c (1024 * (t.val / 4) + r.val) := by
  pointwise [k0_pay5]
  rw [read3, rms_at]

/-- The gradient of the input. -/
def dx (n d : Nat) : EReal :=
  at2 (argR m c) n d + rms m c n * (dh m c n d * at2 (argN m c) 0 d
    - at2 (argX m c) n d * rms m c n * Ideal.div (∑ k : Fin 1024, dh m c n k.val * at2 (argN m c) 0 k.val
        * (at2 (argX m c) n k.val * rms m c n)) (Ideal.ofBits .f32 0x44800000#32))

def DX (i : S8192x1024.Idx) : EReal := dx m c (i 0).val (i 1).val

/-- The gradient of the gain, in each of the eight rows. -/
def dg (d : Nat) : EReal := ∑ n : Fin 8192, dh m c n.val d * (at2 (argX m c) n.val d * rms m c n.val)

def DG (i : S8x1024.Idx) : EReal := dg m c (i 1).val

theorem dx_at (t : Fin cfg0.N) (hf : t.val % 4 = 3) (y : S1024x1024.Idx) :
    (outsAt0 m c t.val t.isLt).1 y = DX m c ((win0_5.blk t).view.emb y) := by
  obtain ⟨r, d, rfl⟩ : ∃ (r : Fin 1024) (d : Fin 1024), y = ix2 r d := ⟨_, _, eq_ix2 y⟩
  have h0 : (((win0_5.blk t).view.emb (ix2 r d) : S8192x1024.Idx) 0).val = 1024 * (t.val / 4) + r.val := by
    blk_simp [idx5 t]
    omega
  have h1 : (((win0_5.blk t).view.emb (ix2 r d) : S8192x1024.Idx) 1).val = d.val := by
    blk_simp [idx5 t]
  unfold DX
  rw [h0, h1, outs_dx m c t hf]
  pointwise [k0_pay6]
  simp only [read2, read4, xn_at, rms_at, acc_last m c t hf]
  rfl

theorem arr_dx : (dats m 0 c).arrAt 5 cfg0.N = DX m c := by
  refine (dats m 0 c).arrAt_eq_of_covers 5 _ (by decide +kernel) fun t hf y => ?_
  blk_simp
  rw [after0_5]
  exact dx_at m c t ((flush0_5 t).mp hf) y

/-- What a block of tokens adds to the gradient of the gain. -/
def dgPart (b d : Nat) : EReal :=
  ∑ r : Fin 1024, dh m c (1024 * b + r.val) d * (at2 (argX m c) (1024 * b + r.val) d * rms m c (1024 * b + r.val))

theorem dg_point (t : Fin cfg0.N) (hf : t.val % 4 = 3) (acc : Vec Ideal S8x1024 .f32) (r : Fin 8) (d : Fin 1024) :
    k0_pay7 (iblk m c 3 t) (outsAt0 m c t.val t.isLt).2.2 acc (ix2 r d) = acc (ix2 r d) + dgPart m c (t.val / 4) d.val := by
  pointwise [k0_pay7]
  unfold dgPart
  simp only [xn_at, acc_last m c t hf]

theorem dg_at (t : Fin cfg0.N) (hf : t.val % 32 = 31) (y : S8x1024.Idx) :
    (outsAt0 m c t.val t.isLt).2.1 y = DG m c ((win0_6.blk t).view.emb y) := by
  have key := Pipeline.eq_sum_fin_of_reset_step_apply_of_flush (fun n h => (outsAt0 m c n h).2.1) 32 (fun _ => (0 : EReal))
    (fun t j => if t.val % 4 = 3 then dgPart m c (t.val / 4) (j 1).val else 0)
    (fun t h0 j => by
      obtain ⟨r, d, rfl⟩ : ∃ (r : Fin 8) (d : Fin 1024), j = ix2 r d := ⟨_, _, eq_ix2 j⟩
      rw [outs_dg_first m c t h0, if_neg (by omega)]
      pointwise [k0_pay1])
    (fun t h0 j => by
      obtain ⟨r, d, rfl⟩ : ∃ (r : Fin 8) (d : Fin 1024), j = ix2 r d := ⟨_, _, eq_ix2 j⟩
      by_cases h2 : t.val % 4 = 3
      · rw [outs_dg_last m c t h2, if_pos h2, dg_point m c t h2]
        rfl
      · rw [outs_dg_keep m c t h0 h2, if_neg h2, add_zero]) t hf y
  refine key.trans ?_
  obtain ⟨r, d, rfl⟩ : ∃ (r : Fin 8) (d : Fin 1024), y = ix2 r d := ⟨_, _, eq_ix2 y⟩
  have h1 : (((win0_6.blk t).view.emb (ix2 r d) : S8x1024.Idx) 1).val = d.val := by
    blk_simp [idx6 t]
  unfold DG dg
  rw [h1, zero_add]
  have hl := lt32 t
  have h8 := Fin.sum_univ_mul_divmod 8 4 fun a b => if b = 3 then dgPart m c a d.val else 0
  have hb : ∀ a : Fin 8, (∑ b : Fin 4, if b.val = 3 then dgPart m c a.val d.val else 0) = dgPart m c a.val d.val := fun a => by
    rw [Fin.sum_univ_four, if_neg (by decide), if_neg (by decide), if_neg (by decide), if_pos (by decide), zero_add, zero_add, zero_add]
  simp only [hb] at h8
  refine (Finset.sum_congr rfl fun s _ => ?_).trans (h8.trans (Fin.sum_mul_add_congr fun b r hn => ?_))
  · have hs : 32 * (t.val / 32) + s.val = s.val := by omega
    show (if (32 * (t.val / 32) + s.val) % 4 = 3 then dgPart m c ((32 * (t.val / 32) + s.val) / 4) d.val else 0) = _
    rw [hs]
  · show _ = dh m c (b.val * 1024 + r.val) d.val * (at2 (argX m c) (b.val * 1024 + r.val) d.val * rms m c (b.val * 1024 + r.val))
    rw [mul_comm b.val 1024]

theorem arr_dg : (dats m 0 c).arrAt 6 cfg0.N = DG m c := by
  refine (dats m 0 c).arrAt_eq_of_covers 6 _ (by decide +kernel) fun t hf y => ?_
  blk_simp
  rw [after0_6]
  exact dg_at m c t ((flush0_6 t).mp hf) y

end Cert.Kernel7Ideal.InGrad

end
-- ==== Proof.InGradRef.lean ====
/- The derivative of the projection into the mixers and of its norm, in the input and in the gain, at an index. -/
module

public import proofs.«01_k».proof.Proof.InGradArrays
public import proofs.«01_k».proof.Proof.Reals
public import proofs.«01_k».proof.Proof.Gen.Reference8Ideal.Run
public import proofs.«01_k».proof.Proof.Gen.Reference8Ideal.Read

@[expose] public section

set_option maxRecDepth 16384

noncomputable section

namespace Cert.Reference8Ideal.InGrad

open Cert.Reference8Ideal Cert.Reference8Ideal.Gen Cert.Reference8Ideal.Read Cert.Arrays Idealize.ShloMosaic Idealize.ShloMosaic.TcCoe
  Idealize.SL.Sem

open Cert.Kernel7Ideal.InGrad

variable (m : (ℓ : Loc Cert.Kernel7Ideal.nD Cert.Kernel7Ideal.τ Cert.Kernel7Ideal.sig) → Buf (Elt Ideal) ℓ) (c : Dev Cert.Kernel7Ideal.nD)

/-- The gradient of the normed and scaled input: the reference adds the shards' columns in one sum of products. -/
theorem ref_dh (n : Fin 8192) (d : Fin 1024) :
    val_main_v20 (F := Ideal) (argP m c) (argW m c) (ix2 n d) = dh m c n.val d.val := by
  pointwise [val_main_v20, val_main_v19, val_main_v0, val_main_v1]
  unfold dh part
  refine Finset.sum_congr rfl fun s _ => Finset.sum_congr rfl fun f _ => ?_
  have hs := s.isLt
  have hf := f.isLt
  rw [at2_of_lt _ n.isLt (show 768 * s.val + f.val < 3072 by omega), at3_of_lt _ s.isLt d.isLt f.isLt]
  simp only [Nat.mul_comm 768]

/-- The mean square plus the constant. -/
def ms (n : Nat) : EReal :=
  Ideal.div (∑ k : Fin 1024, at2 (argX m c) n k.val * at2 (argX m c) n k.val) (Ideal.ofBits .f32 0x44800000#32)
    + Ideal.ofBits .f32 0x358637BD#32

theorem ref_ms (n : Fin 8192) (z : Fin 1) : val_main_v8 (F := Ideal) (argX m c) (ix2 n z) = ms m c n.val := by
  pointwise [val_main_v8, val_main_v6, val_main_v7, val_main_v4, val_main_v5, val_main_v3, val_main_v2, val_main_cst, val_main_cst_0, val_main_cst_1]
  unfold ms
  simp only [at2_of_lt _ n.isLt (Fin.isLt _)]

theorem ref_dg (r : Fin 8) (d : Fin 1024) :
    val_main_v41 (F := Ideal) (argP m c) (argW m c) (argX m c) (ix2 r d) = DG m c (ix2 r d) := by
  pointwise [val_main_v41, val_main_v23, val_main_v22, val_main_v21, val_main_v14, val_main_v13, val_main_v9, val_main_cst_3]
  simp only [ref_dh, ref_ms]
  show _ = dg m c d.val
  unfold dg
  refine Finset.sum_congr rfl fun n _ => ?_
  rw [mul_comm, at2_of_lt _ n.isLt d.isLt]
  rfl

/-- Real arguments make the gradient of the normed input real. -/
theorem dh_real (hP : ∀ i, argP m c i = ((argP m c i).toReal : EReal)) (hW : ∀ i, argW m c i = ((argW m c i).toReal : EReal))
    (n : Fin 8192) (d : Fin 1024) : ∃ r : ℝ, dh m c n.val d.val = (r : EReal) := by
  refine ⟨∑ s : Fin 4, ∑ f : Fin 768,
    (at2 (argP m c) n.val (768 * s.val + f.val)).toReal * (at3 (argW m c) s.val d.val f.val).toReal, ?_⟩
  unfold dh part
  rw [Cert.Reals.coe_sum]
  refine Finset.sum_congr rfl fun s _ => ?_
  rw [Cert.Reals.coe_sum]
  refine Finset.sum_congr rfl fun f _ => ?_
  have hs := s.isLt
  have hf := f.isLt
  rw [EReal.coe_mul, at2_of_lt _ n.isLt (show 768 * s.val + f.val < 3072 by omega), at3_of_lt _ s.isLt d.isLt f.isLt]
  exact congrArg₂ (· * ·) (hP _) (hW _)

theorem ref_dx (hP : ∀ i, argP m c i = ((argP m c i).toReal : EReal)) (hW : ∀ i, argW m c i = ((argW m c i).toReal : EReal))
    (hX : ∀ i, argX m c i = ((argX m c i).toReal : EReal)) (hN : ∀ i, argN m c i = ((argN m c i).toReal : EReal))
    (n : Fin 8192) (d : Fin 1024) :
    val_main_v40 (F := Ideal) (argP m c) (argW m c) (argR m c) (argX m c) (argN m c) (ix2 n d)
      = DX m c (ix2 n d) := by
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v12, val_main_v11,
    val_main_v10, val_main_v9, val_main_cst_2, val_main_cst_4, val_main_cst_5, val_main_cst_6]
  simp only [ref_dh, ref_ms, Fin.sum_univ_one]
  choose h hh using fun k => dh_real m c hP hW n k
  have e := Cert.Reals.norm_grad (fun k => (argX m c (ix2 n k)).toReal) (fun k => (argN m c (ix2 0 k)).toReal) h
    (argR m c (ix2 n d)) d (ms m c n.val) (Ideal.rsqrt (ms m c n.val))
    (by unfold ms; simp only [at2_of_lt _ n.isLt (Fin.isLt _), ← hX]) rfl
  simp only [← hX, ← hN, ← hh] at e
  refine e.trans ?_
  show _ = dx m c n.val d.val
  unfold dx
  simp only [at2_of_lt _ n.isLt (Fin.isLt _), at2_of_lt (argN m c) Nat.zero_lt_one (Fin.isLt _)]
  have hr : rms m c n.val = Ideal.rsqrt (ms m c n.val) := rfl
  rw [hr]
  rfl

end Cert.Reference8Ideal.InGrad

end
-- ==== Proof.OutGradArrays.lean ====
/- The gradient of the mixers' joined output through the projection: what the call's grid leaves in its output array, over the
   extended reals. One grid point makes 1024 tokens. -/
module

public import proofs.«01_k».proof.Proof.Gen.Kernel8Ideal.Value
public import proofs.«01_k».proof.Proof.Arrays
public import Idealize.ShloMosaic.Lib.Pipeline.ValueKit

@[expose] public section

set_option maxRecDepth 16384

noncomputable section

namespace Cert.Kernel8Ideal.OutGrad

open Cert.Kernel8Ideal Cert.Kernel8Ideal.Gen Cert.Arrays Idealize.ShloMosaic Idealize.ShloMosaic.TcCoe Idealize.SL.Sem

variable (m : (ℓ : Loc nD τ sig) → Buf (Elt Ideal) ℓ) (c : Dev nD)

/-- The two arguments as arrays of extended reals. -/
def argY : Shape.Idx ⟨2, ![8192, 1024]⟩ → EReal := m ((c : Thread nD τ).loc main_arg0)
def argW : Shape.Idx ⟨2, ![1024, 1024]⟩ → EReal := m ((c : Thread nD τ).loc main_arg1)

theorem hz : (![0, 0] : Fin 2 → Nat) = fun _ => 0 := by decide

theorem lt8 (t : Fin cfg0.N) : t.val < 8 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem read0 (t : Fin cfg0.N) (r : Fin 1024) (l : Fin 1024) :
    iblk m c 0 t (ix2 r l) = at2 (argY m c) (1024 * t.val + r.val) l.val := by
  have := lt8 t
  rw [at2_of_lt _ (by omega) (by omega)]
  unfold argY
  blk_ext [iblk, V_main_arg0, idx0 t]
theorem read1 (t : Fin cfg0.N) (r : Fin 1024) (l : Fin 1024) :
    iblk m c 1 t (ix2 r l) = at2 (argW m c) (r.val) l.val := by
  have := lt8 t
  rw [at2_of_lt _ (by omega) (by omega)]
  unfold argW
  blk_ext [iblk, V_main_arg1, idx1 t]

/-- The gradient: a row of the cotangent times a row of the weight. -/
def DY (i : S8192x1024.Idx) : EReal := ∑ k : Fin 1024, at2 (argY m c) (i 0).val k.val * at2 (argW m c) (i 1).val k.val

theorem point (t : Fin cfg0.N) (r : Fin 1024) (d : Fin 1024) :
    k0_pay1 (iblk m c 0 t) (iblk m c 1 t) (ix2 r d)
      = ∑ k : Fin 1024, at2 (argY m c) (1024 * t.val + r.val) k.val * at2 (argW m c) d.val k.val := by
  pointwise [k0_pay1]
  exact Finset.sum_congr rfl fun x _ => by rw [read0, read1]

theorem arr_dy : (dats m 0 c).arrAt 2 cfg0.N = DY m c := by
  refine (dats m 0 c).arrAt_eq_of_covers 2 _ (by decide +kernel) fun t hf y => ?_
  blk_simp
  rw [after0_2]
  obtain ⟨r, d, rfl⟩ : ∃ (r : Fin 1024) (d : Fin 1024), y = ix2 r d := ⟨_, _, eq_ix2 y⟩
  have h0 : (((win0_2.blk t).view.emb (ix2 r d) : S8192x1024.Idx) 0).val = 1024 * t.val + r.val := by
    blk_simp [idx2 t]
    omega
  have h1 : (((win0_2.blk t).view.emb (ix2 r d) : S8192x1024.Idx) 1).val = d.val := by
    blk_simp [idx2 t]
  unfold DY
  rw [h0, h1]
  unfold out0_2
  rw [View.canon_unit_zero (S := S1024x1024) hz]
  simp only [View.ld_unit_zero (S := S1024x1024) hz]
  exact point m c t r d

end Cert.Kernel8Ideal.OutGrad

end
-- ==== Proof.OutGradRef.lean ====
/- The derivative of the projection out of the mixers in its input, at an index. -/
module

public import proofs.«01_k».proof.Proof.OutGradArrays
public import proofs.«01_k».proof.Proof.Gen.Reference9Ideal.Run
public import proofs.«01_k».proof.Proof.Gen.Reference9Ideal.Read

@[expose] public section

set_option maxRecDepth 16384

noncomputable section

namespace Cert.Reference9Ideal.OutGrad

open Cert.Reference9Ideal Cert.Reference9Ideal.Gen Cert.Reference9Ideal.Read Cert.Arrays Idealize.ShloMosaic Idealize.ShloMosaic.TcCoe
  Idealize.SL.Sem

open Cert.Kernel8Ideal.OutGrad

variable (m : (ℓ : Loc Cert.Kernel8Ideal.nD Cert.Kernel8Ideal.τ Cert.Kernel8Ideal.sig) → Buf (Elt Ideal) ℓ) (c : Dev Cert.Kernel8Ideal.nD)

theorem ref_dy (n : Fin 8192) (d : Fin 1024) :
    val_main_v3 (F := Ideal) (argY m c) (argW m c) (ix2 n d) = DY m c (ix2 n d) := by
  pointwise [val_main_v3, val_main_v0]
  unfold DY
  refine Finset.sum_congr rfl fun k _ => ?_
  show _ = at2 (argY m c) n.val k.val * at2 (argW m c) d.val k.val
  rw [at2_of_lt _ n.isLt k.isLt, at2_of_lt _ d.isLt k.isLt]

end Cert.Reference9Ideal.OutGrad

end
-- ==== Proof.OutArrays.lean ====
/- The projection out of the mixers with the residual: what the call's grid leaves in its output array, over the extended
   reals. One grid point makes 1024 tokens. -/
module

public import proofs.«01_k».proof.Proof.Gen.Kernel9Ideal.Value
public import proofs.«01_k».proof.Proof.Arrays
public import Idealize.ShloMosaic.Lib.Pipeline.ValueKit

@[expose] public section

set_option maxRecDepth 16384

noncomputable section

namespace Cert.Kernel9Ideal.Out

open Cert.Kernel9Ideal Cert.Kernel9Ideal.Gen Cert.Arrays Idealize.ShloMosaic Idealize.ShloMosaic.TcCoe Idealize.SL.Sem

variable (m : (ℓ : Loc nD τ sig) → Buf (Elt Ideal) ℓ) (c : Dev nD)

/-- The three arguments as arrays of extended reals. -/
def argY : Shape.Idx ⟨2, ![8192, 1024]⟩ → EReal := m ((c : Thread nD τ).loc main_arg0)
def argW : Shape.Idx ⟨2, ![1024, 1024]⟩ → EReal := m ((c : Thread nD τ).loc main_arg1)
def argR : Shape.Idx ⟨2, ![8192, 1024]⟩ → EReal := m ((c : Thread nD τ).loc main_arg2)

theorem hz : (![0, 0] : Fin 2 → Nat) = fun _ => 0 := by decide

theorem lt8 (t : Fin cfg0.N) : t.val < 8 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem read0 (t : Fin cfg0.N) (r : Fin 1024) (l : Fin 1024) :
    iblk m c 0 t (ix2 r l) = at2 (argY m c) (1024 * t.val + r.val) l.val := by
  have := lt8 t
  rw [at2_of_lt _ (by omega) (by omega)]
  unfold argY
  blk_ext [iblk, V_main_arg0, idx0 t]
theorem read1 (t : Fin cfg0.N) (r : Fin 1024) (l : Fin 1024) :
    iblk m c 1 t (ix2 r l) = at2 (argW m c) (r.val) l.val := by
  have := lt8 t
  rw [at2_of_lt _ (by omega) (by omega)]
  unfold argW
  blk_ext [iblk, V_main_arg1, idx1 t]
theorem read2 (t : Fin cfg0.N) (r : Fin 1024) (l : Fin 1024) :
    iblk m c 2 t (ix2 r l) = at2 (argR m c) (1024 * t.val + r.val) l.val := by
  have := lt8 t
  rw [at2_of_lt _ (by omega) (by omega)]
  unfold argR
  blk_ext [iblk, V_main_arg2, idx2 t]

/-- The residual plus a row of the mixers' output times the weight. -/
def X (i : S8192x1024.Idx) : EReal :=
  at2 (argR m c) (i 0).val (i 1).val + ∑ k : Fin 1024, at2 (argY m c) (i 0).val k.val * at2 (argW m c) k.val (i 1).val

theorem arr_x : (dats m 0 c).arrAt 3 cfg0.N = X m c := by
  refine (dats m 0 c).arrAt_eq_of_covers 3 _ (by decide +kernel) fun t hf y => ?_
  blk_simp
  rw [after0_3]
  obtain ⟨r, d, rfl⟩ : ∃ (r : Fin 1024) (d : Fin 1024), y = ix2 r d := ⟨_, _, eq_ix2 y⟩
  have h0 : (((win0_3.blk t).view.emb (ix2 r d) : S8192x1024.Idx) 0).val = 1024 * t.val + r.val := by
    blk_simp [idx3 t]
    omega
  have h1 : (((win0_3.blk t).view.emb (ix2 r d) : S8192x1024.Idx) 1).val = d.val := by
    blk_simp [idx3 t]
  unfold X
  rw [h0, h1]
  unfold out0_3
  rw [View.canon_unit_zero (S := S1024x1024) hz]
  simp only [View.ld_unit_zero (S := S1024x1024) hz]
  pointwise [k0_pay1]
  rw [read2]
  exact congrArg (_ + ·) (Finset.sum_congr rfl fun x _ => by rw [read0, read1])

end Cert.Kernel9Ideal.Out

end
-- ==== Proof.OutRef.lean ====
/- The projection out of the mixers with the residual, at an index. -/
module

public import proofs.«01_k».proof.Proof.OutArrays
public import proofs.«01_k».proof.Proof.Gen.Reference10Ideal.Run
public import proofs.«01_k».proof.Proof.Gen.Reference10Ideal.Read

@[expose] public section

set_option maxRecDepth 16384

noncomputable section

namespace Cert.Reference10Ideal.Out

open Cert.Reference10Ideal Cert.Reference10Ideal.Gen Cert.Reference10Ideal.Read Cert.Arrays Idealize.ShloMosaic Idealize.ShloMosaic.TcCoe
  Idealize.SL.Sem

open Cert.Kernel9Ideal.Out

variable (m : (ℓ : Loc Cert.Kernel9Ideal.nD Cert.Kernel9Ideal.τ Cert.Kernel9Ideal.sig) → Buf (Elt Ideal) ℓ) (c : Dev Cert.Kernel9Ideal.nD)

theorem ref_x (n : Fin 8192) (d : Fin 1024) :
    val_main_v3 (F := Ideal) (argY m c) (argW m c) (argR m c) (ix2 n d) = X m c (ix2 n d) := by
  pointwise [val_main_v3, val_main_v2, val_main_v1, val_main_v0]
  show _ = at2 (argR m c) n.val d.val + ∑ k : Fin 1024, at2 (argY m c) n.val k.val * at2 (argW m c) k.val d.val
  rw [at2_of_lt _ n.isLt d.isLt]
  refine congrArg (_ + ·) (Finset.sum_congr rfl fun k _ => ?_)
  rw [at2_of_lt _ n.isLt k.isLt, at2_of_lt _ k.isLt d.isLt]

end Cert.Reference10Ideal.Out

end
-- ==== Proof.OutWeightArrays.lean ====
/- The gradient of the weight of the projection out of the mixers: what the call's grid leaves in its output array, over the
   extended reals. One grid point adds the product of 2048 tokens; four points make one shard's block. -/
module

public import proofs.«01_k».proof.Proof.Gen.Kernel10Ideal.Value
public import proofs.«01_k».proof.Proof.Arrays
public import Idealize.ShloMosaic.Lib.Pipeline.ValueKit

@[expose] public section

set_option maxRecDepth 16384

noncomputable section

namespace Cert.Kernel10Ideal.OutWeight

open Cert.Kernel10Ideal Cert.Kernel10Ideal.Gen Cert.Arrays Idealize.ShloMosaic Idealize.ShloMosaic.TcCoe Idealize.SL.Sem

variable (m : (ℓ : Loc nD τ sig) → Buf (Elt Ideal) ℓ) (c : Dev nD)

/-- The two arguments as arrays of extended reals. -/
def argA : Shape.Idx ⟨2, ![8192, 1024]⟩ → EReal := m ((c : Thread nD τ).loc main_arg0)
def argB : Shape.Idx ⟨2, ![8192, 1024]⟩ → EReal := m ((c : Thread nD τ).loc main_arg1)

theorem lt16 (t : Fin cfg0.N) : t.val < 16 := lt_of_lt_of_eq t.isLt N_0

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0, 0] := (by decide +kernel : ∀ t : Fin grid0.N, _)

theorem read0 (t : Fin cfg0.N) (r : Fin 2048) (l : Fin 256) :
    iblk m c 0 t (ix2 r l) = at2 (argA m c) (2048 * (t.val % 4) + r.val) (256 * (t.val / 4) + l.val) := by
  have := lt16 t
  rw [at2_of_lt _ (by omega) (by omega)]
  unfold argA
  blk_ext [iblk, V_main_arg0, idx0 t]

theorem read1 (t : Fin cfg0.N) (r : Fin 2048) (l : Fin 1024) :
    iblk m c 1 t (ix2 r l) = at2 (argB m c) (2048 * (t.val % 4) + r.val) (l.val) := by
  have := lt16 t
  rw [at2_of_lt _ (by omega) (by omega)]
  unfold argB
  blk_ext [iblk, V_main_arg1, idx1 t]

/-- The gradient: the sum over the tokens of the products. -/
def DW (i : S4x256x1024.Idx) : EReal :=
  ∑ n : Fin 8192, at2 (argA m c) n.val (256 * (i 0).val + (i 1).val) * at2 (argB m c) n.val ((i 2).val)

/-- One point's part of the sum. -/
def part (s k p q : Nat) : EReal :=
  ∑ x : Fin 2048, at2 (argA m c) (2048 * k + x.val) (256 * s + p) * at2 (argB m c) (2048 * k + x.val) (q)

theorem point (t : Fin cfg0.N) (acc : Vec Ideal S1x256x1024 .f32) (z : Fin 1) (p : Fin 256) (q : Fin 1024) :
    k0_pay2 acc (iblk m c 0 t) (iblk m c 1 t) (ix3 z p q) = acc (ix3 z p q) + part m c (t.val / 4) (t.val % 4) p.val q.val := by
  pointwise [k0_pay2]
  obtain rfl : z = 0 := Fin.fin_one_eq_zero z
  exact congrArg (_ + ·) (Finset.sum_congr rfl fun x _ => by rw [read0, read1])

theorem dw_at (t : Fin cfg0.N) (hf : t.val % 4 = 3) (y : S1x256x1024.Idx) :
    (outsAt0 m c t.val t.isLt) y = DW m c ((win0_2.blk t).view.emb y) := by
  have key := Pipeline.eq_sum_fin_of_reset_step_apply_of_flush (fun n h => outsAt0 m c n h) 4 (fun _ => (0 : EReal))
    (fun t j => part m c (t.val / 4) (t.val % 4) (j 1).val (j 2).val)
    (fun t h0 j => by
      obtain ⟨z, p, q, rfl⟩ : ∃ (z : Fin 1) (p : Fin 256) (q : Fin 1024), j = ix3 z p q := ⟨_, _, _, eq_ix3 j⟩
      rw [outsAt0_A m c t h0, Value.out_A_2_eq, point]
      pointwise [k0_pay1])
    (fun t h0 j => by
      obtain ⟨z, p, q, rfl⟩ : ∃ (z : Fin 1) (p : Fin 256) (q : Fin 1024), j = ix3 z p q := ⟨_, _, _, eq_ix3 j⟩
      rw [outsAt0_B m c t h0, Value.out_B_2_eq, point]
      rfl) t hf y
  refine key.trans ?_
  obtain ⟨z, p, q, rfl⟩ : ∃ (z : Fin 1) (p : Fin 256) (q : Fin 1024), y = ix3 z p q := ⟨_, _, _, eq_ix3 y⟩
  have h0 : (((win0_2.blk t).view.emb (ix3 z p q) : S4x256x1024.Idx) 0).val = t.val / 4 := by
    blk_simp [idx2 t]
  have h1 : (((win0_2.blk t).view.emb (ix3 z p q) : S4x256x1024.Idx) 1).val = p.val := by
    blk_simp [idx2 t]
  have h2 : (((win0_2.blk t).view.emb (ix3 z p q) : S4x256x1024.Idx) 2).val = q.val := by
    blk_simp [idx2 t]
  unfold DW
  rw [h0, h1, h2, zero_add]
  have hl := lt16 t
  refine Fin.sum_mul_add_congr fun k x hx => ?_
  have hk := k.isLt
  have e1 : (4 * (t.val / 4) + k.val) / 4 = t.val / 4 := by omega
  have e2 : 2048 * ((4 * (t.val / 4) + k.val) % 4) + x.val = k.val * 2048 + x.val := by omega
  show at2 (argA m c) (2048 * ((4 * (t.val / 4) + k.val) % 4) + x.val) (256 * ((4 * (t.val / 4) + k.val) / 4) + p.val)
      * at2 (argB m c) (2048 * ((4 * (t.val / 4) + k.val) % 4) + x.val) (q.val) = _
  rw [e1, e2]

theorem arr_dw : (dats m 0 c).arrAt 2 cfg0.N = DW m c := by
  refine (dats m 0 c).arrAt_eq_of_covers 2 _ (by decide +kernel) fun t hf y => ?_
  blk_simp
  rw [after0_2]
  exact dw_at m c t ((flush0_2 t).mp hf) y

end Cert.Kernel10Ideal.OutWeight

end
-- ==== Proof.OutWeightRef.lean ====
/- The derivative of the projection out of the mixers in its weight, at an index. -/
module

public import proofs.«01_k».proof.Proof.OutWeightArrays
public import proofs.«01_k».proof.Proof.Gen.Reference11Ideal.Run
public import proofs.«01_k».proof.Proof.Gen.Reference11Ideal.Read

@[expose] public section

set_option maxRecDepth 16384

noncomputable section

namespace Cert.Reference11Ideal.OutWeight

open Cert.Reference11Ideal Cert.Reference11Ideal.Gen Cert.Reference11Ideal.Read Cert.Arrays Idealize.ShloMosaic Idealize.ShloMosaic.TcCoe
  Idealize.SL.Sem

open Cert.Kernel10Ideal.OutWeight

variable (m : (ℓ : Loc Cert.Kernel10Ideal.nD Cert.Kernel10Ideal.τ Cert.Kernel10Ideal.sig) → Buf (Elt Ideal) ℓ) (c : Dev Cert.Kernel10Ideal.nD)

/-- The derivative in the weight, at one entry, is the sum over the tokens that the call leaves there. -/
theorem ref_dw (s : Fin 4) (f : Fin 256) (d : Fin 1024) :
    val_main_v5 (F := Ideal) (argA m c) (argB m c) (ix3 s f d) = DW m c (ix3 s f d) := by
  pointwise [val_main_v5, val_main_v4, val_main_v3, val_main_v0]
  unfold DW
  refine Finset.sum_congr rfl fun n _ => ?_
  show _ = at2 (argA m c) n.val (256 * s.val + f.val) * at2 (argB m c) n.val d.val
  rw [show 256 * s.val + f.val = s.val * 256 + f.val by omega, at2_of_lt _ n.isLt d.isLt, at2_of_lt _ n.isLt (by omega), mul_comm]

end Cert.Reference11Ideal.OutWeight

end
-- ==== Proof.PleGateArrays.lean ====
/- The gradient of the weight of the per-layer embedding's gate: what the call's grid leaves in its output array, over the
   extended reals. One grid point adds the product of 2048 tokens; four points make one shard's block. -/
module

public import proofs.«01_k».proof.Proof.Gen.Kernel16Ideal.Value
public import proofs.«01_k».proof.Proof.Arrays
public import Idealize.ShloMosaic.Lib.Pipeline.ValueKit

@[expose] public section

set_option maxRecDepth 16384

noncomputable section

namespace Cert.Kernel16Ideal.PleGate

open Cert.Kernel16Ideal Cert.Kernel16Ideal.Gen Cert.Arrays Idealize.ShloMosaic Idealize.ShloMosaic.TcCoe Idealize.SL.Sem

variable (m : (ℓ : Loc nD τ sig) → Buf (Elt Ideal) ℓ) (c : Dev nD)

/-- The two arguments as arrays of extended reals. -/
def argA : Shape.Idx ⟨2, ![8192, 1024]⟩ → EReal := m ((c : Thread nD τ).loc main_arg0)
def argB : Shape.Idx ⟨2, ![8192, 1024]⟩ → EReal := m ((c : Thread nD τ).loc main_arg1)

theorem lt16 (t : Fin cfg0.N) : t.val < 16 := lt_of_lt_of_eq t.isLt N_0

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0, 0] := (by decide +kernel : ∀ t : Fin grid0.N, _)

theorem read0 (t : Fin cfg0.N) (r : Fin 2048) (l : Fin 256) :
    iblk m c 0 t (ix2 r l) = at2 (argA m c) (2048 * (t.val % 4) + r.val) (256 * (t.val / 4) + l.val) := by
  have := lt16 t
  rw [at2_of_lt _ (by omega) (by omega)]
  unfold argA
  blk_ext [iblk, V_main_arg0, idx0 t]

theorem read1 (t : Fin cfg0.N) (r : Fin 2048) (l : Fin 1024) :
    iblk m c 1 t (ix2 r l) = at2 (argB m c) (2048 * (t.val % 4) + r.val) (l.val) := by
  have := lt16 t
  rw [at2_of_lt _ (by omega) (by omega)]
  unfold argB
  blk_ext [iblk, V_main_arg1, idx1 t]

/-- The gradient: the sum over the tokens of the products. -/
def DW (i : S4x256x1024.Idx) : EReal :=
  ∑ n : Fin 8192, at2 (argA m c) n.val (256 * (i 0).val + (i 1).val) * at2 (argB m c) n.val ((i 2).val)

/-- One point's part of the sum. -/
def part (s k p q : Nat) : EReal :=
  ∑ x : Fin 2048, at2 (argA m c) (2048 * k + x.val) (256 * s + p) * at2 (argB m c) (2048 * k + x.val) (q)

theorem point (t : Fin cfg0.N) (acc : Vec Ideal S1x256x1024 .f32) (z : Fin 1) (p : Fin 256) (q : Fin 1024) :
    k0_pay2 acc (iblk m c 0 t) (iblk m c 1 t) (ix3 z p q) = acc (ix3 z p q) + part m c (t.val / 4) (t.val % 4) p.val q.val := by
  pointwise [k0_pay2]
  obtain rfl : z = 0 := Fin.fin_one_eq_zero z
  exact congrArg (_ + ·) (Finset.sum_congr rfl fun x _ => by rw [read0, read1])

theorem dw_at (t : Fin cfg0.N) (hf : t.val % 4 = 3) (y : S1x256x1024.Idx) :
    (outsAt0 m c t.val t.isLt) y = DW m c ((win0_2.blk t).view.emb y) := by
  have key := Pipeline.eq_sum_fin_of_reset_step_apply_of_flush (fun n h => outsAt0 m c n h) 4 (fun _ => (0 : EReal))
    (fun t j => part m c (t.val / 4) (t.val % 4) (j 1).val (j 2).val)
    (fun t h0 j => by
      obtain ⟨z, p, q, rfl⟩ : ∃ (z : Fin 1) (p : Fin 256) (q : Fin 1024), j = ix3 z p q := ⟨_, _, _, eq_ix3 j⟩
      rw [outsAt0_A m c t h0, Value.out_A_2_eq, point]
      pointwise [k0_pay1])
    (fun t h0 j => by
      obtain ⟨z, p, q, rfl⟩ : ∃ (z : Fin 1) (p : Fin 256) (q : Fin 1024), j = ix3 z p q := ⟨_, _, _, eq_ix3 j⟩
      rw [outsAt0_B m c t h0, Value.out_B_2_eq, point]
      rfl) t hf y
  refine key.trans ?_
  obtain ⟨z, p, q, rfl⟩ : ∃ (z : Fin 1) (p : Fin 256) (q : Fin 1024), y = ix3 z p q := ⟨_, _, _, eq_ix3 y⟩
  have h0 : (((win0_2.blk t).view.emb (ix3 z p q) : S4x256x1024.Idx) 0).val = t.val / 4 := by
    blk_simp [idx2 t]
  have h1 : (((win0_2.blk t).view.emb (ix3 z p q) : S4x256x1024.Idx) 1).val = p.val := by
    blk_simp [idx2 t]
  have h2 : (((win0_2.blk t).view.emb (ix3 z p q) : S4x256x1024.Idx) 2).val = q.val := by
    blk_simp [idx2 t]
  unfold DW
  rw [h0, h1, h2, zero_add]
  have hl := lt16 t
  refine Fin.sum_mul_add_congr fun k x hx => ?_
  have hk := k.isLt
  have e1 : (4 * (t.val / 4) + k.val) / 4 = t.val / 4 := by omega
  have e2 : 2048 * ((4 * (t.val / 4) + k.val) % 4) + x.val = k.val * 2048 + x.val := by omega
  show at2 (argA m c) (2048 * ((4 * (t.val / 4) + k.val) % 4) + x.val) (256 * ((4 * (t.val / 4) + k.val) / 4) + p.val)
      * at2 (argB m c) (2048 * ((4 * (t.val / 4) + k.val) % 4) + x.val) (q.val) = _
  rw [e1, e2]

theorem arr_dw : (dats m 0 c).arrAt 2 cfg0.N = DW m c := by
  refine (dats m 0 c).arrAt_eq_of_covers 2 _ (by decide +kernel) fun t hf y => ?_
  blk_simp
  rw [after0_2]
  exact dw_at m c t ((flush0_2 t).mp hf) y

end Cert.Kernel16Ideal.PleGate

end
-- ==== Proof.PleGateRef.lean ====
/- The derivative of the product before the per-layer embedding's gate in its weight, at an index. -/
module

public import proofs.«01_k».proof.Proof.PleGateArrays
public import proofs.«01_k».proof.Proof.Gen.Reference17Ideal.Run
public import proofs.«01_k».proof.Proof.Gen.Reference17Ideal.Read

@[expose] public section

set_option maxRecDepth 16384

noncomputable section

namespace Cert.Reference17Ideal.PleGate

open Cert.Reference17Ideal Cert.Reference17Ideal.Gen Cert.Reference17Ideal.Read Cert.Arrays Idealize.ShloMosaic Idealize.ShloMosaic.TcCoe
  Idealize.SL.Sem

open Cert.Kernel16Ideal.PleGate

variable (m : (ℓ : Loc Cert.Kernel16Ideal.nD Cert.Kernel16Ideal.τ Cert.Kernel16Ideal.sig) → Buf (Elt Ideal) ℓ) (c : Dev Cert.Kernel16Ideal.nD)

/-- The derivative in the weight, at one entry, is the sum over the tokens that the call leaves there. -/
theorem ref_dw (s : Fin 4) (f : Fin 256) (d : Fin 1024) :
    val_main_v6 (F := Ideal) (argA m c) (argB m c) (ix3 s f d) = DW m c (ix3 s f d) := by
  pointwise [val_main_v6, val_main_v5, val_main_v4, val_main_v1, val_main_v0]
  unfold DW
  refine Finset.sum_congr rfl fun n _ => ?_
  show _ = at2 (argA m c) n.val (256 * s.val + f.val) * at2 (argB m c) n.val d.val
  rw [show 256 * s.val + f.val = s.val * 256 + f.val by omega, at2_of_lt _ n.isLt d.isLt, at2_of_lt _ n.isLt (by omega), mul_comm]

end Cert.Reference17Ideal.PleGate

end
-- ==== Proof.PleProjArrays.lean ====
/- The gradient of the weight of the per-layer embedding's projection: what the call's grid leaves in its output array, over the
   extended reals. One grid point adds the product of 2048 tokens; four points make one shard's block. -/
module

public import proofs.«01_k».proof.Proof.Gen.Kernel17Ideal.Value
public import proofs.«01_k».proof.Proof.Arrays
public import Idealize.ShloMosaic.Lib.Pipeline.ValueKit

@[expose] public section

set_option maxRecDepth 16384

noncomputable section

namespace Cert.Kernel17Ideal.PleProj

open Cert.Kernel17Ideal Cert.Kernel17Ideal.Gen Cert.Arrays Idealize.ShloMosaic Idealize.ShloMosaic.TcCoe Idealize.SL.Sem

variable (m : (ℓ : Loc nD τ sig) → Buf (Elt Ideal) ℓ) (c : Dev nD)

/-- The two arguments as arrays of extended reals. -/
def argA : Shape.Idx ⟨2, ![8192, 256]⟩ → EReal := m ((c : Thread nD τ).loc main_arg0)
def argB : Shape.Idx ⟨2, ![8192, 1024]⟩ → EReal := m ((c : Thread nD τ).loc main_arg1)

theorem lt16 (t : Fin cfg0.N) : t.val < 16 := lt_of_lt_of_eq t.isLt N_0

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val / 4, 0, 0] := (by decide +kernel : ∀ t : Fin grid0.N, _)

theorem read0 (t : Fin cfg0.N) (r : Fin 2048) (l : Fin 256) :
    iblk m c 0 t (ix2 r l) = at2 (argA m c) (2048 * (t.val % 4) + r.val) (l.val) := by
  have := lt16 t
  rw [at2_of_lt _ (by omega) (by omega)]
  unfold argA
  blk_ext [iblk, V_main_arg0, idx0 t]

theorem read1 (t : Fin cfg0.N) (r : Fin 2048) (l : Fin 256) :
    iblk m c 1 t (ix2 r l) = at2 (argB m c) (2048 * (t.val % 4) + r.val) (256 * (t.val / 4) + l.val) := by
  have := lt16 t
  rw [at2_of_lt _ (by omega) (by omega)]
  unfold argB
  blk_ext [iblk, V_main_arg1, idx1 t]

/-- The gradient: the sum over the tokens of the products. -/
def DW (i : S4x256x256.Idx) : EReal :=
  ∑ n : Fin 8192, at2 (argA m c) n.val ((i 1).val) * at2 (argB m c) n.val (256 * (i 0).val + (i 2).val)

/-- One point's part of the sum. -/
def part (s k p q : Nat) : EReal :=
  ∑ x : Fin 2048, at2 (argA m c) (2048 * k + x.val) (p) * at2 (argB m c) (2048 * k + x.val) (256 * s + q)

theorem point (t : Fin cfg0.N) (acc : Vec Ideal S1x256x256 .f32) (z : Fin 1) (p : Fin 256) (q : Fin 256) :
    k0_pay2 acc (iblk m c 0 t) (iblk m c 1 t) (ix3 z p q) = acc (ix3 z p q) + part m c (t.val / 4) (t.val % 4) p.val q.val := by
  pointwise [k0_pay2]
  obtain rfl : z = 0 := Fin.fin_one_eq_zero z
  exact congrArg (_ + ·) (Finset.sum_congr rfl fun x _ => by rw [read0, read1])

theorem dw_at (t : Fin cfg0.N) (hf : t.val % 4 = 3) (y : S1x256x256.Idx) :
    (outsAt0 m c t.val t.isLt) y = DW m c ((win0_2.blk t).view.emb y) := by
  have key := Pipeline.eq_sum_fin_of_reset_step_apply_of_flush (fun n h => outsAt0 m c n h) 4 (fun _ => (0 : EReal))
    (fun t j => part m c (t.val / 4) (t.val % 4) (j 1).val (j 2).val)
    (fun t h0 j => by
      obtain ⟨z, p, q, rfl⟩ : ∃ (z : Fin 1) (p : Fin 256) (q : Fin 256), j = ix3 z p q := ⟨_, _, _, eq_ix3 j⟩
      rw [outsAt0_A m c t h0, Value.out_A_2_eq, point]
      pointwise [k0_pay1])
    (fun t h0 j => by
      obtain ⟨z, p, q, rfl⟩ : ∃ (z : Fin 1) (p : Fin 256) (q : Fin 256), j = ix3 z p q := ⟨_, _, _, eq_ix3 j⟩
      rw [outsAt0_B m c t h0, Value.out_B_2_eq, point]
      rfl) t hf y
  refine key.trans ?_
  obtain ⟨z, p, q, rfl⟩ : ∃ (z : Fin 1) (p : Fin 256) (q : Fin 256), y = ix3 z p q := ⟨_, _, _, eq_ix3 y⟩
  have h0 : (((win0_2.blk t).view.emb (ix3 z p q) : S4x256x256.Idx) 0).val = t.val / 4 := by
    blk_simp [idx2 t]
  have h1 : (((win0_2.blk t).view.emb (ix3 z p q) : S4x256x256.Idx) 1).val = p.val := by
    blk_simp [idx2 t]
  have h2 : (((win0_2.blk t).view.emb (ix3 z p q) : S4x256x256.Idx) 2).val = q.val := by
    blk_simp [idx2 t]
  unfold DW
  rw [h0, h1, h2, zero_add]
  have hl := lt16 t
  refine Fin.sum_mul_add_congr fun k x hx => ?_
  have hk := k.isLt
  have e1 : (4 * (t.val / 4) + k.val) / 4 = t.val / 4 := by omega
  have e2 : 2048 * ((4 * (t.val / 4) + k.val) % 4) + x.val = k.val * 2048 + x.val := by omega
  show at2 (argA m c) (2048 * ((4 * (t.val / 4) + k.val) % 4) + x.val) (p.val)
      * at2 (argB m c) (2048 * ((4 * (t.val / 4) + k.val) % 4) + x.val) (256 * ((4 * (t.val / 4) + k.val) / 4) + q.val) = _
  rw [e1, e2]

theorem arr_dw : (dats m 0 c).arrAt 2 cfg0.N = DW m c := by
  refine (dats m 0 c).arrAt_eq_of_covers 2 _ (by decide +kernel) fun t hf y => ?_
  blk_simp
  rw [after0_2]
  exact dw_at m c t ((flush0_2 t).mp hf) y

end Cert.Kernel17Ideal.PleProj

end
-- ==== Proof.PleProjRef.lean ====
/- The derivative of the per-layer embedding's projection in its weight, at an index. -/
module

public import proofs.«01_k».proof.Proof.PleProjArrays
public import proofs.«01_k».proof.Proof.Gen.Reference18Ideal.Run
public import proofs.«01_k».proof.Proof.Gen.Reference18Ideal.Read

@[expose] public section

set_option maxRecDepth 16384

noncomputable section

namespace Cert.Reference18Ideal.PleProj

open Cert.Reference18Ideal Cert.Reference18Ideal.Gen Cert.Reference18Ideal.Read Cert.Arrays Idealize.ShloMosaic Idealize.ShloMosaic.TcCoe
  Idealize.SL.Sem

open Cert.Kernel17Ideal.PleProj

variable (m : (ℓ : Loc Cert.Kernel17Ideal.nD Cert.Kernel17Ideal.τ Cert.Kernel17Ideal.sig) → Buf (Elt Ideal) ℓ) (c : Dev Cert.Kernel17Ideal.nD)

/-- The derivative in the weight, at one entry, is the sum over the tokens that the call leaves there. -/
theorem ref_dw (s : Fin 4) (d : Fin 256) (f : Fin 256) :
    val_main_v6 (F := Ideal) (argA m c) (argB m c) (ix3 s d f) = DW m c (ix3 s d f) := by
  pointwise [val_main_v6, val_main_v5, val_main_v4, val_main_v0]
  unfold DW
  refine Finset.sum_congr rfl fun n _ => ?_
  show _ = at2 (argA m c) n.val d.val * at2 (argB m c) n.val (256 * s.val + f.val)
  rw [show 256 * s.val + f.val = s.val * 256 + f.val by omega, at2_of_lt _ n.isLt d.isLt, at2_of_lt _ n.isLt (by omega), mul_comm]

end Cert.Reference18Ideal.PleProj

end
-- ==== Proof.InFwdFrame.lean ====
/- The projection into the mixers, over any values: one point's body as a triple on whole buffers, what every point leaves in
   the output windows and in the buffer it keeps, and the run. At the first shard of a row block the body normalises the rows,
   keeps them and writes them back; at every shard it multiplies the kept rows by that shard's weight. -/
module

public import proofs.«01_k».proof.Proof.Gen.Kernel18Ideal.Frame
public import proofs.«01_k».proof.Proof.Gen.Kernel18Ideal.Skeleton
public import Idealize.ShloMosaic.Lib.Exec
public import Idealize.ShloMosaic.Lib.Pipeline.Value
public import Idealize.ShloMosaic.Lib.Pipeline.FrameBody
public import Idealize.ShloMosaic.Lib.Pipeline.TableIdle
public import Idealize.ShloMosaic.Lib.Claim

@[expose] public section

set_option maxRecDepth 16384

noncomputable section

namespace Cert.Kernel18Ideal.InFwd

open Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := by funext a; fin_cases a <;> rfl

theorem zeros3 : (![0, 0, 0] : Fin 3 → ℕ) = fun _ => 0 := by funext a; fin_cases a <;> rfl

/-- A buffer read after one store over its whole extent is what was stored. -/
theorem read_store {S : Shape} {e : EltTy} (v : View sig .tc .vmem S e) (f) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-- What is kept and what is written back are the same rows. -/
theorem pay2_eq (x : Vec F S1024x1024 .f32) (g : Vec F S1x1024 .f32) : k0_pay2 x g = k0_pay1 x g := shapeCast_self _ _

section

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1x1024x768 .bf16) (harg4 : arg4.IsWhole)
  (arg5 : Memref sig .tc .vmem S1024x768 .f32) (harg5 : arg5.IsWhole)
  (arg6 : Memref sig .tc .vmem S1024x1024 .bf16) (harg6 : arg6.IsWhole)
  (arg7 : Memref sig .tc .vmem S1024x1024 .bf16) (harg7 : arg7.IsWhole)
  (x0 : Vec F S1024x1024 .f32) (x1 : Vec F S1x1024 .f32) (x2 : Vec F S1x1024x768 .bf16)

/-- The body at a row block's first shard. -/
theorem body_first (E : Set ℕ) (K : PUnit → sProp 𝕄) (hc : k0_cond1 i = 1#1) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 x0 x1) x2)
            ∗ owns (c : Thread nD τ) arg6 fullShare (k0_pay2 x0 x1)
            ∗ owns (c : Thread nD τ) arg7 fullShare (k0_pay2 x0 x1)) -∗ K ⟨⟩))
      ⊢ wp frame (wpE (defs₀ (F := F)) Variants.none c none) E
          (cc0_mix_in_proj i arg2 harg2 arg3 harg3 arg4 harg4 arg5 harg5 arg6 harg6 arg7 harg7) K := by
  simp only [cc0_mix_in_proj_eq_skeleton]; unfold cc0_mix_in_proj_skel
  unfold owns
  iintro ⟨⟨%f0, %e0, H0⟩, ⟨%f1, %e1, H1⟩, ⟨%f2, %e2, H2⟩, ⟨%d3, %f3, %e3, H3⟩, ⟨%d4, %f4, %e4, H4⟩, ⟨%d5, %f5, %e5, H5⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store (S := S1024x768) _ _ zeros2]
    simp only [View.readCov_unit_zero (S := S1024x1024) _ zeros2, View.readAt_eq_ld, Memref.IsWhole.read_unread, View.ld_unit_zero (S := S1024x1024) zeros2, View.ld_unit_zero (S := S1x1024) zeros2, View.ld_unit_zero (S := S1x1024x768) zeros3]
  isplitl [H4]
  · iexists _; isplitr; swap; · iexact H4
    ipureintro
    sl_unfold_words
    rw [read_store (S := S1024x1024) _ _ zeros2]
    simp only [View.readAt_eq_ld, Memref.IsWhole.read_unread, View.ld_unit_zero (S := S1024x1024) zeros2, View.ld_unit_zero (S := S1x1024) zeros2]
    exact (pay2_eq x0 x1).symm
  iexists _; isplitr; swap; · iexact H5
  ipureintro
  sl_unfold_words
  rw [read_store (S := S1024x1024) _ _ zeros2]
  simp only [View.readAt_eq_ld, Memref.IsWhole.read_unread, View.ld_unit_zero (S := S1024x1024) zeros2, View.ld_unit_zero (S := S1x1024) zeros2]

/-- The body at a later shard: the rows kept at `h`, the window it does not store into untouched. -/
theorem body_later (E : Set ℕ) (K : PUnit → sProp 𝕄) (hc : ¬k0_cond1 i = 1#1) (y h : Vec F S1024x1024 .bf16) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare y ∗ owns (c : Thread nD τ) arg7 fullShare h
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 h x2)
            ∗ owns (c : Thread nD τ) arg6 fullShare y
            ∗ owns (c : Thread nD τ) arg7 fullShare h) -∗ K ⟨⟩))
      ⊢ wp frame (wpE (defs₀ (F := F)) Variants.none c none) E
          (cc0_mix_in_proj i arg2 harg2 arg3 harg3 arg4 harg4 arg5 harg5 arg6 harg6 arg7 harg7) K := by
  simp only [cc0_mix_in_proj_eq_skeleton]; unfold cc0_mix_in_proj_skel
  unfold owns
  iintro ⟨⟨%f0, %e0, H0⟩, ⟨%f1, %e1, H1⟩, ⟨%f2, %e2, H2⟩, ⟨%d3, %f3, %e3, H3⟩, ⟨%f4, %e4, H4⟩, ⟨%f5, %e5, H5⟩, Hk⟩
  obtain rfl := harg2.eq_unread e0; obtain rfl := harg3.eq_unread e1; obtain rfl := harg4.eq_unread e2
  obtain rfl := harg5.eq_unread e3; obtain rfl := harg6.eq_unread e4; obtain rfl := harg7.eq_unread e5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store (S := S1024x768) _ _ zeros2]
    simp only [View.readAt_eq_ld, Memref.IsWhole.read_unread, View.ld_unit_zero (S := S1024x1024) zeros2, View.ld_unit_zero (S := S1x1024x768) zeros3]
  isplitl [H4]
  · iexists _; isplitr; · ipureintro; exact harg6.read_unread _
    iexact H4
  iexists _; isplitr; · ipureintro; exact harg7.read_unread _
  iexact H5

end

variable (m : (ℓ : Loc nD τ sig) → Buf (Elt F) ℓ) (ρ : Dev nD → PrngReg)

/-- The condition holds at the first shard of each row block. -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The normalised rows kept after point `n`: those of the row block's first point. -/
def kept (c : Dev nD) : (n : ℕ) → n < cfg0.N → Vec F S1024x1024 .bf16
  | 0, h => k0_pay2 (iblk m c 0 ⟨0, h⟩) (iblk m c 1 ⟨0, h⟩)
  | n + 1, h => if (n + 1) % 4 = 0 then k0_pay2 (iblk m c 0 ⟨n + 1, h⟩) (iblk m c 1 ⟨n + 1, h⟩) else kept c n (Nat.lt_of_succ_lt h)

theorem kept_first (c : Dev nD) (t : Fin cfg0.N) (h : t.val % 4 = 0) :
    kept m c t.val t.isLt = k0_pay2 (iblk m c 0 t) (iblk m c 1 t) := by
  obtain ⟨n, hn⟩ := t
  cases n with
  | zero => rfl
  | succ n => unfold kept; rw [if_pos h]

theorem kept_later (c : Dev nD) (t : Fin cfg0.N) (h : ¬t.val % 4 = 0) :
    kept m c t.val t.isLt = kept m c (t.val - 1) (Nat.lt_of_le_of_lt (Nat.sub_le _ _) t.isLt) := by
  obtain ⟨n, hn⟩ := t
  cases n with
  | zero => exact absurd rfl h
  | succ n => show kept m c (n + 1) hn = kept m c n _; rw [kept, if_neg h]

/-- The buffer that keeps the rows. -/
abbrev carH : Memref sig .tc .vmem S1024x1024 .bf16 := Memref.whole cc0_scratch0

/-- What holds between points: the kept rows are the last point's, anything before the first. -/
def inv (c : Dev nD) : (n : ℕ) → n ≤ cfg0.N → sProp 𝕄
  | 0, _ => Pipeline.ΦA spec0 c
  | n + 1, h => iprop(owns (c : Thread nD τ) carH fullShare (kept m c n h) ∗ (∃ r, prngReg c r))

theorem inv_succ (c : Dev nD) (n : ℕ) (h : n < cfg0.N) :
    inv m c (n + 1) h = iprop(owns (c : Thread nD τ) carH fullShare (kept m c n h) ∗ (∃ r, prngReg c r)) := rfl

theorem inv_pos (c : Dev nD) (n : ℕ) (h : n ≤ cfg0.N) (hz : n ≠ 0) :
    inv m c n h = iprop(owns (c : Thread nD τ) carH fullShare (kept m c (n - 1) (by omega)) ∗ (∃ r, prngReg c r)) := by
  cases n with
  | zero => exact absurd rfl hz
  | succ n => rfl

theorem ΦA_eq (c : Dev nD) :
    (Pipeline.ΦA spec0 c : sProp 𝕄) = iprop((∃ d, owns (c : Thread nD τ) carH fullShare d) ∗ (∃ r, prngReg c r)) := by
  unfold Pipeline.ΦA; rw [scopedRest0_eq]; simp only [carH, owns_whole]; try rfl

/-- At any position the buffer is at something. -/
theorem inv_any (c : Dev nD) (n : ℕ) (h : n ≤ cfg0.N) :
    inv m c n h ⊢ iprop((∃ d, owns (c : Thread nD τ) carH fullShare d) ∗ (∃ r, prngReg c r)) := by
  cases n with
  | zero =>
    show Pipeline.ΦA spec0 c ⊢ _
    rw [ΦA_eq]
  | succ n =>
    rw [inv_succ]
    iintro ⟨HH, Hg⟩
    isplitl [HH]
    · iexists _; iexact HH
    iexact Hg

/-- The proof data: every input window at its block, the outputs at the body's terms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t.val t.isLt) (iblk m c 2 t)
    | ⟨4, _⟩ => kept m c t.val t.isLt
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

section

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = k0_pay3 (kept m c t.val t.isLt) (iblk m c 2 t) := by dsimp only [dats]
theorem after_4 : (dats m 0 c).after 4 t = kept m c t.val t.isLt := by dsimp only [dats]

theorem inv_castSucc : (dats m 0 c).Φ t.castSucc = inv m c t.val (Nat.le_of_lt t.isLt) := by
  dsimp only [dats]; exact Pipeline.Dat.Φ_castSucc (inv m c) t

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d

/-- The window of the rows is idle after the first shard. -/
theorem idle_4 : cfg0.idle 4 (grid0.coords t) = true ↔ ¬t.val % 4 = 0 := by
  revert t
  exact (by decide +kernel : ∀ t : Fin grid0.N, idle0 4 (grid0.coords t) = true ↔ ¬t.val % 4 = 0)

theorem fresh_4 (h : ¬t.val % 4 = 0) : cfg0.fresh 4 t.val = false := by
  revert t
  decide +kernel

/-- After the first shard the window of the rows still holds what that one stored. -/
theorem before_4 (h : ¬t.val % 4 = 0) (d) : (dats m 0 c).before 4 t d = kept m c t.val t.isLt := by
  rw [Dat.before_out_traj _ 4 rfl (fun _ _ => rfl) (fun s _ hi _ => by
      rw [after_4, after_4]; exact kept_later m c s ((idle_4 s).mp hi)) t.val t rfl d,
    if_neg (by rw [fresh_4 t h]; exact Bool.false_ne_true), kept_later m c t h]
  dsimp only [dats]

theorem leaves_4_first (h : t.val % 4 = 0) :
    (dats m 0 c).leavesExact 4 t = owns (c : Thread nD τ) (st0_4 t) fullShare ((dats m 0 c).after 4 t) := by
  unfold Dat.leavesExact
  rw [show cfg0.idle 4 (cfg0.grid.coords t) = false from Bool.eq_false_iff.mpr fun hi => (idle_4 t).mp hi h]

theorem leaves_4_later (h : ¬t.val % 4 = 0) :
    owns (c : Thread nD τ) (st0_4 t) fullShare (kept m c t.val t.isLt) ⊢ (dats m 0 c).leavesExact 4 t := by
  unfold Dat.leavesExact
  rw [show cfg0.idle 4 (cfg0.grid.coords t) = true from (idle_4 t).mpr h]
  cases hf : (cfg0.win 4).flush t with
  | true => show _ ⊢ owns (c : Thread nD τ) _ fullShare ((dats m 0 c).after 4 t); rw [after_4]
  | false =>
    show _ ⊢ iprop(∃ d, owns (c : Thread nD τ) _ fullShare ((dats m 0 c).before 4 t d))
    simp only [before_4 m c t h]
    iintro H
    iexists fun _ => Classical.arbitrary _
    iexact H

/-- What the body is called with at a point. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 6400000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = inv m c (t.val + 1) t.isLt from rfl, inv_succ, inv_castSucc]
  rw [show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3]
  by_cases h : t.val % 4 = 0
  · rw [leaves_4_first m c t h, after_4, kept_first m c t h]
    iintro ⟨HΦ, Ho, ⟨%d0, H0⟩, ⟨%d1, H1⟩, ⟨%d2, H2⟩, ⟨%d3, H3⟩, ⟨%d4, H4⟩⟩
    ihave HΦ := (inv_any m c t.val _) $$ HΦ
    icases HΦ with ⟨HH, Hg⟩
    iapply (body_first c (grid0.coords t) _ _ _ _ _ _ _ _ _ _ _ _ (iblk m c 0 t) (iblk m c 1 t) (iblk m c 2 t) Set.univ _ ((cond1_iff t).mpr h))
    isplitl [H0]; · iexact H0
    isplitl [H1]; · iexact H1
    isplitl [H2]; · iexact H2
    isplitl [H3]; · iexists _; iexact H3
    isplitl [H4]; · iexists _; iexact H4
    isplitl [HH]; · iexact HH
    iintro ⟨H0, H1, H2, H3, H4, HH⟩
    isplitl [HH Hg]
    · isplitl [HH]; · iexact HH
      iexact Hg
    isplitl [Ho]; · iexact Ho
    isplitl [H0]; · iexact H0
    isplitl [H1]; · iexact H1
    isplitl [H2]; · iexact H2
    isplitl [H3]; · iexact H3
    iexact H4
  · rw [inv_pos m c _ _ (fun hz => h (by omega)), ← kept_later m c t h]
    simp only [before_4 m c t h]
    iintro ⟨⟨HH, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (iblk m c 0 t) (iblk m c 1 t) (iblk m c 2 t) Set.univ _ (fun hc => h ((cond1_iff t).mp hc)) (kept m c t.val t.isLt) (kept m c t.val t.isLt))
    isplitl [H0]; · iexact H0
    isplitl [H1]; · iexact H1
    isplitl [H2]; · iexact H2
    isplitl [H3]; · iexists _; iexact H3
    isplitl [H4]; · iexact H4
    isplitl [HH]; · iexact HH
    iintro ⟨H0, H1, H2, H3, H4, HH⟩
    isplitl [HH Hg]
    · isplitl [HH]; · iexact HH
      iexact Hg
    isplitl [Ho]; · iexact Ho
    isplitl [H0]; · iexact H0
    isplitl [H1]; · iexact H1
    isplitl [H2]; · iexact H2
    isplitl [H3]; · iexact H3
    iapply (leaves_4_later m c t h); iexact H4

end

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

theorem inv_out (c : Dev nD) : (dats m 0 c).Φ (Fin.last cfg0.N) ⊢ Pipeline.ΦA spec0 c := by
  rw [ΦA_eq]
  exact inv_any m c cfg0.N (Nat.le_refl _)

set_option backward.isDefEq.respectTransparency.types false in
/-- The launch ends with every window's array at what the points wrote back, and the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := inv_out m)

/-- The run with each output array after it named, the arguments as launched. -/
theorem run_blocks : θ_run defs (onTc (τ := τ) (main (F := F))) ⟨m, fun _ => 0, ρ⟩ (fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).1 3, (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run_main m ρ)

/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel18Ideal.InFwd

end
-- ==== Proof.InFwdArrays.lean ====
/- The projection into the mixers: what the call's grid leaves in its two output arrays, over the extended reals. Four points (one
   per shard of the weight) make one block of 1024 tokens; eight blocks make the arrays. -/
module

public import proofs.«01_k».proof.Proof.InFwdFrame
public import proofs.«01_k».proof.Proof.Arrays
public import Idealize.ShloMosaic.Lib.Pipeline.ValueKit

@[expose] public section

set_option maxRecDepth 16384

noncomputable section

namespace Cert.Kernel18Ideal.InFwd

open Cert.Kernel18Ideal Cert.Kernel18Ideal.Gen Cert.Arrays Idealize.ShloMosaic Idealize.ShloMosaic.TcCoe Idealize.SL.Sem

variable (m : (ℓ : Loc nD τ sig) → Buf (Elt Ideal) ℓ) (c : Dev nD)

/-- The arguments as arrays of extended reals. -/
def argX : Shape.Idx ⟨2, ![8192, 1024]⟩ → EReal := m ((c : Thread nD τ).loc main_arg0)
def argN : Shape.Idx ⟨2, ![1, 1024]⟩ → EReal := m ((c : Thread nD τ).loc main_arg1)
def argW : Shape.Idx ⟨3, ![4, 1024, 768]⟩ → EReal := m ((c : Thread nD τ).loc main_arg2)

theorem lt32 (t : Fin cfg0.N) : t.val < 32 := lt_of_lt_of_eq t.isLt N_0

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val / 4, t.val % 4] := (by decide +kernel : ∀ t : Fin grid0.N, _)
theorem idx4 : ∀ t : Fin cfg0.N, win0_4.index t = ![t.val / 4, 0] := (by decide +kernel : ∀ t : Fin grid0.N, _)

theorem read0 (t : Fin cfg0.N) (r : Fin 1024) (l : Fin 1024) :
    iblk m c 0 t (ix2 r l) = at2 (argX m c) (1024 * (t.val / 4) + r.val) l.val := by
  have := lt32 t
  rw [at2_of_lt _ (by omega) (by omega)]
  unfold argX
  blk_ext [iblk, V_main_arg0, idx0 t]
theorem read1 (t : Fin cfg0.N) (r : Fin 1) (l : Fin 1024) :
    iblk m c 1 t (ix2 r l) = at2 (argN m c) 0 l.val := by
  have := lt32 t
  rw [at2_of_lt _ (by omega) (by omega)]
  unfold argN
  blk_ext [iblk, V_main_arg1, idx1 t]
theorem read2 (t : Fin cfg0.N) (z : Fin 1) (r : Fin 1024) (l : Fin 768) :
    iblk m c 2 t (ix3 z r l) = at3 (argW m c) (t.val % 4) r.val l.val := by
  have := lt32 t
  rw [at3_of_lt _ (by omega) (by omega) (by omega)]
  unfold argW
  blk_ext [iblk, V_main_arg2, idx2 t]

/-- The reciprocal of the root of a token's mean square. -/
def rms (n : Nat) : EReal :=
  Ideal.rsqrt (Ideal.div (∑ k : Fin 1024, at2 (argX m c) n k.val * at2 (argX m c) n k.val) (Ideal.ofBits .f32 0x44800000#32)
    + Ideal.ofBits .f32 0x358637BD#32)

/-- The normed and scaled rows. -/
def hid (n d : Nat) : EReal := at2 (argX m c) n d * rms m c n * at2 (argN m c) 0 d

/-- Their product with the weight of one shard. -/
def prod (n s f : Nat) : EReal := ∑ d : Fin 1024, hid m c n d.val * at3 (argW m c) s d.val f

/-- The two arrays: the products side by side, one shard's columns after the other's, and the rows. -/
def P (i : S8192x3072.Idx) : EReal := prod m c (i 0).val ((i 1).val / 768) ((i 1).val % 768)
def H (i : S8192x1024.Idx) : EReal := hid m c (i 0).val (i 1).val

theorem kept_at : ∀ (n : ℕ) (h : n < cfg0.N) (r d : Fin 1024),
    kept m c n h (ix2 r d) = hid m c (1024 * (n / 4) + r.val) d.val
  | n, h, r, d => by
    by_cases h0 : n % 4 = 0
    · rw [kept_first m c ⟨n, h⟩ h0, pay2_eq]
      pointwise [k0_pay1]
      simp only [read0, read1]
      rfl
    · rw [kept_later m c ⟨n, h⟩ h0]
      refine (kept_at (n - 1) _ r d).trans ?_
      rw [show (n - 1) / 4 = n / 4 by omega]
  termination_by n => n
  decreasing_by omega

theorem arr_p : (dats m 0 c).arrAt 3 cfg0.N = P m c := by
  refine (dats m 0 c).arrAt_eq_of_covers 3 _ (by decide +kernel) fun t hf y => ?_
  blk_simp
  rw [after_3]
  obtain ⟨r, f, rfl⟩ : ∃ (r : Fin 1024) (f : Fin 768), y = ix2 r f := ⟨_, _, eq_ix2 y⟩
  have h0 : (((win0_3.blk t).view.emb (ix2 r f) : S8192x3072.Idx) 0).val = 1024 * (t.val / 4) + r.val := by
    blk_simp [idx3 t]
    omega
  have h1 : (((win0_3.blk t).view.emb (ix2 r f) : S8192x3072.Idx) 1).val = 768 * (t.val % 4) + f.val := by
    blk_simp [idx3 t]
    omega
  have hs := f.isLt
  show _ = P m c ((win0_3.blk t).view.emb (ix2 r f))
  unfold P
  rw [h0, h1, show (768 * (t.val % 4) + f.val) / 768 = t.val % 4 by omega, show (768 * (t.val % 4) + f.val) % 768 = f.val by omega]
  pointwise [k0_pay3]
  simp only [kept_at, read2]
  rfl

theorem arr_h : (dats m 0 c).arrAt 4 cfg0.N = H m c := by
  refine (dats m 0 c).arrAt_eq_of_covers 4 _ (by decide +kernel) fun t hf y => ?_
  blk_simp
  rw [after_4]
  obtain ⟨r, d, rfl⟩ : ∃ (r d : Fin 1024), y = ix2 r d := ⟨_, _, eq_ix2 y⟩
  have h0 : (((win0_4.blk t).view.emb (ix2 r d) : S8192x1024.Idx) 0).val = 1024 * (t.val / 4) + r.val := by
    blk_simp [idx4 t]
    omega
  have h1 : (((win0_4.blk t).view.emb (ix2 r d) : S8192x1024.Idx) 1).val = d.val := by
    blk_simp [idx4 t]
  show _ = H m c ((win0_4.blk t).view.emb (ix2 r d))
  unfold H
  rw [h0, h1]
  exact kept_at m c _ _ r d

end Cert.Kernel18Ideal.InFwd

end
-- ==== Proof.InFwdRef.lean ====
/- The norm and the projection into the mixers written plainly, at an index. -/
module

public import proofs.«01_k».proof.Proof.InFwdArrays
public import proofs.«01_k».proof.Proof.Gen.Reference19Ideal.Run
public import proofs.«01_k».proof.Proof.Gen.Reference19Ideal.Read

@[expose] public section

set_option maxRecDepth 16384

noncomputable section

namespace Cert.Reference19Ideal.InFwd

open Cert.Reference19Ideal Cert.Reference19Ideal.Gen Cert.Reference19Ideal.Read Cert.Arrays Idealize.ShloMosaic Idealize.ShloMosaic.TcCoe
  Idealize.SL.Sem

open Cert.Kernel18Ideal.InFwd

variable (m : (ℓ : Loc Cert.Kernel18Ideal.nD Cert.Kernel18Ideal.τ Cert.Kernel18Ideal.sig) → Buf (Elt Ideal) ℓ)
  (c : Dev Cert.Kernel18Ideal.nD)

theorem ref_hid (n : Fin 8192) (d : Fin 1024) : val_main_v11 (F := Ideal) (argX m c) (argN m c) (ix2 n d) = hid m c n.val d.val := by
  pointwise [val_main_v11, val_main_v10, val_main_v9, val_main_v8, val_main_v7, val_main_v6,
    val_main_v5, val_main_v4, val_main_v3, val_main_v2, val_main_v1, val_main_v0, val_main_cst, val_main_cst_0, val_main_cst_1]
  unfold hid rms
  simp only [at2_of_lt _ n.isLt (Fin.isLt _), at2_of_lt (argN m c) Nat.zero_lt_one (Fin.isLt _)]
  rfl

theorem ref_prod (n : Fin 8192) (s : Fin 4) (f : Fin 768) :
    val_main_v13 (F := Ideal) (argX m c) (argN m c) (argW m c) (ix3 n s f) = prod m c n.val s.val f.val := by
  pointwise [val_main_v13, val_main_v12]
  simp only [ref_hid]
  unfold prod
  refine Finset.sum_congr rfl fun d _ => ?_
  rw [at3_of_lt _ s.isLt d.isLt f.isLt]

theorem ref_p (n : Fin 8192) (k : Fin 3072) :
    val_main_v14 (F := Ideal) (argX m c) (argN m c) (argW m c) (ix2 n k) = P m c (ix2 n k) := by
  have hn := n.isLt
  have hk := k.isLt
  rw [val_main_v14_apply]
  refine (congrArg (val_main_v13 (F := Ideal) (argX m c) (argN m c) (argW m c)) (?_ : idx_main_v14 (ix2 n k)
    = ix3 n ⟨k.val / 768, by omega⟩ ⟨k.val % 768, by omega⟩)).trans (ref_prod m c n _ _)
  funext a
  refine Fin.ext ?_
  match a with
  | ⟨0, _⟩ => show (n.val * 3072 + k.val) / 3072 = n.val; omega
  | ⟨1, _⟩ => show (n.val * 3072 + k.val) / 768 % 4 = k.val / 768; omega
  | ⟨2, _⟩ => show (n.val * 3072 + k.val) % 768 = k.val % 768; omega

theorem ref_h (n : Fin 8192) (d : Fin 1024) : val_main_v15 (F := Ideal) (argX m c) (argN m c) (ix2 n d) = H m c (ix2 n d) := by
  pointwise [val_main_v15]
  rw [ref_hid]
  rfl

end Cert.Reference19Ideal.InFwd

end
-- ==== Proof.PleHeadBlocks.lean ====
/- What one grid point of the loss head and its gradients writes, as the kernel's own payloads at the point's input blocks:
   the blocks of the gradients and of the normed input, and the running sums of the loss and of the gain's gradient. Over any
   float model. -/
module

public import proofs.«01_k».proof.Proof.Gen.Kernel19Ideal.Value
public import Idealize.ShloMosaic.Lib.Tactic

@[expose] public section

set_option maxRecDepth 16384

noncomputable section

namespace Cert.Kernel19Ideal.PleHead

open Cert.Kernel19Ideal Cert.Kernel19Ideal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := by decide

/-- What the point before left. -/
abbrev before (c : Dev nD) (t : Fin cfg0.N) := outsAt0 m c (t.val - 1) (Nat.lt_of_le_of_lt (Nat.sub_le _ _) t.isLt)

/-- The four slices of the projection's weight. -/
def w0 (c : Dev nD) (t : Fin cfg0.N) : Vec F S1x256x256 .bf16 :=
  View.ld (iblk m c 5 t) (Rect.unit (s := S4x256x256) ![0, 0, 0] S1x256x256.size inb_S4x256x256_S1x256x256_0_0_0)
def w1 (c : Dev nD) (t : Fin cfg0.N) : Vec F S1x256x256 .bf16 :=
  View.ld (iblk m c 5 t) (Rect.unit (s := S4x256x256) ![1, 0, 0] S1x256x256.size inb_S4x256x256_S1x256x256_1_0_0)
def w2 (c : Dev nD) (t : Fin cfg0.N) : Vec F S1x256x256 .bf16 :=
  View.ld (iblk m c 5 t) (Rect.unit (s := S4x256x256) ![2, 0, 0] S1x256x256.size inb_S4x256x256_S1x256x256_2_0_0)
def w3 (c : Dev nD) (t : Fin cfg0.N) : Vec F S1x256x256 .bf16 :=
  View.ld (iblk m c 5 t) (Rect.unit (s := S4x256x256) ![3, 0, 0] S1x256x256.size inb_S4x256x256_S1x256x256_3_0_0)

/-- The gate. -/
def gateBlk (c : Dev nD) (t : Fin cfg0.N) : FVec F S512x1024 .f32 := k0_pay9 (iblk m c 0 t) (iblk m c 3 t) (iblk m c 4 t)

/-- The projected embedding: the four products side by side. -/
def projBlk (c : Dev nD) (t : Fin cfg0.N) : FVec F S512x1024 .f32 :=
  k0_pay13 (k0_pay10 (iblk m c 1 t)) (k0_pay11 (iblk m c 1 t) (w0 m c t)) (k0_pay12 (iblk m c 1 t) (w1 m c t)) (w2 m c t) (w3 m c t)

/-- The loss's gradient in the head's output. -/
def dyBlk (c : Dev nD) (t : Fin cfg0.N) : FVec F S512x1024 .f32 :=
  k0_pay16 (iblk m c 0 t) (gateBlk m c t) (k0_pay10 (iblk m c 1 t)) (k0_pay11 (iblk m c 1 t) (w0 m c t))
    (k0_pay12 (iblk m c 1 t) (w1 m c t)) (w2 m c t) (w3 m c t) (iblk m c 2 t)

def duBlk (c : Dev nD) (t : Fin cfg0.N) : FVec F S512x1024 .bf16 :=
  k0_pay17 (iblk m c 0 t) (gateBlk m c t) (k0_pay10 (iblk m c 1 t)) (k0_pay11 (iblk m c 1 t) (w0 m c t))
    (k0_pay12 (iblk m c 1 t) (w1 m c t)) (w2 m c t) (w3 m c t) (iblk m c 2 t)

def dppBlk (c : Dev nD) (t : Fin cfg0.N) : FVec F S512x1024 .bf16 :=
  k0_pay18 (iblk m c 0 t) (gateBlk m c t) (k0_pay10 (iblk m c 1 t)) (k0_pay11 (iblk m c 1 t) (w0 m c t))
    (k0_pay12 (iblk m c 1 t) (w1 m c t)) (w2 m c t) (w3 m c t) (iblk m c 2 t)

def dxBlk (c : Dev nD) (t : Fin cfg0.N) : FVec F S512x1024 .f32 :=
  k0_pay2 (iblk m c 3 t) (k0_pay6 (iblk m c 0 t)) (k0_pay7 (iblk m c 0 t)) (dyBlk m c t) (duBlk m c t) (iblk m c 4 t)
    (constant S512x1024 .f32 0x00000000#32)

/-- The running sum of the loss after a point that found it at `acc`. -/
def lossBlk (c : Dev nD) (t : Fin cfg0.N) (acc : Vec F S8x128 .f32) : FVec F S8x128 .f32 :=
  k0_pay15 (iblk m c 0 t) (gateBlk m c t) (k0_pay10 (iblk m c 1 t)) (k0_pay11 (iblk m c 1 t) (w0 m c t))
    (k0_pay12 (iblk m c 1 t) (w1 m c t)) (w2 m c t) (w3 m c t) (iblk m c 2 t) acc

/-- The running sum of the gain's gradient after a point that found it at `acc`. -/
def dgBlk (c : Dev nD) (t : Fin cfg0.N) (acc : Vec F S8x1024 .f32) : FVec F S8x1024 .f32 :=
  k0_pay3 (k0_pay7 (iblk m c 0 t)) (duBlk m c t) (iblk m c 4 t) (constant S512x1024 .f32 0x00000000#32) acc

/-- Every point writes the block of the gradient of the input. -/
theorem outs_dx (c : Dev nD) (t : Fin cfg0.N) : (outsAt0 m c t.val t.isLt).1 = dxBlk m c t := by
  by_cases h0 : t.val % 16 = 0
  · rw [outsAt0_A m c t h0]
    dsimp only
    unfold out0_A_6
    rw [View.read_writes_eq_canon _ _ _ (fun y => cover0_A_6 _ _ _ _ _ _ _ _ _ _ _ _ _ _ _ _ _ _ _ _ _ _ _ _ _ _ _ _ _ _ _ _ _ y)]
    unfold kernelRun0_A
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl
  · rw [outsAt0_B m c t h0]
    dsimp only
    unfold out0_B_6
    rw [View.read_writes_eq_canon _ _ _ (fun y => cover0_B_6 _ _ _ _ _ _ _ _ _ _ _ _ _ _ _ _ _ _ _ _ _ _ _ _ _ _ _ _ _ _ _ _ _ _ _ y)]
    unfold kernelRun0_B
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

/-- Every point writes the block of the normed and scaled input. -/
theorem outs_h (c : Dev nD) (t : Fin cfg0.N) : (outsAt0 m c t.val t.isLt).2.1 = k0_pay8 (iblk m c 0 t) (iblk m c 3 t) := by
  by_cases h0 : t.val % 16 = 0
  · rw [outsAt0_A m c t h0]
    dsimp only
    unfold out0_A_7
    rw [View.read_writes_eq_canon _ _ _ (fun y => cover0_A_7 _ _ _ _ _ _ _ _ _ _ _ _ _ _ _ _ _ _ _ _ _ _ _ _ _ _ _ _ _ _ _ _ _ y)]
    unfold kernelRun0_A
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
  · rw [outsAt0_B m c t h0]
    dsimp only
    unfold out0_B_7
    rw [View.read_writes_eq_canon _ _ _ (fun y => cover0_B_7 _ _ _ _ _ _ _ _ _ _ _ _ _ _ _ _ _ _ _ _ _ _ _ _ _ _ _ _ _ _ _ _ _ _ _ y)]
    unfold kernelRun0_B
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]

/-- Every point writes the block of the gradient of the gate's product. -/
theorem outs_du (c : Dev nD) (t : Fin cfg0.N) : (outsAt0 m c t.val t.isLt).2.2.1 = duBlk m c t := by
  by_cases h0 : t.val % 16 = 0
  · rw [outsAt0_A m c t h0]
    dsimp only
    unfold out0_A_8
    rw [View.read_writes_eq_canon _ _ _ (fun y => cover0_A_8 _ _ _ _ _ _ _ _ _ _ _ _ _ _ _ _ _ _ _ _ _ _ _ _ _ _ _ _ _ _ _ _ _ y)]
    unfold kernelRun0_A
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl
  · rw [outsAt0_B m c t h0]
    dsimp only
    unfold out0_B_8
    rw [View.read_writes_eq_canon _ _ _ (fun y => cover0_B_8 _ _ _ _ _ _ _ _ _ _ _ _ _ _ _ _ _ _ _ _ _ _ _ _ _ _ _ _ _ _ _ _ _ _ _ y)]
    unfold kernelRun0_B
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

/-- Every point writes the block of the gradient of the projected embedding. -/
theorem outs_dpp (c : Dev nD) (t : Fin cfg0.N) : (outsAt0 m c t.val t.isLt).2.2.2.1 = dppBlk m c t := by
  by_cases h0 : t.val % 16 = 0
  · rw [outsAt0_A m c t h0]
    dsimp only
    unfold out0_A_9
    rw [View.read_writes_eq_canon _ _ _ (fun y => cover0_A_9 _ _ _ _ _ _ _ _ _ _ _ _ _ _ _ _ _ _ _ _ _ _ _ _ _ _ _ _ _ _ _ _ _ y)]
    unfold kernelRun0_A
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl
  · rw [outsAt0_B m c t h0]
    dsimp only
    unfold out0_B_9
    rw [View.read_writes_eq_canon _ _ _ (fun y => cover0_B_9 _ _ _ _ _ _ _ _ _ _ _ _ _ _ _ _ _ _ _ _ _ _ _ _ _ _ _ _ _ _ _ _ _ _ _ y)]
    unfold kernelRun0_B
    dsimp only
    sl_unfold_words
    rw [View.canon_unit_zero (S := S512x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

/-- The first point starts the sums of the loss at zero and adds its part. -/
theorem outs_loss_first (c : Dev nD) (t : Fin cfg0.N) (h0 : t.val % 16 = 0) :
    (outsAt0 m c t.val t.isLt).2.2.2.2.1 = lossBlk m c t (k0_pay4 (F := F)) := by
    rw [outsAt0_A m c t h0]
    dsimp only
    unfold out0_A_10
    rw [View.read_writes_eq_canon _ _ _ (fun y => cover0_A_10 _ _ _ _ _ _ _ _ _ _ _ _ _ _ _ _ _ _ _ _ _ _ _ _ _ _ _ _ _ _ _ _ _ y)]
    unfold kernelRun0_A
    dsimp only
    sl_unfold_words
    rw [View.canon_cons_unit_zero (S := S8x128) hz, View.readCov_unit_zero (S := S8x128) _ hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

/-- Every later point adds its part to what the point before left. -/
theorem outs_loss_next (c : Dev nD) (t : Fin cfg0.N) (h0 : ¬ t.val % 16 = 0) :
    (outsAt0 m c t.val t.isLt).2.2.2.2.1 = lossBlk m c t (before m c t).2.2.2.2.1 := by
    rw [outsAt0_B m c t h0]
    dsimp only
    unfold out0_B_10
    rw [View.read_writes_eq_canon _ _ _ (fun y => cover0_B_10 _ _ _ _ _ _ _ _ _ _ _ _ _ _ _ _ _ _ _ _ _ _ _ _ _ _ _ _ _ _ _ _ _ _ _ y)]
    unfold kernelRun0_B
    dsimp only
    sl_unfold_words
    rw [View.canon_unit_zero (S := S8x128) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

/-- The first point starts the sums of the gain's gradient at zero and adds its part. -/
theorem outs_dg_first (c : Dev nD) (t : Fin cfg0.N) (h0 : t.val % 16 = 0) :
    (outsAt0 m c t.val t.isLt).2.2.2.2.2 = dgBlk m c t (k0_pay5 (F := F)) := by
    rw [outsAt0_A m c t h0]
    dsimp only
    unfold out0_A_11
    rw [View.read_writes_eq_canon _ _ _ (fun y => cover0_A_11 _ _ _ _ _ _ _ _ _ _ _ _ _ _ _ _ _ _ _ _ _ _ _ _ _ _ _ _ _ _ _ _ _ y)]
    unfold kernelRun0_A
    dsimp only
    sl_unfold_words
    rw [View.canon_cons_unit_zero (S := S8x1024) hz, View.readCov_unit_zero (S := S8x1024) _ hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

/-- Every later point adds its part to what the point before left. -/
theorem outs_dg_next (c : Dev nD) (t : Fin cfg0.N) (h0 : ¬ t.val % 16 = 0) :
    (outsAt0 m c t.val t.isLt).2.2.2.2.2 = dgBlk m c t (before m c t).2.2.2.2.2 := by
    rw [outsAt0_B m c t h0]
    dsimp only
    unfold out0_B_11
    rw [View.read_writes_eq_canon _ _ _ (fun y => cover0_B_11 _ _ _ _ _ _ _ _ _ _ _ _ _ _ _ _ _ _ _ _ _ _ _ _ _ _ _ _ _ _ _ _ _ _ _ y)]
    unfold kernelRun0_B
    dsimp only
    sl_unfold_words
    rw [View.canon_unit_zero (S := S8x1024) hz]
    simp only [View.readAt_eq_ld, Memref.IsWhole.read_unread, View.ld_unit_zero (S := S512x1024) hz, View.ld_unit_zero (S := S512x256) hz,
      View.ld_unit_zero (S := S1x1024) hz, View.ld_unit_zero (S := S1024x1024) hz, View.ld_unit_zero (S := S8x128) hz,
      View.ld_unit_zero (S := S8x1024) hz, shapeCast_self]
    rfl

end Cert.Kernel19Ideal.PleHead

end
-- ==== Proof.PleHeadArrays.lean ====
/- The loss head and its gradients: what the call's grid leaves in its six output arrays, over the extended reals. A point makes
   512 tokens; sixteen points make the arrays, and the sums of the loss and of the gain's gradient run over them. -/
module

public import proofs.«01_k».proof.Proof.PleHeadBlocks
public import proofs.«01_k».proof.Proof.Arrays
public import Idealize.ShloMosaic.Lib.Pipeline.ValueKit

@[expose] public section

set_option maxRecDepth 16384

noncomputable section

namespace Cert.Kernel19Ideal.PleHead

open Cert.Kernel19Ideal Cert.Kernel19Ideal.Gen Cert.Arrays Idealize.ShloMosaic Idealize.ShloMosaic.TcCoe Idealize.SL.Sem

variable (m : (ℓ : Loc nD τ sig) → Buf (Elt Ideal) ℓ) (c : Dev nD)

/-- The arguments as arrays of extended reals. -/
def argX : Shape.Idx ⟨2, ![8192, 1024]⟩ → EReal := m ((c : Thread nD τ).loc main_arg0)
def argP : Shape.Idx ⟨2, ![8192, 256]⟩ → EReal := m ((c : Thread nD τ).loc main_arg1)
def argT : Shape.Idx ⟨2, ![8192, 1024]⟩ → EReal := m ((c : Thread nD τ).loc main_arg2)
def argN : Shape.Idx ⟨2, ![1, 1024]⟩ → EReal := m ((c : Thread nD τ).loc main_arg3)
def argG : Shape.Idx ⟨2, ![1024, 1024]⟩ → EReal := m ((c : Thread nD τ).loc main_arg4)
def argW : Shape.Idx ⟨3, ![4, 256, 256]⟩ → EReal := m ((c : Thread nD τ).loc main_arg5)

theorem lt16 (t : Fin cfg0.N) : t.val < 16 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem read0 (t : Fin cfg0.N) (r : Fin 512) (l : Fin 1024) :
    iblk m c 0 t (ix2 r l) = at2 (argX m c) (512 * t.val + r.val) l.val := by
  have := lt16 t
  rw [at2_of_lt _ (by omega) (by omega)]
  unfold argX
  blk_ext [iblk, V_main_arg0, idx0 t]
theorem read1 (t : Fin cfg0.N) (r : Fin 512) (l : Fin 256) :
    iblk m c 1 t (ix2 r l) = at2 (argP m c) (512 * t.val + r.val) l.val := by
  have := lt16 t
  rw [at2_of_lt _ (by omega) (by omega)]
  unfold argP
  blk_ext [iblk, V_main_arg1, idx1 t]
theorem read2 (t : Fin cfg0.N) (r : Fin 512) (l : Fin 1024) :
    iblk m c 2 t (ix2 r l) = at2 (argT m c) (512 * t.val + r.val) l.val := by
  have := lt16 t
  rw [at2_of_lt _ (by omega) (by omega)]
  unfold argT
  blk_ext [iblk, V_main_arg2, idx2 t]
theorem read3 (t : Fin cfg0.N) (r : Fin 1) (l : Fin 1024) :
    iblk m c 3 t (ix2 r l) = at2 (argN m c) (0) l.val := by
  have := lt16 t
  rw [at2_of_lt _ (by omega) (by omega)]
  unfold argN
  blk_ext [iblk, V_main_arg3, idx3 t]
theorem read4 (t : Fin cfg0.N) (r : Fin 1024) (l : Fin 1024) :
    iblk m c 4 t (ix2 r l) = at2 (argG m c) (r.val) l.val := by
  have := lt16 t
  rw [at2_of_lt _ (by omega) (by omega)]
  unfold argG
  blk_ext [iblk, V_main_arg4, idx4 t]
theorem read5 (t : Fin cfg0.N) (s : Fin 4) (r : Fin 256) (l : Fin 256) :
    iblk m c 5 t (ix3 s r l) = at3 (argW m c) s.val r.val l.val := by
  rw [at3_of_lt _ (by omega) (by omega) (by omega)]
  unfold argW
  blk_ext [iblk, V_main_arg5, idx5 t]

/-- The reciprocal of the root of a token's mean square. -/
def rms (n : Nat) : EReal :=
  Ideal.rsqrt (Ideal.div (∑ k : Fin 1024, at2 (argX m c) n k.val * at2 (argX m c) n k.val) (Ideal.ofBits .f32 0x44800000#32)
    + Ideal.ofBits .f32 0x358637BD#32)

/-- The normed and scaled input. -/
def hid (n d : Nat) : EReal := at2 (argX m c) n d * rms m c n * at2 (argN m c) 0 d

/-- The gate. -/
def gate (n d : Nat) : EReal := Ideal.logistic (∑ k : Fin 1024, hid m c n k.val * at2 (argG m c) k.val d)

/-- The projected embedding: column `256 s + l` is column `l` of shard `s`. -/
def proj (n d : Nat) : EReal := ∑ k : Fin 256, at2 (argP m c) n k.val * at3 (argW m c) (d / 256) k.val (d % 256)

/-- What the head's output misses the target by. -/
def err (n d : Nat) : EReal := at2 (argX m c) n d + gate m c n d * proj m c n d - at2 (argT m c) n d

/-- The loss's gradient in the head's output. -/
def dy (n d : Nat) : EReal := err m c n d * Ideal.ofBits .f32 0x3A800000#32

/-- The gradient of the gate's product. -/
def du (n d : Nat) : EReal := dy m c n d * proj m c n d * (gate m c n d * (1 - gate m c n d))

/-- The gradient of the normed and scaled input. -/
def dh (n d : Nat) : EReal := ∑ k : Fin 1024, du m c n k.val * at2 (argG m c) d k.val

/-- The gradient of the input. -/
def dx (n d : Nat) : EReal :=
  dy m c n d + rms m c n * (dh m c n d * at2 (argN m c) 0 d
    - at2 (argX m c) n d * rms m c n * Ideal.div (∑ k : Fin 1024, dh m c n k.val * at2 (argN m c) 0 k.val
        * (at2 (argX m c) n k.val * rms m c n)) (Ideal.ofBits .f32 0x44800000#32))

/-- What 512 tokens add to the loss. -/
def lossPart (b : Nat) : EReal :=
  Ideal.ofBits .f32 0x3A000000#32 * ∑ r : Fin 512, ∑ k : Fin 1024,
    err m c (512 * b + r.val) k.val * err m c (512 * b + r.val) k.val

/-- What 512 tokens add to the gain's gradient. -/
def dgPart (b d : Nat) : EReal :=
  ∑ r : Fin 512, dh m c (512 * b + r.val) d * (at2 (argX m c) (512 * b + r.val) d * rms m c (512 * b + r.val))

def DX (i : S8192x1024.Idx) : EReal := dx m c (i 0).val (i 1).val
def H (i : S8192x1024.Idx) : EReal := hid m c (i 0).val (i 1).val
def DU (i : S8192x1024.Idx) : EReal := du m c (i 0).val (i 1).val
def DQ (i : S8192x1024.Idx) : EReal := dy m c (i 0).val (i 1).val * gate m c (i 0).val (i 1).val
def LOSS (_ : S8x128.Idx) : EReal := ∑ b : Fin 16, lossPart m c b.val
def DG (i : S8x1024.Idx) : EReal :=
  ∑ n : Fin 8192, dh m c n.val (i 1).val * (at2 (argX m c) n.val (i 1).val * rms m c n.val)

theorem rms_at (t : Fin cfg0.N) (r : Fin 512) (z : Fin 1) :
    k0_pay6 (iblk m c 0 t) (ix2 r z) = rms m c (512 * t.val + r.val) := by
  pointwise [k0_pay6]
  simp only [read0]
  rfl

theorem xn_at (t : Fin cfg0.N) (r : Fin 512) (d : Fin 1024) :
    k0_pay7 (iblk m c 0 t) (ix2 r d) = at2 (argX m c) (512 * t.val + r.val) d.val * rms m c (512 * t.val + r.val) := by
  pointwise [k0_pay7]
  rw [read0, rms_at]

theorem h_at (t : Fin cfg0.N) (r : Fin 512) (d : Fin 1024) :
    k0_pay8 (iblk m c 0 t) (iblk m c 3 t) (ix2 r d) = hid m c (512 * t.val + r.val) d.val := by
  pointwise [k0_pay8]
  rw [xn_at, read3]
  rfl

theorem gate_at (t : Fin cfg0.N) (r : Fin 512) (d : Fin 1024) :
    gateBlk m c t (ix2 r d) = gate m c (512 * t.val + r.val) d.val := by
  unfold gateBlk
  pointwise [k0_pay9]
  simp only [h_at, read4]
  rfl

/-- The four slices of the projection's weight, by number. -/
def wSlice (t : Fin cfg0.N) : Fin 4 → Vec Ideal S1x256x256 .bf16 := ![w0 m c t, w1 m c t, w2 m c t, w3 m c t]

theorem wSlice_at (t : Fin cfg0.N) (s : Fin 4) (k l : Fin 256) :
    wSlice m c t s (ix3 0 k l) = at3 (argW m c) s.val k.val l.val := by
  rw [← read5 m c t]
  match s with
  | ⟨0, _⟩ | ⟨1, _⟩ | ⟨2, _⟩ | ⟨3, _⟩ =>
    refine congrArg (iblk m c 5 t) (funext fun a => Fin.ext ?_)
    match a with
    | ⟨0, _⟩ => rfl
    | ⟨1, _⟩ => show 0 + 1 * k.val = k.val; omega
    | ⟨2, _⟩ => show 0 + 1 * l.val = l.val; omega

theorem piece_at (t : Fin cfg0.N) (s : Fin 4) (r : Fin 512) (l : Fin 256) :
    k0_pay11 (iblk m c 1 t) (wSlice m c t s) (ix2 r l)
      = ∑ k : Fin 256, at2 (argP m c) (512 * t.val + r.val) k.val * at3 (argW m c) s.val k.val l.val := by
  pointwise [k0_pay11, k0_pay10]
  simp only [read1, wSlice_at]

theorem proj_at (t : Fin cfg0.N) (r : Fin 512) (d : Fin 1024) :
    projBlk m c t (ix2 r d) = proj m c (512 * t.val + r.val) d.val := by
  have hd := d.isLt
  refine (concatenate_ofFn_apply (t := S512x1024) (s₁ := S512x256) 1 (fun s : Fin 4 => k0_pay11 (iblk m c 1 t) (wSlice m c t s))
    concatenates_S512x256_S512x256_S512x256_S512x256_S512x1024_d1 rfl 256 rfl (ix2 r d) ⟨d.val / 256, by omega⟩ rfl
    (ix2 r ⟨d.val % 256, Nat.mod_lt _ (by omega)⟩) rfl fun b hb => ?_).trans ?_
  · match b with
    | ⟨0, _⟩ => rfl
    | ⟨1, _⟩ => exact absurd rfl hb
  · exact piece_at m c t _ r _

theorem err_at (t : Fin cfg0.N) (r : Fin 512) (d : Fin 1024) :
    k0_pay14 (iblk m c 0 t) (gateBlk m c t) (k0_pay10 (iblk m c 1 t)) (k0_pay11 (iblk m c 1 t) (w0 m c t))
      (k0_pay12 (iblk m c 1 t) (w1 m c t)) (w2 m c t) (w3 m c t) (iblk m c 2 t) (ix2 r d)
      = err m c (512 * t.val + r.val) d.val := by
  have hp := proj_at m c t r d
  unfold projBlk at hp
  pointwise [k0_pay14]
  rw [hp, read0, read2, gate_at]
  rfl

theorem dy_at (t : Fin cfg0.N) (r : Fin 512) (d : Fin 1024) : dyBlk m c t (ix2 r d) = dy m c (512 * t.val + r.val) d.val := by
  unfold dyBlk
  pointwise [k0_pay16]
  rw [err_at]
  rfl

theorem du_at (t : Fin cfg0.N) (r : Fin 512) (d : Fin 1024) : duBlk m c t (ix2 r d) = du m c (512 * t.val + r.val) d.val := by
  have hp := proj_at m c t r d
  have hy := dy_at m c t r d
  unfold projBlk at hp
  unfold dyBlk at hy
  unfold duBlk
  pointwise [k0_pay17]
  rw [hp, hy, gate_at]
  rfl

theorem dq_at (t : Fin cfg0.N) (r : Fin 512) (d : Fin 1024) :
    dppBlk m c t (ix2 r d) = dy m c (512 * t.val + r.val) d.val * gate m c (512 * t.val + r.val) d.val := by
  have hy := dy_at m c t r d
  unfold dyBlk at hy
  unfold dppBlk
  pointwise [k0_pay18]
  rw [hy, gate_at]

theorem dh_at (t : Fin cfg0.N) (r : Fin 512) (d : Fin 1024) :
    k0_pay1 (duBlk m c t) (iblk m c 4 t) (constant S512x1024 .f32 0x00000000#32) (ix2 r d) = dh m c (512 * t.val + r.val) d.val := by
  pointwise [k0_pay1]
  simp only [du_at, read4]
  rfl

theorem dx_at (t : Fin cfg0.N) (r : Fin 512) (d : Fin 1024) : dxBlk m c t (ix2 r d) = dx m c (512 * t.val + r.val) d.val := by
  unfold dxBlk
  pointwise [k0_pay2]
  simp only [xn_at, rms_at, dy_at, dh_at, read3]
  rfl

theorem loss_point (t : Fin cfg0.N) (acc : Vec Ideal S8x128 .f32) (r : Fin 8) (l : Fin 128) :
    lossBlk m c t acc (ix2 r l) = acc (ix2 r l) + lossPart m c t.val := by
  unfold lossBlk
  pointwise [k0_pay15]
  simp only [err_at]
  rfl

theorem dg_point (t : Fin cfg0.N) (acc : Vec Ideal S8x1024 .f32) (r : Fin 8) (d : Fin 1024) :
    dgBlk m c t acc (ix2 r d) = acc (ix2 r d) + dgPart m c t.val d.val := by
  unfold dgBlk
  pointwise [k0_pay3]
  simp only [dh_at, xn_at]
  rfl

theorem arr_dx : (dats m 0 c).arrAt 6 cfg0.N = DX m c := by
  refine (dats m 0 c).arrAt_eq_of_covers 6 _ (by decide +kernel) fun t hf y => ?_
  blk_simp
  rw [after0_6, outs_dx m c t]
  obtain ⟨r, d, rfl⟩ : ∃ (r : Fin 512) (d : Fin 1024), y = ix2 r d := ⟨_, _, eq_ix2 y⟩
  have h0 : (((win0_6.blk t).view.emb (ix2 r d) : S8192x1024.Idx) 0).val = 512 * t.val + r.val := by
    blk_simp [idx6 t]
    omega
  have h1 : (((win0_6.blk t).view.emb (ix2 r d) : S8192x1024.Idx) 1).val = d.val := by
    blk_simp [idx6 t]
  unfold DX
  rw [h0, h1]
  exact dx_at m c t r d

theorem arr_h : (dats m 0 c).arrAt 7 cfg0.N = H m c := by
  refine (dats m 0 c).arrAt_eq_of_covers 7 _ (by decide +kernel) fun t hf y => ?_
  blk_simp
  rw [after0_7, outs_h m c t]
  obtain ⟨r, d, rfl⟩ : ∃ (r : Fin 512) (d : Fin 1024), y = ix2 r d := ⟨_, _, eq_ix2 y⟩
  have h0 : (((win0_7.blk t).view.emb (ix2 r d) : S8192x1024.Idx) 0).val = 512 * t.val + r.val := by
    blk_simp [idx7 t]
    omega
  have h1 : (((win0_7.blk t).view.emb (ix2 r d) : S8192x1024.Idx) 1).val = d.val := by
    blk_simp [idx7 t]
  unfold H
  rw [h0, h1]
  exact h_at m c t r d

theorem arr_du : (dats m 0 c).arrAt 8 cfg0.N = DU m c := by
  refine (dats m 0 c).arrAt_eq_of_covers 8 _ (by decide +kernel) fun t hf y => ?_
  blk_simp
  rw [after0_8, outs_du m c t]
  obtain ⟨r, d, rfl⟩ : ∃ (r : Fin 512) (d : Fin 1024), y = ix2 r d := ⟨_, _, eq_ix2 y⟩
  have h0 : (((win0_8.blk t).view.emb (ix2 r d) : S8192x1024.Idx) 0).val = 512 * t.val + r.val := by
    blk_simp [idx8 t]
    omega
  have h1 : (((win0_8.blk t).view.emb (ix2 r d) : S8192x1024.Idx) 1).val = d.val := by
    blk_simp [idx8 t]
  unfold DU
  rw [h0, h1]
  exact du_at m c t r d

theorem arr_dq : (dats m 0 c).arrAt 9 cfg0.N = DQ m c := by
  refine (dats m 0 c).arrAt_eq_of_covers 9 _ (by decide +kernel) fun t hf y => ?_
  blk_simp
  rw [after0_9, outs_dpp m c t]
  obtain ⟨r, d, rfl⟩ : ∃ (r : Fin 512) (d : Fin 1024), y = ix2 r d := ⟨_, _, eq_ix2 y⟩
  have h0 : (((win0_9.blk t).view.emb (ix2 r d) : S8192x1024.Idx) 0).val = 512 * t.val + r.val := by
    blk_simp [idx9 t]
    omega
  have h1 : (((win0_9.blk t).view.emb (ix2 r d) : S8192x1024.Idx) 1).val = d.val := by
    blk_simp [idx9 t]
  unfold DQ
  rw [h0, h1]
  exact dq_at m c t r d

theorem loss_last (t : Fin cfg0.N) (hf : t.val % 16 = 15) (y : S8x128.Idx) :
    (outsAt0 m c t.val t.isLt).2.2.2.2.1 y = LOSS m c y := by
  have key := Pipeline.eq_sum_fin_of_reset_step_apply_of_flush (fun n h => (outsAt0 m c n h).2.2.2.2.1) 16 (fun _ => (0 : EReal))
    (fun t _ => lossPart m c t.val)
    (fun t h0 j => by
      obtain ⟨r, l, rfl⟩ : ∃ (r : Fin 8) (l : Fin 128), j = ix2 r l := ⟨_, _, eq_ix2 j⟩
      rw [outs_loss_first m c t h0, loss_point]
      pointwise [k0_pay4])
    (fun t h0 j => by
      obtain ⟨r, l, rfl⟩ : ∃ (r : Fin 8) (l : Fin 128), j = ix2 r l := ⟨_, _, eq_ix2 j⟩
      rw [outs_loss_next m c t h0, loss_point]) t hf y
  refine key.trans ?_
  have hl := lt16 t
  unfold LOSS
  rw [zero_add]
  refine Finset.sum_congr rfl fun s _ => ?_
  show lossPart m c (16 * (t.val / 16) + s.val) = _
  rw [show 16 * (t.val / 16) + s.val = s.val by omega]

theorem dg_last (t : Fin cfg0.N) (hf : t.val % 16 = 15) (r : Fin 8) (d : Fin 1024) :
    (outsAt0 m c t.val t.isLt).2.2.2.2.2 (ix2 r d) = DG m c (ix2 r d) := by
  have key := Pipeline.eq_sum_fin_of_reset_step_apply_of_flush (fun n h => (outsAt0 m c n h).2.2.2.2.2) 16 (fun _ => (0 : EReal))
    (fun t j => dgPart m c t.val (j 1).val)
    (fun t h0 j => by
      obtain ⟨r, d, rfl⟩ : ∃ (r : Fin 8) (d : Fin 1024), j = ix2 r d := ⟨_, _, eq_ix2 j⟩
      rw [outs_dg_first m c t h0, dg_point]
      pointwise [k0_pay5])
    (fun t h0 j => by
      obtain ⟨r, d, rfl⟩ : ∃ (r : Fin 8) (d : Fin 1024), j = ix2 r d := ⟨_, _, eq_ix2 j⟩
      rw [outs_dg_next m c t h0, dg_point]
      rfl) t hf (ix2 r d)
  refine key.trans ?_
  have hl := lt16 t
  rw [zero_add]
  show _ = ∑ n : Fin 8192, dh m c n.val d.val * (at2 (argX m c) n.val d.val * rms m c n.val)
  refine Fin.sum_mul_add_congr fun s x hx => ?_
  show dh m c (512 * (16 * (t.val / 16) + s.val) + x.val) d.val * (at2 (argX m c) (512 * (16 * (t.val / 16) + s.val) + x.val) d.val
      * rms m c (512 * (16 * (t.val / 16) + s.val) + x.val))
    = dh m c (s.val * 512 + x.val) d.val * (at2 (argX m c) (s.val * 512 + x.val) d.val * rms m c (s.val * 512 + x.val))
  rw [show 512 * (16 * (t.val / 16) + s.val) + x.val = s.val * 512 + x.val by omega]

theorem arr_loss : (dats m 0 c).arrAt 10 cfg0.N = LOSS m c := by
  refine (dats m 0 c).arrAt_eq_of_covers 10 _ (by decide +kernel) fun t hf y => ?_
  blk_simp
  rw [after0_10]
  exact loss_last m c t ((flush0_10 t).mp hf) y

theorem arr_dg : (dats m 0 c).arrAt 11 cfg0.N = DG m c := by
  refine (dats m 0 c).arrAt_eq_of_covers 11 _ (by decide +kernel) fun t hf y => ?_
  blk_simp
  rw [after0_11]
  obtain ⟨r, d, rfl⟩ : ∃ (r : Fin 8) (d : Fin 1024), y = ix2 r d := ⟨_, _, eq_ix2 y⟩
  have h1 : (((win0_11.blk t).view.emb (ix2 r d) : S8x1024.Idx) 1).val = d.val := by
    blk_simp [idx11 t]
  refine (dg_last m c t ((flush0_11 t).mp hf) r d).trans ?_
  unfold DG
  rw [h1]
  rfl

end Cert.Kernel19Ideal.PleHead

end
-- ==== Proof.PleHeadRef.lean ====
/- The loss of the head, the gradients by the rules of differentiation through the gate, the projection and the norm, and the
   normed input, at an index. -/
module

public import proofs.«01_k».proof.Proof.PleHeadArrays
public import proofs.«01_k».proof.Proof.Reals
public import proofs.«01_k».proof.Proof.Gen.Reference20Ideal.Run
public import proofs.«01_k».proof.Proof.Gen.Reference20Ideal.Read

@[expose] public section

set_option maxRecDepth 16384

noncomputable section

namespace Cert.Reference20Ideal.PleHead

open Cert.Reference20Ideal Cert.Reference20Ideal.Gen Cert.Reference20Ideal.Read Cert.Arrays Idealize.ShloMosaic Idealize.ShloMosaic.TcCoe
  Idealize.SL.Sem

open Cert.Kernel19Ideal.PleHead

variable (m : (ℓ : Loc Cert.Kernel19Ideal.nD Cert.Kernel19Ideal.τ Cert.Kernel19Ideal.sig) → Buf (Elt Ideal) ℓ) (c : Dev Cert.Kernel19Ideal.nD)

/-- The constants of the two texts as reals. -/
theorem cTwo : Ideal.ofBits .f32 0x40000000#32 = ((2 : ℝ) : EReal) := by
  simp [Ideal.ofBits, Ideal.ieee, -EReal.coe_mul]; norm_num
theorem cMean : Ideal.ofBits .f32 0x3A800000#32 = ((1 / 1024 : ℝ) : EReal) := by
  simp [Ideal.ofBits, Ideal.ieee, -EReal.coe_mul]; norm_num
theorem cHalfMean : Ideal.ofBits .f32 0x3A000000#32 = ((1 / 2048 : ℝ) : EReal) := by
  simp [Ideal.ofBits, Ideal.ieee, -EReal.coe_mul]; norm_num

/-- The loss's derivative in an error, as the rules of differentiation write it. -/
theorem mean_grad (e : EReal) :
    Ideal.div (Ideal.ofBits .f32 0x3F000000#32) (Ideal.ofBits .f32 0x44800000#32)
      * (Ideal.ofBits .f32 0x40000000#32 * e) = e * Ideal.ofBits .f32 0x3A800000#32 := by
  rw [Cert.Reals.cHalf, Cert.Reals.c1024, cTwo, cMean, Ideal.div_coe (by norm_num), ← mul_assoc, ← EReal.coe_mul, ← EReal.coe_mul, mul_comm e]
  refine congrArg (fun z : ℝ => (z : EReal) * e) ?_
  norm_num

/-- The mean square plus the constant. -/
def ms (n : Nat) : EReal :=
  Ideal.div (∑ k : Fin 1024, at2 (argX m c) n k.val * at2 (argX m c) n k.val) (Ideal.ofBits .f32 0x44800000#32)
    + Ideal.ofBits .f32 0x358637BD#32

theorem ref_ms (n : Fin 8192) (z : Fin 1) : val_main_v8 (F := Ideal) (argX m c) (ix2 n z) = ms m c n.val := by
  pointwise [val_main_v8, val_main_v6, val_main_v7, val_main_v4, val_main_v5, val_main_v3, val_main_v2, val_main_cst, val_main_cst_0, val_main_cst_1]
  unfold ms
  simp only [at2_of_lt _ n.isLt (Fin.isLt _)]

/-- The mean square once more, for the derivative. -/
theorem ref_ms' (n : Fin 8192) (z : Fin 1) : val_main_v52 (F := Ideal) (argX m c) (ix2 n z) = ms m c n.val := by
  pointwise [val_main_v52, val_main_v51, val_main_v50, val_main_v49, val_main_v48, val_main_v47, val_main_v46, val_main_cst_13, val_main_cst_14, val_main_cst_15]
  unfold ms
  simp only [at2_of_lt _ n.isLt (Fin.isLt _)]

theorem ref_hid (n : Fin 8192) (d : Fin 1024) :
    val_main_v13 (F := Ideal) (argX m c) (argN m c) (ix2 n d) = hid m c n.val d.val := by
  pointwise [val_main_v13, val_main_v12, val_main_v11, val_main_v10, val_main_v9]
  rw [ref_ms]
  unfold hid
  rw [at2_of_lt _ n.isLt d.isLt, at2_of_lt (argN m c) Nat.zero_lt_one d.isLt]
  rfl

theorem ref_h (n : Fin 8192) (d : Fin 1024) : val_main_v83 (F := Ideal) (argX m c) (argN m c) (ix2 n d) = H m c (ix2 n d) := by
  pointwise [val_main_v83]
  rw [ref_hid]
  rfl

theorem ref_gate (n : Fin 8192) (d : Fin 1024) :
    val_main_v22 (F := Ideal) (argX m c) (argN m c) (argG m c) (ix2 n d) = gate m c n.val d.val := by
  pointwise [val_main_v22, val_main_v21, val_main_v20, val_main_v19, val_main_v18, val_main_v17, val_main_v16, val_main_v0, val_main_cst_2, val_main_cst_3]
  simp only [ref_hid]
  unfold gate
  simp only [at2_of_lt (argG m c) (Fin.isLt _) d.isLt]
  rfl

theorem ref_prod (n : Fin 8192) (s : Fin 4) (l : Fin 256) :
    val_main_v14 (F := Ideal) (argP m c) (argW m c) (ix3 n s l)
      = ∑ k : Fin 256, at2 (argP m c) n.val k.val * at3 (argW m c) s.val k.val l.val := by
  pointwise [val_main_v14, val_main_v1]
  refine Finset.sum_congr rfl fun k _ => ?_
  rw [at2_of_lt _ n.isLt k.isLt, at3_of_lt _ s.isLt k.isLt l.isLt]

theorem ref_proj (n : Fin 8192) (d : Fin 1024) :
    val_main_v15 (F := Ideal) (argP m c) (argW m c) (ix2 n d) = proj m c n.val d.val := by
  pointwise [val_main_v15]
  exact ref_prod m c n _ _

theorem ref_err (n : Fin 8192) (d : Fin 1024) :
    val_main_v28 (F := Ideal) (argX m c) (argP m c) (argT m c) (argN m c) (argG m c) (argW m c) (ix2 n d) = err m c n.val d.val := by
  pointwise [val_main_v28, val_main_v27, val_main_v26]
  rw [ref_gate, ref_proj]
  unfold err
  rw [at2_of_lt _ n.isLt d.isLt, at2_of_lt _ n.isLt d.isLt]

theorem ref_dy (n : Fin 8192) (d : Fin 1024) :
    val_main_v42 (F := Ideal) (argX m c) (argP m c) (argT m c) (argN m c) (argG m c) (argW m c) (ix2 n d) = dy m c n.val d.val := by
  pointwise [val_main_v42, val_main_v41, val_main_v40, val_main_v39, val_main_v38, val_main_v37, val_main_v31, val_main_v30, val_main_cst_5, val_main_cst_10, val_main_cst_11, val_main_cst_12]
  rw [ref_err]
  exact mean_grad _

theorem ref_du (n : Fin 8192) (d : Fin 1024) :
    val_main_v45 (F := Ideal) (argX m c) (argP m c) (argT m c) (argN m c) (argG m c) (argW m c) (ix2 n d) = du m c n.val d.val := by
  pointwise [val_main_v45, val_main_v44, val_main_v25, val_main_v24, val_main_v23, val_main_cst_4]
  rw [ref_dy, ref_gate, ref_proj]
  rfl

theorem ref_DU (n : Fin 8192) (d : Fin 1024) :
    val_main_v84 (F := Ideal) (argX m c) (argP m c) (argT m c) (argN m c) (argG m c) (argW m c) (ix2 n d) = DU m c (ix2 n d) := by
  pointwise [val_main_v84]
  rw [ref_du]
  rfl

theorem ref_dq (n : Fin 8192) (d : Fin 1024) :
    val_main_v85 (F := Ideal) (argX m c) (argP m c) (argT m c) (argN m c) (argG m c) (argW m c) (ix2 n d) = DQ m c (ix2 n d) := by
  pointwise [val_main_v85, val_main_v43]
  rw [ref_dy, ref_gate, mul_comm]
  rfl

theorem ref_dh (n : Fin 8192) (d : Fin 1024) :
    val_main_v62 (F := Ideal) (argX m c) (argP m c) (argT m c) (argN m c) (argG m c) (argW m c) (ix2 n d) = dh m c n.val d.val := by
  pointwise [val_main_v62, val_main_v0]
  simp only [ref_du]
  unfold dh
  simp only [at2_of_lt (argG m c) d.isLt (Fin.isLt _)]

theorem ref_dg (r : Fin 8) (d : Fin 1024) :
    val_main_v87 (F := Ideal) (argX m c) (argP m c) (argT m c) (argN m c) (argG m c) (argW m c) (ix2 r d) = DG m c (ix2 r d) := by
  pointwise [val_main_v87, val_main_v65, val_main_v64, val_main_v63, val_main_v58, val_main_v57, val_main_v53, val_main_cst_17]
  simp only [ref_dh, ref_ms']
  show _ = ∑ n : Fin 8192, dh m c n.val d.val * (at2 (argX m c) n.val d.val * rms m c n.val)
  refine Finset.sum_congr rfl fun n _ => ?_
  rw [mul_comm, at2_of_lt _ n.isLt d.isLt]
  rfl

/-- The gate is real whatever the product. -/
theorem gate_real (n d : Nat) : ∃ r : ℝ, gate m c n d = (r : EReal) := by
  unfold gate
  generalize (∑ k : Fin 1024, hid m c n k.val * at2 (argG m c) k.val d) = u
  induction u using EReal.rec with
  | bot => exact ⟨0, Ideal.logistic_bot⟩
  | top => exact ⟨1, Ideal.logistic_top⟩
  | coe x => exact ⟨_, Ideal.logistic_coe x⟩

/-- Real arguments make the projected embedding real. -/
theorem proj_real (hP : ∀ i, argP m c i = ((argP m c i).toReal : EReal)) (hW : ∀ i, argW m c i = ((argW m c i).toReal : EReal))
    (n : Fin 8192) (d : Fin 1024) : ∃ r : ℝ, proj m c n.val d.val = (r : EReal) := by
  have hd := d.isLt
  refine ⟨∑ k : Fin 256, (at2 (argP m c) n.val k.val).toReal * (at3 (argW m c) (d.val / 256) k.val (d.val % 256)).toReal, ?_⟩
  unfold proj
  rw [Cert.Reals.coe_sum]
  refine Finset.sum_congr rfl fun k _ => ?_
  rw [EReal.coe_mul, at2_of_lt _ n.isLt k.isLt, at3_of_lt _ (show d.val / 256 < 4 by omega) k.isLt (Nat.mod_lt _ (by omega))]
  exact congrArg₂ (· * ·) (hP _) (hW _)

/-- Real arguments make the head's error real. -/
theorem err_real (hX : ∀ i, argX m c i = ((argX m c i).toReal : EReal)) (hP : ∀ i, argP m c i = ((argP m c i).toReal : EReal))
    (hT : ∀ i, argT m c i = ((argT m c i).toReal : EReal)) (hW : ∀ i, argW m c i = ((argW m c i).toReal : EReal))
    (n : Fin 8192) (d : Fin 1024) : ∃ r : ℝ, err m c n.val d.val = (r : EReal) := by
  obtain ⟨g, hg⟩ := gate_real m c n.val d.val
  obtain ⟨p, hp⟩ := proj_real m c hP hW n d
  unfold err
  rw [hg, hp, at2_of_lt _ n.isLt d.isLt, at2_of_lt _ n.isLt d.isLt]
  refine ⟨(argX m c (ix2 n d)).toReal + g * p - (argT m c (ix2 n d)).toReal, ?_⟩
  rw [EReal.coe_sub, EReal.coe_add, EReal.coe_mul, ← hX, ← hT]

/-- Real arguments make the gradient of the normed input real. -/
theorem dh_real (hX : ∀ i, argX m c i = ((argX m c i).toReal : EReal)) (hP : ∀ i, argP m c i = ((argP m c i).toReal : EReal))
    (hT : ∀ i, argT m c i = ((argT m c i).toReal : EReal)) (hG : ∀ i, argG m c i = ((argG m c i).toReal : EReal))
    (hW : ∀ i, argW m c i = ((argW m c i).toReal : EReal))
    (n : Fin 8192) (d : Fin 1024) : ∃ r : ℝ, dh m c n.val d.val = (r : EReal) := by
  choose g hg using gate_real m c n.val
  choose p hp using proj_real m c hP hW n
  choose e he using err_real m c hX hP hT hW n
  refine ⟨∑ k : Fin 1024, e k * (1 / 1024) * p k * (g k.val * (1 - g k.val)) * (argG m c (ix2 d k)).toReal, ?_⟩
  unfold dh du dy
  rw [Cert.Reals.coe_sum]
  refine Finset.sum_congr rfl fun k _ => ?_
  rw [hg, hp, he, cMean, at2_of_lt _ d.isLt k.isLt, EReal.coe_mul, ← hG]
  refine congrArg (· * argG m c (ix2 d k)) ?_
  norm_cast

/-- Half the sum of the tokens' means is the sum, over the blocks of 512 tokens, of the sums over `2048`. -/
theorem mean_loss (q : Nat → EReal) (s : Nat → ℝ) (hq : ∀ n, n < 8192 → q n = ((s n : ℝ) : EReal)) :
    Ideal.ofBits .f32 0x3F000000#32 * ∑ n : Fin 8192, Ideal.div (q n.val) (Ideal.ofBits .f32 0x44800000#32)
      = ∑ b : Fin 16, Ideal.ofBits .f32 0x3A000000#32 * ∑ r : Fin 512, q (512 * b.val + r.val) := by
  have e1 : ∑ n : Fin 8192, Ideal.div (q n.val) (Ideal.ofBits .f32 0x44800000#32)
      = ((∑ n : Fin 8192, s n.val * (1 / 1024) : ℝ) : EReal) := by
    rw [Cert.Reals.coe_sum]
    refine Finset.sum_congr rfl fun n _ => ?_
    rw [hq _ n.isLt, Cert.Reals.c1024, Ideal.div_coe (by norm_num), EReal.coe_mul]
  have e2 : ∀ b : Fin 16, ∑ r : Fin 512, q (512 * b.val + r.val) = ((∑ r : Fin 512, s (512 * b.val + r.val) : ℝ) : EReal) := fun b => by
    rw [Cert.Reals.coe_sum]
    refine Finset.sum_congr rfl fun r _ => hq _ ?_
    have := b.isLt
    have := r.isLt
    omega
  have e3 : ∑ b : Fin 16, ∑ r : Fin 512, s (512 * b.val + r.val) = ∑ n : Fin 8192, s n.val :=
    Fin.sum_mul_add_congr fun b r hn => congrArg s (by show 512 * b.val + r.val = b.val * 512 + r.val; rw [Nat.mul_comm])
  have e4 : ∑ b : Fin 16, Ideal.ofBits .f32 0x3A000000#32 * ∑ r : Fin 512, q (512 * b.val + r.val)
      = ((∑ b : Fin 16, 1 / 2048 * ∑ r : Fin 512, s (512 * b.val + r.val) : ℝ) : EReal) := by
    rw [Cert.Reals.coe_sum]
    refine Finset.sum_congr rfl fun b _ => ?_
    rw [e2, cHalfMean, EReal.coe_mul]
  rw [e1, e4, ← Finset.mul_sum, e3, ← Finset.sum_mul, Cert.Reals.cHalf, ← EReal.coe_mul]
  refine congrArg _ ?_
  generalize ∑ n : Fin 8192, s n.val = S
  ring

theorem ref_loss (hX : ∀ i, argX m c i = ((argX m c i).toReal : EReal)) (hP : ∀ i, argP m c i = ((argP m c i).toReal : EReal))
    (hT : ∀ i, argT m c i = ((argT m c i).toReal : EReal)) (hW : ∀ i, argW m c i = ((argW m c i).toReal : EReal))
    (r : Fin 8) (l : Fin 128) :
    val_main_v86 (F := Ideal) (argX m c) (argP m c) (argT m c) (argN m c) (argG m c) (argW m c) (ix2 r l) = LOSS m c (ix2 r l) := by
  pointwise [val_main_v86, val_main_v36, val_main_v35, val_main_v34, val_main_v33, val_main_v32, val_main_v29, val_main_cst_6, val_main_cst_7, val_main_cst_8, val_main_cst_9]
  simp only [ref_err]
  refine mean_loss (fun n => ∑ k : Fin 1024, err m c n k.val * err m c n k.val)
    (fun n => ∑ k : Fin 1024, (err m c n k.val).toReal * (err m c n k.val).toReal) fun n hn => ?_
  rw [Cert.Reals.coe_sum]
  refine Finset.sum_congr rfl fun k _ => ?_
  obtain ⟨e, he⟩ := err_real m c hX hP hT hW ⟨n, hn⟩ k
  rw [he, EReal.toReal_coe, EReal.coe_mul]

theorem ref_dx (hX : ∀ i, argX m c i = ((argX m c i).toReal : EReal)) (hP : ∀ i, argP m c i = ((argP m c i).toReal : EReal))
    (hT : ∀ i, argT m c i = ((argT m c i).toReal : EReal)) (hN : ∀ i, argN m c i = ((argN m c i).toReal : EReal))
    (hG : ∀ i, argG m c i = ((argG m c i).toReal : EReal)) (hW : ∀ i, argW m c i = ((argW m c i).toReal : EReal))
    (n : Fin 8192) (d : Fin 1024) :
    val_main_v82 (F := Ideal) (argX m c) (argP m c) (argT m c) (argN m c) (argG m c) (argW m c) (ix2 n d) = DX m c (ix2 n d) := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v56, val_main_v55, val_main_v54, val_main_v53, val_main_cst_16, val_main_cst_18, val_main_cst_19, val_main_cst_20]
  simp only [ref_dh, ref_dy, ref_ms', Fin.sum_univ_one]
  choose h hh using fun k => dh_real m c hX hP hT hG hW n k
  have e := Cert.Reals.norm_grad (fun k => (argX m c (ix2 n k)).toReal) (fun k => (argN m c (ix2 0 k)).toReal) h
    (dy m c n.val d.val) d (ms m c n.val) (Ideal.rsqrt (ms m c n.val))
    (by unfold ms; simp only [at2_of_lt _ n.isLt (Fin.isLt _), ← hX]) rfl
  simp only [← hX, ← hN, ← hh] at e
  refine e.trans ?_
  show _ = dx m c n.val d.val
  unfold dx
  simp only [at2_of_lt _ n.isLt (Fin.isLt _), at2_of_lt (argN m c) Nat.zero_lt_one (Fin.isLt _)]
  have hr : rms m c n.val = Ideal.rsqrt (ms m c n.val) := rfl
  rw [hr]
  rfl

/-- The six arrays. -/
theorem eq_ref_dx (hX : ∀ i, argX m c i = ((argX m c i).toReal : EReal)) (hP : ∀ i, argP m c i = ((argP m c i).toReal : EReal))
    (hT : ∀ i, argT m c i = ((argT m c i).toReal : EReal)) (hN : ∀ i, argN m c i = ((argN m c i).toReal : EReal))
    (hG : ∀ i, argG m c i = ((argG m c i).toReal : EReal)) (hW : ∀ i, argW m c i = ((argW m c i).toReal : EReal)) :
    val_main_v82 (F := Ideal) (argX m c) (argP m c) (argT m c) (argN m c) (argG m c) (argW m c) = DX m c :=
  funext fun j => by rw [eq_ix2 j]; exact ref_dx m c hX hP hT hN hG hW _ _
theorem eq_ref_h :
    val_main_v83 (F := Ideal) (argX m c) (argN m c) = H m c :=
  funext fun j => by rw [eq_ix2 j]; exact ref_h m c _ _
theorem eq_ref_DU :
    val_main_v84 (F := Ideal) (argX m c) (argP m c) (argT m c) (argN m c) (argG m c) (argW m c) = DU m c :=
  funext fun j => by rw [eq_ix2 j]; exact ref_DU m c _ _
theorem eq_ref_dq :
    val_main_v85 (F := Ideal) (argX m c) (argP m c) (argT m c) (argN m c) (argG m c) (argW m c) = DQ m c :=
  funext fun j => by rw [eq_ix2 j]; exact ref_dq m c _ _
theorem eq_ref_loss (hX : ∀ i, argX m c i = ((argX m c i).toReal : EReal)) (hP : ∀ i, argP m c i = ((argP m c i).toReal : EReal))
    (hT : ∀ i, argT m c i = ((argT m c i).toReal : EReal)) (hW : ∀ i, argW m c i = ((argW m c i).toReal : EReal)) :
    val_main_v86 (F := Ideal) (argX m c) (argP m c) (argT m c) (argN m c) (argG m c) (argW m c) = LOSS m c :=
  funext fun j => by rw [eq_ix2 j]; exact ref_loss m c hX hP hT hW _ _
theorem eq_ref_dg :
    val_main_v87 (F := Ideal) (argX m c) (argP m c) (argT m c) (argN m c) (argG m c) (argW m c) = DG m c :=
  funext fun j => by rw [eq_ix2 j]; exact ref_dg m c _ _

end Cert.Reference20Ideal.PleHead

end
-- ==== Proof.MixPairs.lean ====
/- The projections' calls beside their references, and the feed-forward layer's weight-gradient call beside the derivative in
   the gate's weight: equal arrays over the extended reals. -/
module

public import proofs.«01_k».proof.Defs
public import proofs.«01_k».proof.Proof.GateRef
public import proofs.«01_k».proof.Proof.InWeightRef
public import proofs.«01_k».proof.Proof.InGradRef
public import proofs.«01_k».proof.Proof.OutGradRef
public import proofs.«01_k».proof.Proof.OutRef
public import proofs.«01_k».proof.Proof.OutWeightRef
public import proofs.«01_k».proof.Proof.PleGateRef
public import proofs.«01_k».proof.Proof.PleProjRef
public import proofs.«01_k».proof.Proof.InFwdRef
public import proofs.«01_k».proof.Proof.PleHeadRef
public import proofs.«01_k».proof.Proof.Gen.Kernel18
public import proofs.«01_k».proof.Proof.Gen.Pre_finite7
public import proofs.«01_k».proof.Proof.Gen.Pre_finite19
public import Idealize.ShloMosaic.Lib.Claim
public import Idealize.ShloMosaic.Adequacy
public import Idealize.ShloMosaic.Init

@[expose] public section

set_option maxRecDepth 16384

noncomputable section

namespace Cert.MixPairs

open Idealize.ShloMosaic Idealize.SL.Sem Cert.Arrays

theorem frame_r6 : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_r7 : @Cert.quiescent_Reference7Ideal Cert.Reference7Ideal.Gen.facts := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_r8 : @Cert.quiescent_Reference8Ideal Cert.Reference8Ideal.Gen.facts := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem frame_r9 : @Cert.quiescent_Reference9Ideal Cert.Reference9Ideal.Gen.facts := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_r10 : @Cert.quiescent_Reference10Ideal Cert.Reference10Ideal.Gen.facts := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_r11 : @Cert.quiescent_Reference11Ideal Cert.Reference11Ideal.Gen.facts := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_r17 : @Cert.quiescent_Reference17Ideal Cert.Reference17Ideal.Gen.facts := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_r18 : @Cert.quiescent_Reference18Ideal Cert.Reference18Ideal.Gen.facts := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_r19 : @Cert.quiescent_Reference19Ideal Cert.Reference19Ideal.Gen.facts := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The projection into the mixers runs the same text over bits and over the extended reals. -/
theorem defs_in : @Cert.Kernel18.defs Bits _ Cert.Kernel18.Gen.facts = @Cert.Kernel18Ideal.defs Bits _ Cert.Kernel18Ideal.Gen.facts := by
  refine congrArg (Pipeline.defs _) ?_
  funext p l a
  cases p with
  | tc =>
    obtain ⟨n, hn⟩ := l
    obtain rfl : n = 0 := by omega
    obtain ⟨t, s⟩ := a
    dsimp only [Cert.Kernel18.defs₀, Cert.Kernel18Ideal.defs₀, Defs.onTc]
    rfl
  | scScalar _ => rfl
  | scVector _ _ => rfl

theorem frame_in : @Cert.quiescent_Kernel18 Cert.Kernel18.Gen.facts := fun m ρ _ => by
  show θ_run (@Cert.Kernel18.defs Bits _ Cert.Kernel18.Gen.facts) _ _ _
  rw [defs_in]
  exact Cert.Kernel18Ideal.InFwd.frame (F := Bits) m ρ

open Cert.Kernel4Ideal.Weight Cert.Reference6Ideal.Gate in
/-- The feed-forward layer's weight-gradient call and the derivative of the gate's product leave equal arrays. -/
theorem gate_pair : @algebraic_Kernel4Ideal_Reference6Ideal Cert.Kernel4Ideal.Gen.facts Cert.Reference6Ideal.Gen.facts := by
  pair_intro
  · run_from Cert.Kernel4Ideal.Value.run_blocks m g
  · run_from Cert.Reference6Ideal.Value.run m' g'
    exact (Cert.Reference6Ideal.Read.val_main_v8_eq _ _).trans ((funext fun j => by rw [eq_ix3 j]; exact ref_dw m c _ _ _).trans (arr_dw m c).symm)

open Cert.Kernel6Ideal.InWeight Cert.Reference7Ideal.InWeight in
/-- The gradient of the weight of the projection into the mixers. -/
theorem in_weight_pair : @algebraic_Kernel6Ideal_Reference7Ideal Cert.Kernel6Ideal.Gen.facts Cert.Reference7Ideal.Gen.facts := by
  pair_intro
  · run_from Cert.Kernel6Ideal.Value.run_blocks m g
  · run_from Cert.Reference7Ideal.Value.run m' g'
    exact (Cert.Reference7Ideal.Read.val_main_v7_eq _ _).trans ((funext fun j => by rw [eq_ix3 j]; exact ref_dw m c _ _ _).trans (arr_dw m c).symm)

open Cert.Kernel8Ideal.OutGrad Cert.Reference9Ideal.OutGrad in
/-- The gradient through the projection out of the mixers. -/
theorem out_grad_pair : @algebraic_Kernel8Ideal_Reference9Ideal Cert.Kernel8Ideal.Gen.facts Cert.Reference9Ideal.Gen.facts := by
  pair_intro
  · run_from Cert.Kernel8Ideal.Value.run_blocks m g
  · run_from Cert.Reference9Ideal.Value.run m' g'
    exact (Cert.Reference9Ideal.Read.val_main_v3_eq _ _).trans ((funext fun j => by rw [eq_ix2 j]; exact ref_dy m c _ _ :
        Cert.Reference9Ideal.Read.val_main_v3 (F := Ideal) (argY m c) (argW m c) = DY m c).trans (arr_dy m c).symm)

open Cert.Kernel9Ideal.Out Cert.Reference10Ideal.Out in
/-- The projection out of the mixers. -/
theorem out_pair : @algebraic_Kernel9Ideal_Reference10Ideal Cert.Kernel9Ideal.Gen.facts Cert.Reference10Ideal.Gen.facts := by
  pair_intro
  · run_from Cert.Kernel9Ideal.Value.run_blocks m g
  · run_from Cert.Reference10Ideal.Value.run m' g'
    exact (Cert.Reference10Ideal.Read.val_main_v3_eq _ _ _).trans ((funext fun j => by rw [eq_ix2 j]; exact ref_x m c _ _).trans (arr_x m c).symm)

open Cert.Kernel10Ideal.OutWeight Cert.Reference11Ideal.OutWeight in
/-- The gradient of the weight of the projection out of the mixers. -/
theorem out_weight_pair : @algebraic_Kernel10Ideal_Reference11Ideal Cert.Kernel10Ideal.Gen.facts Cert.Reference11Ideal.Gen.facts := by
  pair_intro
  · run_from Cert.Kernel10Ideal.Value.run_blocks m g
  · run_from Cert.Reference11Ideal.Value.run m' g'
    exact (Cert.Reference11Ideal.Read.val_main_v5_eq _ _).trans ((funext fun j => by rw [eq_ix3 j]; exact ref_dw m c _ _ _).trans (arr_dw m c).symm)

open Cert.Kernel16Ideal.PleGate Cert.Reference17Ideal.PleGate in
/-- The gradient of the weight of the per-layer embedding's gate. -/
theorem ple_gate_pair : @algebraic_Kernel16Ideal_Reference17Ideal Cert.Kernel16Ideal.Gen.facts Cert.Reference17Ideal.Gen.facts := by
  pair_intro
  · run_from Cert.Kernel16Ideal.Value.run_blocks m g
  · run_from Cert.Reference17Ideal.Value.run m' g'
    exact (Cert.Reference17Ideal.Read.val_main_v6_eq _ _).trans ((funext fun j => by rw [eq_ix3 j]; exact ref_dw m c _ _ _).trans (arr_dw m c).symm)

open Cert.Kernel17Ideal.PleProj Cert.Reference18Ideal.PleProj in
/-- The gradient of the weight of the per-layer embedding's projection. -/
theorem ple_proj_pair : @algebraic_Kernel17Ideal_Reference18Ideal Cert.Kernel17Ideal.Gen.facts Cert.Reference18Ideal.Gen.facts := by
  pair_intro
  · run_from Cert.Kernel17Ideal.Value.run_blocks m g
  · run_from Cert.Reference18Ideal.Value.run m' g'
    exact (Cert.Reference18Ideal.Read.val_main_v6_eq _ _).trans ((funext fun j => by rw [eq_ix3 j]; exact ref_dw m c _ _ _).trans (arr_dw m c).symm)

open Cert.Kernel18Ideal.InFwd Cert.Reference19Ideal.InFwd in
/-- The norm and the projection into the mixers. -/
theorem in_pair : @algebraic_Kernel18Ideal_Reference19Ideal Cert.Kernel18Ideal.Gen.facts Cert.Reference19Ideal.Gen.facts := by
  pair_intro
  · run_from Cert.Kernel18Ideal.InFwd.run_blocks m g
  · run_from Cert.Reference19Ideal.Value.run m' g'
    · refine Eq.trans ?_ ((funext fun j => by rw [eq_ix2 j]; exact ref_p m c _ _ :
        Cert.Reference19Ideal.Read.val_main_v14 (F := Ideal) (argX m c) (argN m c) (argW m c) = P m c).trans (arr_p m c).symm)
      exact Cert.Reference19Ideal.Read.val_main_v14_eq _ _ _
    · refine Eq.trans ?_ ((funext fun j => by rw [eq_ix2 j]; exact ref_h m c _ _ :
        Cert.Reference19Ideal.Read.val_main_v15 (F := Ideal) (argX m c) (argN m c) = H m c).trans (arr_h m c).symm)
      exact Cert.Reference19Ideal.Read.val_main_v15_eq _ _

section
open Cert.Kernel7Ideal.InGrad

/-- What the precondition says of the four arrays it bounds. -/
theorem finite7 (m : (ℓ : Loc Cert.Kernel7Ideal.nD Cert.Kernel7Ideal.τ Cert.Kernel7Ideal.sig) → Buf (Elt Ideal) ℓ)
    (h : @Cert.Pre_Kernel7Ideal_finite7 Cert.Pre_finite7.Gen.facts m) (c : Dev Cert.Kernel7Ideal.nD) :
    (∀ i, argP m c i = ((argP m c i).toReal : EReal)) ∧ (∀ i, argW m c i = ((argW m c i).toReal : EReal))
      ∧ (∀ i, argX m c i = ((argX m c i).toReal : EReal)) ∧ ∀ i, argN m c i = ((argN m c i).toReal : EReal) := by
  have h0 := congrFun (h c) (fun a => a.elim0)
  unfold Cert.Pre_finite7.fn at h0
  dsimp only at h0
  unfold Cert.Pre_finite7.fn_part1 at h0
  obtain ⟨h1, hN⟩ := IntOp.andi_eq_one.1 h0
  obtain ⟨h2, hX⟩ := IntOp.andi_eq_one.1 h1
  obtain ⟨hP, hW⟩ := IntOp.andi_eq_one.1 h2
  exact ⟨Cert.Reals.real_of_all _ _ _ _ _ _ hP, Cert.Reals.real_of_all _ _ _ _ _ _ hW, Cert.Reals.real_of_all _ _ _ _ _ _ hX,
    Cert.Reals.real_of_all _ _ _ _ _ _ hN⟩

open Cert.Reference8Ideal.InGrad in
/-- The gradient through the projection into the mixers and its norm. -/
theorem in_grad_pair : @algebraic_Kernel7Ideal_Reference8Ideal_pre_finite7 Cert.Kernel7Ideal.Gen.facts Cert.Reference8Ideal.Gen.facts Cert.Pre_finite7.Gen.facts := by
  pair_intro
  · run_from Cert.Kernel7Ideal.Value.run_blocks m g
  · refine (θ_run _ _ _).mono (fun r h c => ⟨?_, ?_, (h c).2.2⟩) (Cert.Reference8Ideal.Value.run m' g')
    · obtain ⟨hP, hW, hX, hN⟩ := finite7 m hpre c
      obtain ⟨e0, e1, e2, e3, e4⟩ := hagree c
      refine (h c).1.trans ((Cert.Reference8Ideal.Read.val_main_v40_eq m' c).trans ?_)
      rw [e0, e1, e2, e3, e4]
      exact (funext fun j => by rw [eq_ix2 j]; exact ref_dx m c hP hW hX hN _ _ :
        Cert.Reference8Ideal.Read.val_main_v40 (F := Ideal) (argP m c) (argW m c) (argR m c) (argX m c) (argN m c) = DX m c).trans
          (arr_dx m c).symm
    · obtain ⟨e0, e1, e2, e3, e4⟩ := hagree c
      refine (h c).2.1.trans ?_
      rw [e0, e1, e3]
      refine (Cert.Reference8Ideal.Read.val_main_v41_eq _ _ _).trans ?_
      exact (funext fun j => by rw [eq_ix2 j]; exact ref_dg m c _ _ :
        Cert.Reference8Ideal.Read.val_main_v41 (F := Ideal) (argP m c) (argW m c) (argX m c) = DG m c).trans (arr_dg m c).symm
end

theorem frame_r20 : @Cert.quiescent_Reference20Ideal Cert.Reference20Ideal.Gen.facts := fun m ρ _ =>
  (θ_run Cert.Reference20Ideal.defs _ _).mono (fun r h => ⟨fun c => (h c).2.2.2.2.2.2, sem_eq_zero_of_no_sems (by decide) r.2⟩)
    (Cert.Reference20Ideal.Value.run (F := Ideal) m ρ)

section
open Cert.Kernel19Ideal.PleHead

/-- The precondition says that all six arguments are real. -/
theorem finite19 (m : (ℓ : Loc Cert.Kernel19Ideal.nD Cert.Kernel19Ideal.τ Cert.Kernel19Ideal.sig) → Buf (Elt Ideal) ℓ)
    (h : @Cert.Pre_Kernel19Ideal_finite19 Cert.Pre_finite19.Gen.facts m) (c : Dev Cert.Kernel19Ideal.nD) :
    (∀ i, argX m c i = ((argX m c i).toReal : EReal)) ∧ (∀ i, argP m c i = ((argP m c i).toReal : EReal))
      ∧ (∀ i, argT m c i = ((argT m c i).toReal : EReal)) ∧ (∀ i, argN m c i = ((argN m c i).toReal : EReal))
      ∧ (∀ i, argG m c i = ((argG m c i).toReal : EReal)) ∧ ∀ i, argW m c i = ((argW m c i).toReal : EReal) := by
  have h0 := congrFun (h c) (fun a => a.elim0)
  unfold Cert.Pre_finite19.fn at h0
  dsimp only at h0
  unfold Cert.Pre_finite19.fn_part1 at h0
  obtain ⟨h1, hW⟩ := IntOp.andi_eq_one.1 h0
  obtain ⟨h2, hG⟩ := IntOp.andi_eq_one.1 h1
  obtain ⟨h3, hN⟩ := IntOp.andi_eq_one.1 h2
  obtain ⟨h4, hT⟩ := IntOp.andi_eq_one.1 h3
  obtain ⟨hX, hP⟩ := IntOp.andi_eq_one.1 h4
  exact ⟨Cert.Reals.real_of_all _ _ _ _ _ _ hX, Cert.Reals.real_of_all _ _ _ _ _ _ hP, Cert.Reals.real_of_all _ _ _ _ _ _ hT,
    Cert.Reals.real_of_all _ _ _ _ _ _ hN, Cert.Reals.real_of_all _ _ _ _ _ _ hG, Cert.Reals.real_of_all _ _ _ _ _ _ hW⟩

open Cert.Reference20Ideal.PleHead in
/-- The loss of the head, its gradients and the normed input. -/
theorem head_pair : @algebraic_Kernel19Ideal_Reference20Ideal_pre_finite19 Cert.Kernel19Ideal.Gen.facts Cert.Reference20Ideal.Gen.facts Cert.Pre_finite19.Gen.facts := by
  pair_intro
  · run_from Cert.Kernel19Ideal.Value.run_blocks m g
  · refine (θ_run _ _ _).mono (fun r h c => ?_) (Cert.Reference20Ideal.Value.run m' g')
    obtain ⟨hX, hP, hT, hN, hG, hW⟩ := finite19 m hpre c
    obtain ⟨e0, e1, e2, e3, e4, e5⟩ := hagree c
    obtain ⟨h0, h1, h2, h3, h4, h5, hk⟩ := h c
    refine ⟨?_, ?_, ?_, ?_, ?_, ?_, hk⟩
    · refine h0.trans ((Cert.Reference20Ideal.Read.val_main_v82_eq m' c).trans ?_)
      rw [e0, e1, e2, e3, e4, e5]
      exact (eq_ref_dx m c hX hP hT hN hG hW).trans (arr_dx m c).symm
    · refine (h1.trans (Cert.Reference20Ideal.Read.val_main_v83_eq _ _)).trans ?_
      rw [e0, e3]
      exact (eq_ref_h m c).trans (arr_h m c).symm
    · refine h2.trans ((Cert.Reference20Ideal.Read.val_main_v84_eq m' c).trans ?_)
      rw [e0, e1, e2, e3, e4, e5]
      exact (eq_ref_DU m c).trans (arr_du m c).symm
    · refine (h3.trans (Cert.Reference20Ideal.Read.val_main_v85_eq _ _ _ _ _ _)).trans ?_
      rw [e0, e1, e2, e3, e4, e5]
      exact (eq_ref_dq m c).trans (arr_dq m c).symm
    · refine (h4.trans (Cert.Reference20Ideal.Read.val_main_v86_eq _ _ _ _ _ _)).trans ?_
      rw [e0, e1, e2, e3, e4, e5]
      exact (eq_ref_loss m c hX hP hT hW).trans (arr_loss m c).symm
    · refine h5.trans ((Cert.Reference20Ideal.Read.val_main_v87_eq m' c).trans ?_)
      rw [e0, e1, e2, e3, e4, e5]
      exact (eq_ref_dg m c).trans (arr_dg m c).symm
end

end Cert.MixPairs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference7Ideal
public import proofs.«01_k».proof.Proof.Gen.Reference7Ideal.Run
public import proofs.«01_k».proof.Proof.Gen.Reference7Ideal.Read
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference9Ideal
public import proofs.«01_k».proof.Proof.Gen.Reference9Ideal.Run
public import proofs.«01_k».proof.Proof.Gen.Reference9Ideal.Read
public import proofs.«01_k».proof.Proof.Gen.Reference10Ideal
public import proofs.«01_k».proof.Proof.Gen.Reference10Ideal.Run
public import proofs.«01_k».proof.Proof.Gen.Reference10Ideal.Read
public import proofs.«01_k».proof.Proof.Gen.Reference11Ideal
public import proofs.«01_k».proof.Proof.Gen.Reference11Ideal.Run
public import proofs.«01_k».proof.Proof.Gen.Reference11Ideal.Read
public import proofs.«01_k».proof.Proof.Gen.Reference12Ideal
public import proofs.«01_k».proof.Proof.Gen.Reference12Ideal.Run
public import proofs.«01_k».proof.Proof.Gen.Reference12Ideal.Read
public import proofs.«01_k».proof.Proof.Gen.Reference13Ideal
public import proofs.«01_k».proof.Proof.Gen.Reference13Ideal.Run
public import proofs.«01_k».proof.Proof.Gen.Reference13Ideal.Read
public import proofs.«01_k».proof.Proof.Gen.Reference14Ideal
public import proofs.«01_k».proof.Proof.Gen.Reference14Ideal.Run
public import proofs.«01_k».proof.Proof.Gen.Reference14Ideal.Read
public import proofs.«01_k».proof.Proof.Gen.Reference15Ideal
public import proofs.«01_k».proof.Proof.Gen.Reference15Ideal.Run
public import proofs.«01_k».proof.Proof.Gen.Reference15Ideal.Read
public import proofs.«01_k».proof.Proof.Gen.Reference16Ideal
public import proofs.«01_k».proof.Proof.Gen.Reference16Ideal.Run
public import proofs.«01_k».proof.Proof.Gen.Reference16Ideal.Read
public import proofs.«01_k».proof.Proof.Gen.Reference17Ideal
public import proofs.«01_k».proof.Proof.Gen.Reference17Ideal.Run
public import proofs.«01_k».proof.Proof.Gen.Reference17Ideal.Read
public import proofs.«01_k».proof.Proof.Gen.Reference18Ideal
public import proofs.«01_k».proof.Proof.Gen.Reference18Ideal.Run
public import proofs.«01_k».proof.Proof.Gen.Reference18Ideal.Read
public import proofs.«01_k».proof.Proof.Gen.Reference19Ideal
public import proofs.«01_k».proof.Proof.Gen.Reference19Ideal.Run
public import proofs.«01_k».proof.Proof.Gen.Reference19Ideal.Read
public import proofs.«01_k».proof.Proof.Gen.Reference20Ideal
public import proofs.«01_k».proof.Proof.Gen.Reference20Ideal.Run
public import proofs.«01_k».proof.Proof.Gen.Reference20Ideal.Read
public import proofs.«01_k».proof.Proof.Gen.Pre_finite2
public import proofs.«01_k».proof.Proof.Gen.Pre_finite3
public import proofs.«01_k».proof.Proof.Gen.Pre_finite7
public import proofs.«01_k».proof.Proof.Gen.Pre_finite19
public import proofs.«01_k».proof.Proof.ConvArrays
public import proofs.«01_k».proof.Proof.ConvRef
public import proofs.«01_k».proof.Proof.Pairs
public import proofs.«01_k».proof.Proof.Adam
public import proofs.«01_k».proof.Proof.MixPairs
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: it runs host operations only and has no counters. -/
theorem frame_ri : @Cert.quiescent_ReferenceIdeal Cert.ReferenceIdeal.Gen.facts := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

open Cert.KernelIdeal.Conv Cert.ReferenceIdeal.Conv in
/-- The call for the gradient of the short gated convolution and the derivative of the convolution leave equal arrays. -/
theorem conv_pair : @algebraic_KernelIdeal_ReferenceIdeal Cert.KernelIdeal.Gen.facts Cert.ReferenceIdeal.Gen.facts := by
  pair_intro
  · run_from Cert.KernelIdeal.Value.run_blocks m g
  · run_from Cert.ReferenceIdeal.Value.run m' g'
    · exact (Cert.ReferenceIdeal.Read.val_main_v60_eq _ _ _ _).trans ((funext fun j => by rw [eq_ix2 j]; exact ref_db _ _ _ _ _ _).trans (arr_db m c).symm)
    · exact (Cert.ReferenceIdeal.Read.val_main_v61_eq _ _ _).trans ((funext fun j => by rw [eq_ix2 j]; exact ref_dc _ _ _ _ _).trans (arr_dc m c).symm)
    · exact (Cert.ReferenceIdeal.Read.val_main_v62_eq _ _ _).trans ((funext fun j => by rw [eq_ix2 j]; exact ref_du _ _ _ _ _).trans (arr_du m c).symm)
    · exact (Cert.ReferenceIdeal.Read.val_main_v59_eq _ _).trans ((funext fun j => by rw [eq_ix2 j]; exact ref_dw _ _ _ _).trans (arr_dw m c).symm)

open Cert.Pairs Cert.MixPairs Cert.Adam in
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Reference6Ideal.Gen.facts,
  Cert.Kernel6.Gen.facts, Cert.Kernel6Ideal.Gen.facts, Cert.Reference7Ideal.Gen.facts,
  Cert.Kernel7.Gen.facts, Cert.Kernel7Ideal.Gen.facts, Cert.Reference8Ideal.Gen.facts,
  Cert.Kernel8.Gen.facts, Cert.Kernel8Ideal.Gen.facts, Cert.Reference9Ideal.Gen.facts,
  Cert.Kernel9.Gen.facts, Cert.Kernel9Ideal.Gen.facts, Cert.Reference10Ideal.Gen.facts,
  Cert.Kernel10.Gen.facts, Cert.Kernel10Ideal.Gen.facts, Cert.Reference11Ideal.Gen.facts,
  Cert.Kernel11.Gen.facts, Cert.Kernel11Ideal.Gen.facts, Cert.Reference12Ideal.Gen.facts,
  Cert.Kernel12.Gen.facts, Cert.Kernel12Ideal.Gen.facts, Cert.Reference13Ideal.Gen.facts,
  Cert.Kernel13.Gen.facts, Cert.Kernel13Ideal.Gen.facts, Cert.Reference14Ideal.Gen.facts,
  Cert.Kernel14.Gen.facts, Cert.Kernel14Ideal.Gen.facts, Cert.Reference15Ideal.Gen.facts,
  Cert.Kernel15.Gen.facts, Cert.Kernel15Ideal.Gen.facts, Cert.Reference16Ideal.Gen.facts,
  Cert.Kernel16.Gen.facts, Cert.Kernel16Ideal.Gen.facts, Cert.Reference17Ideal.Gen.facts,
  Cert.Kernel17.Gen.facts, Cert.Kernel17Ideal.Gen.facts, Cert.Reference18Ideal.Gen.facts,
  Cert.Kernel18.Gen.facts, Cert.Kernel18Ideal.Gen.facts, Cert.Reference19Ideal.Gen.facts,
  Cert.Kernel19.Gen.facts, Cert.Kernel19Ideal.Gen.facts, Cert.Reference20Ideal.Gen.facts,
  Cert.Pre_finite2.Gen.facts, Cert.Pre_finite3.Gen.facts, Cert.Pre_finite7.Gen.facts, Cert.Pre_finite19.Gen.facts,
  fun m ρ _ => Cert.Kernel.Gen.frame m ρ, fun m ρ _ => Cert.KernelIdeal.Gen.frame m ρ, frame_ri,
  frame_act, fun m ρ _ => Cert.Kernel2Ideal.Act.frame m ρ, fun m ρ _ => Cert.Kernel2Ideal.Act.frame m ρ, frame_r2, fun m ρ _ => frame_r2 m ρ trivial,
  fun m ρ _ => Cert.Kernel3.Gen.frame m ρ, fun m ρ _ => Cert.Kernel3Ideal.Gen.frame m ρ, fun m ρ _ => Cert.Kernel3Ideal.Gen.frame m ρ, frame_r3, fun m ρ _ => frame_r3 m ρ trivial,
  fun m ρ _ => Cert.Kernel4.Gen.frame m ρ, fun m ρ _ => Cert.Kernel4Ideal.Gen.frame m ρ, frame_r4,
  frame_fwd, fun m ρ _ => Cert.Kernel5Ideal.Fwd.frame m ρ, frame_r5,
  frame_r6,
  fun m ρ _ => Cert.Kernel6.Gen.frame m ρ, fun m ρ _ => Cert.Kernel6Ideal.Gen.frame m ρ, frame_r7,
  fun m ρ _ => Cert.Kernel7.Gen.frame m ρ, fun m ρ _ => Cert.Kernel7Ideal.Gen.frame m ρ, fun m ρ _ => Cert.Kernel7Ideal.Gen.frame m ρ, frame_r8, fun m ρ _ => frame_r8 m ρ trivial,
  fun m ρ _ => Cert.Kernel8.Gen.frame m ρ, fun m ρ _ => Cert.Kernel8Ideal.Gen.frame m ρ, frame_r9,
  fun m ρ _ => Cert.Kernel9.Gen.frame m ρ, fun m ρ _ => Cert.Kernel9Ideal.Gen.frame m ρ, frame_r10,
  fun m ρ _ => Cert.Kernel10.Gen.frame m ρ, fun m ρ _ => Cert.Kernel10Ideal.Gen.frame m ρ, frame_r11,
  fun m ρ _ => Cert.Kernel11.Gen.frame m ρ, fun m ρ _ => Cert.Kernel11Ideal.Gen.frame m ρ, frame_r12,
  fun m ρ _ => Cert.Kernel12.Gen.frame m ρ, fun m ρ _ => Cert.Kernel12Ideal.Gen.frame m ρ, frame_r13,
  fun m ρ _ => Cert.Kernel13.Gen.frame m ρ, fun m ρ _ => Cert.Kernel13Ideal.Gen.frame m ρ, frame_r14,
  fun m ρ _ => Cert.Kernel14.Gen.frame m ρ, fun m ρ _ => Cert.Kernel14Ideal.Gen.frame m ρ, frame_r15,
  fun m ρ _ => Cert.Kernel15.Gen.frame m ρ, fun m ρ _ => Cert.Kernel15Ideal.Gen.frame m ρ, frame_r16,
  fun m ρ _ => Cert.Kernel16.Gen.frame m ρ, fun m ρ _ => Cert.Kernel16Ideal.Gen.frame m ρ, frame_r17,
  fun m ρ _ => Cert.Kernel17.Gen.frame m ρ, fun m ρ _ => Cert.Kernel17Ideal.Gen.frame m ρ, frame_r18,
  frame_in, fun m ρ _ => Cert.Kernel18Ideal.InFwd.frame m ρ, frame_r19,
  fun m ρ _ => Cert.Kernel19.Gen.frame m ρ, fun m ρ _ => Cert.Kernel19Ideal.Gen.frame m ρ, fun m ρ _ => Cert.Kernel19Ideal.Gen.frame m ρ, frame_r20, fun m ρ _ => frame_r20 m ρ trivial,
  trivial, conv_pair, trivial, act_pair, trivial, norm_in_pair, trivial, weight_pair, trivial, fwd_pair, gate_pair, trivial, in_weight_pair, trivial, in_grad_pair, trivial, out_grad_pair,
  trivial, out_pair, trivial, out_weight_pair, trivial, pair11, trivial, pair12, trivial, pair13, trivial, pair14, trivial, pair15, trivial, ple_gate_pair, trivial, ple_proj_pair,
  trivial, in_pair, trivial, head_pair⟩

end Cert.Proof

end
